-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_qk [hPre_finite_qk : Cert.Pre_finite_qk.Facts] (m : (ℓ : Loc Cert.MlaIdeal.nD Cert.MlaIdeal.τ Cert.MlaIdeal.sig) → Buf (Elt Ideal) ℓ) : Prop :=
  ∀ c : Dev Cert.MlaIdeal.nD,
    (Cert.Pre_finite_qk.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_qk [hPre_finite_qk : Cert.Pre_finite_qk.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_qk.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_finite_gla [hPre_finite_gla : Cert.Pre_finite_gla.Facts] (m : (ℓ : Loc Cert.GlaIdeal.nD Cert.GlaIdeal.τ Cert.GlaIdeal.sig) → Buf (Elt Ideal) ℓ) : Prop :=
  ∀ c : Dev Cert.GlaIdeal.nD,
    (Cert.Pre_finite_gla.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_finite_gla [hPre_finite_gla : Cert.Pre_finite_gla.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_finite_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4))) = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_qk [hMlaIdeal : Cert.MlaIdeal.Facts] [hPre_finite_qk : Cert.Pre_finite_qk.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_qk m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_qk [hMlaRefIdeal : Cert.MlaRefIdeal.Facts] [hPre_finite_qk : Cert.Pre_finite_qk.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_qk m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8)
      ∧ r.2.mem ((c.tc : Thread Cert.In.nD Cert.In.τ).loc Cert.In.main_arg9) = m ((c.tc : Thread Cert.In.nD Cert.In.τ).loc Cert.In.main_arg9)
      ∧ r.2.mem ((c.tc : Thread Cert.In.nD Cert.In.τ).loc Cert.In.main_arg10) = m ((c.tc : Thread Cert.In.nD Cert.In.τ).loc Cert.In.main_arg10))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8)
      ∧ r.2.mem ((c.tc : Thread Cert.InIdeal.nD Cert.InIdeal.τ).loc Cert.InIdeal.main_arg9) = m ((c.tc : Thread Cert.InIdeal.nD Cert.InIdeal.τ).loc Cert.InIdeal.main_arg9)
      ∧ r.2.mem ((c.tc : Thread Cert.InIdeal.nD Cert.InIdeal.τ).loc Cert.InIdeal.main_arg10) = m ((c.tc : Thread Cert.InIdeal.nD Cert.InIdeal.τ).loc Cert.InIdeal.main_arg10))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaIdeal_pre_finite_gla [hGlaIdeal : Cert.GlaIdeal.Facts] [hPre_finite_gla : Cert.Pre_finite_gla.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_finite_gla m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_GlaRefIdeal_pre_finite_gla [hGlaRefIdeal : Cert.GlaRefIdeal.Facts] [hPre_finite_gla : Cert.Pre_finite_gla.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_finite_gla m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Mla_MlaIdeal : Prop :=
  True

def algebraic_MlaIdeal_MlaRefIdeal_pre_finite_qk [hMlaIdeal : Cert.MlaIdeal.Facts] [hMlaRefIdeal : Cert.MlaRefIdeal.Facts] [hPre_finite_qk : Cert.Pre_finite_qk.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_qk m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v28) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)) →
    ∃ (v0 : (c : Dev Cert.OutIdeal.nD) → Buf (Elt Ideal) ((c.tc : Thread Cert.OutIdeal.nD Cert.OutIdeal.τ).loc Cert.OutIdeal.main_v10)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v10) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v35) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)
      ∧ m' ((c.tc : Thread Cert.InRefIdeal.nD Cert.InRefIdeal.τ).loc Cert.InRefIdeal.main_arg9) = m ((c.tc : Thread Cert.InIdeal.nD Cert.InIdeal.τ).loc Cert.InIdeal.main_arg9)
      ∧ m' ((c.tc : Thread Cert.InRefIdeal.nD Cert.InRefIdeal.τ).loc Cert.InRefIdeal.main_arg10) = m ((c.tc : Thread Cert.InIdeal.nD Cert.InIdeal.τ).loc Cert.InIdeal.main_arg10)) →
    ∃ (v0 : (c : Dev Cert.InIdeal.nD) → Buf (Elt Ideal) ((c.tc : Thread Cert.InIdeal.nD Cert.InIdeal.τ).loc Cert.InIdeal.main_v63_0)) (v1 : (c : Dev Cert.InIdeal.nD) → Buf (Elt Ideal) ((c.tc : Thread Cert.InIdeal.nD Cert.InIdeal.τ).loc Cert.InIdeal.main_v63_1)) (v2 : (c : Dev Cert.InIdeal.nD) → Buf (Elt Ideal) ((c.tc : Thread Cert.InIdeal.nD Cert.InIdeal.τ).loc Cert.InIdeal.main_v63_2)) (v3 : (c : Dev Cert.InIdeal.nD) → Buf (Elt Ideal) ((c.tc : Thread Cert.InIdeal.nD Cert.InIdeal.τ).loc Cert.InIdeal.main_v63_3)) (v4 : (c : Dev Cert.InIdeal.nD) → Buf (Elt Ideal) ((c.tc : Thread Cert.InIdeal.nD Cert.InIdeal.τ).loc Cert.InIdeal.main_v63_4)) (v5 : (c : Dev Cert.InIdeal.nD) → Buf (Elt Ideal) ((c.tc : Thread Cert.InIdeal.nD Cert.InIdeal.τ).loc Cert.InIdeal.main_v63_5)) (v6 : (c : Dev Cert.InIdeal.nD) → Buf (Elt Ideal) ((c.tc : Thread Cert.InIdeal.nD Cert.InIdeal.τ).loc Cert.InIdeal.main_v63_6)) (v7 : (c : Dev Cert.InIdeal.nD) → Buf (Elt Ideal) ((c.tc : Thread Cert.InIdeal.nD Cert.InIdeal.τ).loc Cert.InIdeal.main_v63_7)) (v8 : (c : Dev Cert.InIdeal.nD) → Buf (Elt Ideal) ((c.tc : Thread Cert.InIdeal.nD Cert.InIdeal.τ).loc Cert.InIdeal.main_v63_8)) (v9 : (c : Dev Cert.InIdeal.nD) → Buf (Elt Ideal) ((c.tc : Thread Cert.InIdeal.nD Cert.InIdeal.τ).loc Cert.InIdeal.main_v63_9)) (v10 : (c : Dev Cert.InIdeal.nD) → Buf (Elt Ideal) ((c.tc : Thread Cert.InIdeal.nD Cert.InIdeal.τ).loc Cert.InIdeal.main_v63_10)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v63_0) = v0 c
          ∧ r.2.mem ((c.tc : Thread Cert.InIdeal.nD Cert.InIdeal.τ).loc Cert.InIdeal.main_v63_1) = v1 c
          ∧ r.2.mem ((c.tc : Thread Cert.InIdeal.nD Cert.InIdeal.τ).loc Cert.InIdeal.main_v63_2) = v2 c
          ∧ r.2.mem ((c.tc : Thread Cert.InIdeal.nD Cert.InIdeal.τ).loc Cert.InIdeal.main_v63_3) = v3 c
          ∧ r.2.mem ((c.tc : Thread Cert.InIdeal.nD Cert.InIdeal.τ).loc Cert.InIdeal.main_v63_4) = v4 c
          ∧ r.2.mem ((c.tc : Thread Cert.InIdeal.nD Cert.InIdeal.τ).loc Cert.InIdeal.main_v63_5) = v5 c
          ∧ r.2.mem ((c.tc : Thread Cert.InIdeal.nD Cert.InIdeal.τ).loc Cert.InIdeal.main_v63_6) = v6 c
          ∧ r.2.mem ((c.tc : Thread Cert.InIdeal.nD Cert.InIdeal.τ).loc Cert.InIdeal.main_v63_7) = v7 c
          ∧ r.2.mem ((c.tc : Thread Cert.InIdeal.nD Cert.InIdeal.τ).loc Cert.InIdeal.main_v63_8) = v8 c
          ∧ r.2.mem ((c.tc : Thread Cert.InIdeal.nD Cert.InIdeal.τ).loc Cert.InIdeal.main_v63_9) = v9 c
          ∧ r.2.mem ((c.tc : Thread Cert.InIdeal.nD Cert.InIdeal.τ).loc Cert.InIdeal.main_v63_10) = v10 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8)
          ∧ r.2.mem ((c.tc : Thread Cert.InIdeal.nD Cert.InIdeal.τ).loc Cert.InIdeal.main_arg9) = m ((c.tc : Thread Cert.InIdeal.nD Cert.InIdeal.τ).loc Cert.InIdeal.main_arg9)
          ∧ r.2.mem ((c.tc : Thread Cert.InIdeal.nD Cert.InIdeal.τ).loc Cert.InIdeal.main_arg10) = m ((c.tc : Thread Cert.InIdeal.nD Cert.InIdeal.τ).loc Cert.InIdeal.main_arg10))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v113) = v0 c
          ∧ r.2.mem ((c.tc : Thread Cert.InRefIdeal.nD Cert.InRefIdeal.τ).loc Cert.InRefIdeal.main_v116) = v1 c
          ∧ r.2.mem ((c.tc : Thread Cert.InRefIdeal.nD Cert.InRefIdeal.τ).loc Cert.InRefIdeal.main_v119) = v2 c
          ∧ r.2.mem ((c.tc : Thread Cert.InRefIdeal.nD Cert.InRefIdeal.τ).loc Cert.InRefIdeal.main_v122) = v3 c
          ∧ r.2.mem ((c.tc : Thread Cert.InRefIdeal.nD Cert.InRefIdeal.τ).loc Cert.InRefIdeal.main_v126) = v4 c
          ∧ r.2.mem ((c.tc : Thread Cert.InRefIdeal.nD Cert.InRefIdeal.τ).loc Cert.InRefIdeal.main_v128) = v5 c
          ∧ r.2.mem ((c.tc : Thread Cert.InRefIdeal.nD Cert.InRefIdeal.τ).loc Cert.InRefIdeal.main_v130) = v6 c
          ∧ r.2.mem ((c.tc : Thread Cert.InRefIdeal.nD Cert.InRefIdeal.τ).loc Cert.InRefIdeal.main_v131) = v7 c
          ∧ r.2.mem ((c.tc : Thread Cert.InRefIdeal.nD Cert.InRefIdeal.τ).loc Cert.InRefIdeal.main_v134) = v8 c
          ∧ r.2.mem ((c.tc : Thread Cert.InRefIdeal.nD Cert.InRefIdeal.τ).loc Cert.InRefIdeal.main_v142) = v9 c
          ∧ r.2.mem ((c.tc : Thread Cert.InRefIdeal.nD Cert.InRefIdeal.τ).loc Cert.InRefIdeal.main_v150) = v10 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9)
          ∧ r.2.mem ((c.tc : Thread Cert.InRefIdeal.nD Cert.InRefIdeal.τ).loc Cert.InRefIdeal.main_arg10) = m' ((c.tc : Thread Cert.InRefIdeal.nD Cert.InRefIdeal.τ).loc Cert.InRefIdeal.main_arg10))

def preserves_Gla_GlaIdeal : Prop :=
  True

def algebraic_GlaIdeal_GlaRefIdeal_pre_finite_gla [hGlaIdeal : Cert.GlaIdeal.Facts] [hGlaRefIdeal : Cert.GlaRefIdeal.Facts] [hPre_finite_gla : Cert.Pre_finite_gla.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_finite_gla m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v2)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v2) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v38) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v15_0)) (v1 : (c : Dev Cert.RopeIdeal.nD) → Buf (Elt Ideal) ((c.tc : Thread Cert.RopeIdeal.nD Cert.RopeIdeal.τ).loc Cert.RopeIdeal.main_v15_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v15_0) = v0 c
          ∧ r.2.mem ((c.tc : Thread Cert.RopeIdeal.nD Cert.RopeIdeal.τ).loc Cert.RopeIdeal.main_v15_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v14) = v0 c
          ∧ r.2.mem ((c.tc : Thread Cert.RopeRefIdeal.nD Cert.RopeRefIdeal.τ).loc Cert.RopeRefIdeal.main_v17) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hMla : Cert.Mla.Facts) (hMlaIdeal : Cert.MlaIdeal.Facts) (hMlaRefIdeal : Cert.MlaRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hGla : Cert.Gla.Facts) (hGlaIdeal : Cert.GlaIdeal.Facts) (hGlaRefIdeal : Cert.GlaRefIdeal.Facts) (hRope : Cert.Rope.Facts) (hRopeIdeal : Cert.RopeIdeal.Facts) (hRopeRefIdeal : Cert.RopeRefIdeal.Facts) (hPre_finite_qk : Cert.Pre_finite_qk.Facts) (hPre_finite_gla : Cert.Pre_finite_gla.Facts),
    quiescent_Mla (hMla := hMla)
    ∧ quiescent_MlaIdeal (hMlaIdeal := hMlaIdeal)
    ∧ quiescent_MlaIdeal_pre_finite_qk (hMlaIdeal := hMlaIdeal) (hPre_finite_qk := hPre_finite_qk)
    ∧ quiescent_MlaRefIdeal (hMlaRefIdeal := hMlaRefIdeal)
    ∧ quiescent_MlaRefIdeal_pre_finite_qk (hMlaRefIdeal := hMlaRefIdeal) (hPre_finite_qk := hPre_finite_qk)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ quiescent_Gla (hGla := hGla)
    ∧ quiescent_GlaIdeal (hGlaIdeal := hGlaIdeal)
    ∧ quiescent_GlaIdeal_pre_finite_gla (hGlaIdeal := hGlaIdeal) (hPre_finite_gla := hPre_finite_gla)
    ∧ quiescent_GlaRefIdeal (hGlaRefIdeal := hGlaRefIdeal)
    ∧ quiescent_GlaRefIdeal_pre_finite_gla (hGlaRefIdeal := hGlaRefIdeal) (hPre_finite_gla := hPre_finite_gla)
    ∧ quiescent_Rope (hRope := hRope)
    ∧ quiescent_RopeIdeal (hRopeIdeal := hRopeIdeal)
    ∧ quiescent_RopeRefIdeal (hRopeRefIdeal := hRopeRefIdeal)
    ∧ preserves_Mla_MlaIdeal
    ∧ algebraic_MlaIdeal_MlaRefIdeal_pre_finite_qk (hMlaIdeal := hMlaIdeal) (hMlaRefIdeal := hMlaRefIdeal) (hPre_finite_qk := hPre_finite_qk)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
    ∧ preserves_Gla_GlaIdeal
    ∧ algebraic_GlaIdeal_GlaRefIdeal_pre_finite_gla (hGlaIdeal := hGlaIdeal) (hGlaRefIdeal := hGlaRefIdeal) (hPre_finite_gla := hPre_finite_gla)
    ∧ preserves_Rope_RopeIdeal
    ∧ algebraic_RopeIdeal_RopeRefIdeal (hRopeIdeal := hRopeIdeal) (hRopeRefIdeal := hRopeRefIdeal)
-- ==== Pre_finite_gla.lean ====
abbrev S8x2048x512 : Shape := ⟨3, ![8, 2048, 512]⟩
abbrev S8x2048x1024 : Shape := ⟨3, ![8, 2048, 1024]⟩
abbrev S1x256 : Shape := ⟨2, ![1, 256]⟩
abbrev S_ : Shape := ⟨0, ![]⟩

class Facts : Prop where
  bitsLt_bf16_f32 : FTy.bits .bf16 < FTy.bits .f32
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_

variable [Facts]

def fn_part1 {F : FTy → Type} [FloatOps F] (main_v16 : IVec S_ 1) (main_v17 : FVec F S8x2048x512 .f32) : IVec S_ 1 :=
  let main_cst_4 : FVec F S_ .f32 := constant S_ .f32 0x7F800000#32
  let main_v18 : FVec F S8x2048x512 .f32 := broadcastInDim S8x2048x512 ![] bcast_S_S8x2048x512 main_cst_4
  let main_v19 : IVec S8x2048x512 1 := cmpf .olt main_v17 main_v18
  let main_c_5 : IVec S_ 1 := constantI S_ 1 1#1
  let main_v20 : IVec S_ 1 := (fun x v => Host.reduce IntOp.andi x v reducesTo_S8x2048x512_S_d0_1_2 h_S_) main_v19 main_c_5
  let main_v21 : IVec S_ 1 := andi main_v16 main_v20
  main_v21

def fn {F : FTy → Type} [FloatOps F] (main_arg0 : FVec F S8x2048x512 .bf16) (main_arg1 : FVec F S8x2048x512 .bf16) (main_arg2 : FVec F S8x2048x1024 .bf16) (main_arg3 : FVec F S8x2048x512 .f32) (main_arg4 : FVec F S1x256 .f32) : IVec S_ 1 :=
  let main_v0 : FVec F S8x2048x512 .f32 := (extf .f32 · bitsLt_bf16_f32) main_arg0
  let main_v1 : FVec F S8x2048x512 .f32 := Host.absf main_v0
  let main_cst : FVec F S_ .f32 := constant S_ .f32 0x7F800000#32
  let main_v2 : FVec F S8x2048x512 .f32 := broadcastInDim S8x2048x512 ![] bcast_S_S8x2048x512 main_cst
  let main_v3 : IVec S8x2048x512 1 := cmpf .olt main_v1 main_v2
  let main_c : IVec S_ 1 := constantI S_ 1 1#1
  let main_v4 : IVec S_ 1 := (fun x v => Host.reduce IntOp.andi x v reducesTo_S8x2048x512_S_d0_1_2 h_S_) main_v3 main_c
  let main_v5 : FVec F S8x2048x512 .f32 := (extf .f32 · bitsLt_bf16_f32) main_arg1
  let main_v6 : FVec F S8x2048x512 .f32 := Host.absf main_v5
  let main_cst_0 : FVec F S_ .f32 := constant S_ .f32 0x7F800000#32
  let main_v7 : FVec F S8x2048x512 .f32 := broadcastInDim S8x2048x512 ![] bcast_S_S8x2048x512 main_cst_0
  let main_v8 : IVec S8x2048x512 1 := cmpf .olt main_v6 main_v7
  let main_c_1 : IVec S_ 1 := constantI S_ 1 1#1
  let main_v9 : IVec S_ 1 := (fun x v => Host.reduce IntOp.andi x v reducesTo_S8x2048x512_S_d0_1_2 h_S_) main_v8 main_c_1
  let main_v10 : IVec S_ 1 := andi main_v4 main_v9
  let main_v11 : FVec F S8x2048x1024 .f32 := (extf .f32 · bitsLt_bf16_f32) main_arg2
  let main_v12 : FVec F S8x2048x1024 .f32 := Host.absf main_v11
  let main_cst_2 : FVec F S_ .f32 := constant S_ .f32 0x7F800000#32
  let main_v13 : FVec F S8x2048x1024 .f32 := broadcastInDim S8x2048x1024 ![] bcast_S_S8x2048x1024 main_cst_2
  let main_v14 : IVec S8x2048x1024 1 := cmpf .olt main_v12 main_v13
  let main_c_3 : IVec S_ 1 := constantI S_ 1 1#1
  let main_v15 : IVec S_ 1 := (fun x v => Host.reduce IntOp.andi x v reducesTo_S8x2048x1024_S_d0_1_2 h_S_) main_v14 main_c_3
  let main_v16 : IVec S_ 1 := andi main_v10 main_v15
  let main_v17 : FVec F S8x2048x512 .f32 := Host.absf main_arg3
  fn_part1 (F := F) main_v16 main_v17
-- ==== Pre_finite_qk.lean ====
abbrev S8x2048x1024 : Shape := ⟨3, ![8, 2048, 1024]⟩
abbrev S8x2048x512 : Shape := ⟨3, ![8, 2048, 512]⟩
abbrev S_ : Shape := ⟨0, ![]⟩

class Facts : Prop where
  bitsLt_bf16_f32 : FTy.bits .bf16 < FTy.bits .f32
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .bf16) (main_arg1 : FVec F S8x2048x1024 .bf16) (main_arg2 : FVec F S8x2048x512 .bf16) : IVec S_ 1 :=
  let main_v0 : FVec F S8x2048x1024 .f32 := (extf .f32 · bitsLt_bf16_f32) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  let main_v5 : FVec F S8x2048x1024 .f32 := (extf .f32 · bitsLt_bf16_f32) main_arg1
  let main_v6 : FVec F S8x2048x1024 .f32 := Host.absf main_v5
  let main_cst_0 : FVec F S_ .f32 := constant S_ .f32 0x7F800000#32
  let main_v7 : FVec F S8x2048x1024 .f32 := broadcastInDim S8x2048x1024 ![] bcast_S_S8x2048x1024 main_cst_0
  let main_v8 : IVec S8x2048x1024 1 := cmpf .olt main_v6 main_v7
  let main_c_1 : IVec S_ 1 := constantI S_ 1 1#1
  let main_v9 : IVec S_ 1 := (fun x v => Host.reduce IntOp.andi x v reducesTo_S8x2048x1024_S_d0_1_2 h_S_) main_v8 main_c_1
  let main_v10 : IVec S_ 1 := andi main_v4 main_v9
  main_v10
-- ==== Mla.lean ====
abbrev S8x2048x1024 : Shape := ⟨3, ![8, 2048, 1024]⟩
abbrev S8x2048x512 : Shape := ⟨3, ![8, 2048, 512]⟩
abbrev S1x256x256 : Shape := ⟨3, ![1, 256, 256]⟩
abbrev S1x2048x256 : Shape := ⟨3, ![1, 2048, 256]⟩
abbrev S1x2048x128 : Shape := ⟨3, ![1, 2048, 128]⟩
abbrev S1x256x128 : Shape := ⟨3, ![1, 256, 128]⟩
abbrev S256x128 : Shape := ⟨2, ![256, 128]⟩
abbrev S256x1 : Shape := ⟨2, ![256, 1]⟩
abbrev S256x256 : Shape := ⟨2, ![256, 256]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x512, .bf16⟩
  | .hbm, ⟨3, _⟩ => ⟨S8x2048x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

@[reducible] def k0_t1_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_9 : BitVec 32 := 1#32
  ⟨c0_i32, v14, c1_i32_9⟩
def k0_mult1 (i : grid0.Coords) (k0_t1 : Fin (k0_t1_loop i).trips) : BitVec 32 :=
  let c0_i32 : BitVec 32 := 0#32
  let c1_i32_9 : BitVec 32 := 1#32
  let arg7 : BitVec 32 := Scf.iv c0_i32 c1_i32_9 k0_t1
  let c256_i32_30 : BitVec 32 := 256#32
  let v86 : BitVec 32 := Scalar.muli arg7 c256_i32_30
  v86
def k0_off1 (i : grid0.Coords) (k0_t1 : Fin (k0_t1_loop i).trips) : Fin 3 → Nat :=
  let c0_31 : Index := 0#32
  let c0_i32 : BitVec 32 := 0#32
  let c1_i32_9 : BitVec 32 := 1#32
  let arg7 : BitVec 32 := Scf.iv c0_i32 c1_i32_9 k0_t1
  let c256_i32_30 : BitVec 32 := 256#32
  let v86 : BitVec 32 := Scalar.muli arg7 c256_i32_30
  let v87 : BitVec 32 := v86
  let v88 : Index := Scalar.indexCast v87
  let c0_32 : Index := 0#32
  ![0, v88.toNat, 0]
def k0_off2 (i : grid0.Coords) (k0_t1 : Fin (k0_t1_loop i).trips) : Fin 3 → Nat :=
  let c0_33 : Index := 0#32
  let c0_i32 : BitVec 32 := 0#32
  let c1_i32_9 : BitVec 32 := 1#32
  let arg7 : BitVec 32 := Scf.iv c0_i32 c1_i32_9 k0_t1
  let c256_i32_30 : BitVec 32 := 256#32
  let v86 : BitVec 32 := Scalar.muli arg7 c256_i32_30
  let v87 : BitVec 32 := v86
  let v91 : Index := Scalar.indexCast v87
  let c0_34 : Index := 0#32
  ![0, v91.toNat, 0]
def k0_off3 (i : grid0.Coords) (k0_t1 : Fin (k0_t1_loop i).trips) : Fin 3 → Nat :=
  let c0_39 : Index := 0#32
  let c0_i32 : BitVec 32 := 0#32
  let c1_i32_9 : BitVec 32 := 1#32
  let arg7 : BitVec 32 := Scf.iv c0_i32 c1_i32_9 k0_t1
  let c256_i32_30 : BitVec 32 := 256#32
  let v86 : BitVec 32 := Scalar.muli arg7 c256_i32_30
  let v87 : BitVec 32 := v86
  let v112 : Index := Scalar.indexCast v87
  let c128_40 : Index := 128#32
  ![0, v112.toNat, 128]
@[reducible] def k0_t2_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let v11 : BitVec 32 := Scalar.addi c0_i32 v10
  let c1_i32_10 : BitVec 32 := 1#32
  ⟨v14, v11, c1_i32_10⟩
def k0_mult2 (i : grid0.Coords) (k0_t2 : Fin (k0_t2_loop i).trips) : BitVec 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let c256_i32_30 : BitVec 32 := 256#32
  let v86 : BitVec 32 := Scalar.muli arg7 c256_i32_30
  v86
def k0_off4 (i : grid0.Coords) (k0_t2 : Fin (k0_t2_loop i).trips) : Fin 3 → Nat :=
  let c0_31 : Index := 0#32
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let c256_i32_30 : BitVec 32 := 256#32
  let v86 : BitVec 32 := Scalar.muli arg7 c256_i32_30
  let v87 : BitVec 32 := v86
  let v88 : Index := Scalar.indexCast v87
  let c0_32 : Index := 0#32
  ![0, v88.toNat, 0]
def k0_off5 (i : grid0.Coords) (k0_t2 : Fin (k0_t2_loop i).trips) : Fin 3 → Nat :=
  let c0_33 : Index := 0#32
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let c256_i32_30 : BitVec 32 := 256#32
  let v86 : BitVec 32 := Scalar.muli arg7 c256_i32_30
  let v87 : BitVec 32 := v86
  let v91 : Index := Scalar.indexCast v87
  let c0_34 : Index := 0#32
  ![0, v91.toNat, 0]
def k0_off6 (i : grid0.Coords) (k0_t2 : Fin (k0_t2_loop i).trips) : Fin 3 → Nat :=
  let c0_39 : Index := 0#32
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let c256_i32_30 : BitVec 32 := 256#32
  let v86 : BitVec 32 := Scalar.muli arg7 c256_i32_30
  let v87 : BitVec 32 := v86
  let v112 : Index := Scalar.indexCast v87
  let c128_40 : Index := 128#32
  ![0, v112.toNat, 128]
def k0_mult3 (i : grid0.Coords) : BitVec 32 :=
  let arg2 : BitVec 32 := BitVec.ofNat 32 (i 2).val
  let c256_i32 : BitVec 32 := 256#32
  let v17 : BitVec 32 := Scalar.muli arg2 c256_i32
  v17
def k0_off7 (i : grid0.Coords) : Fin 3 → Nat :=
  let c0_11 : Index := 0#32
  let arg2 : BitVec 32 := BitVec.ofNat 32 (i 2).val
  let c256_i32 : BitVec 32 := 256#32
  let v17 : BitVec 32 := Scalar.muli arg2 c256_i32
  let v18 : BitVec 32 := v17
  let v19 : Index := Scalar.indexCast v18
  let c0_12 : Index := 0#32
  ![0, v19.toNat, 0]
def k0_off8 (i : grid0.Coords) : Fin 3 → Nat :=
  let c0_13 : Index := 0#32
  let arg2 : BitVec 32 := BitVec.ofNat 32 (i 2).val
  let c256_i32 : BitVec 32 := 256#32
  let v17 : BitVec 32 := Scalar.muli arg2 c256_i32
  let v18 : BitVec 32 := v17
  let v22 : Index := Scalar.indexCast v18
  let c0_14 : Index := 0#32
  ![0, v22.toNat, 0]
def k0_off9 (i : grid0.Coords) : Fin 3 → Nat :=
  let c0_20 : Index := 0#32
  let arg2 : BitVec 32 := BitVec.ofNat 32 (i 2).val
  let c256_i32 : BitVec 32 := 256#32
  let v17 : BitVec 32 := Scalar.muli arg2 c256_i32
  let v18 : BitVec 32 := v17
  let v48 : Index := Scalar.indexCast v18
  let c128_21 : Index := 128#32
  ![0, v48.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaRefIdeal.lean ====
abbrev S8x2048x1024 : Shape := ⟨3, ![8, 2048, 1024]⟩
abbrev S8x2048x512 : Shape := ⟨3, ![8, 2048, 512]⟩
abbrev S8x2048x8x128 : Shape := ⟨4, ![8, 2048, 8, 128]⟩
abbrev S8x2048x8x64 : Shape := ⟨4, ![8, 2048, 8, 64]⟩
abbrev S8x8x2048x2048 : Shape := ⟨4, ![8, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x512, .bf16⟩
  | .hbm, ⟨3, _⟩ => ⟨S8x2048x1024, .f32⟩
  | .hbm, ⟨4, _⟩ => ⟨S8x2048x8x128, .f32⟩
  | .hbm, ⟨5, _⟩ => ⟨S8x2048x1024, .f32⟩
  | .hbm, ⟨6, _⟩ => ⟨S8x2048x8x128, .f32⟩
  | .hbm, ⟨7, _⟩ => ⟨S8x2048x512, .f32⟩
  | .hbm, ⟨8, _⟩ => ⟨S8x2048x8x64, .f32⟩
  | .hbm, ⟨9, _⟩ => ⟨S8x8x2048x2048, .f32⟩
  | .hbm, ⟨10, _⟩ => ⟨S2048, .i32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .f32⟩
  | .hbm, ⟨17, _⟩ => ⟨S_, .f32⟩
  | .hbm, ⟨18, _⟩ => ⟨S8x8x2048x2048, .i1⟩
  | .hbm, ⟨19, _⟩ => ⟨S8x8x2048x2048, .f32⟩
  | .hbm, ⟨20, _⟩ => ⟨S8x8x2048x2048, .f32⟩
  | .hbm, ⟨21, _⟩ => ⟨S_, .f32⟩
  | .hbm, ⟨22, _⟩ => ⟨S8x8x2048, .f32⟩
  | .hbm, ⟨23, _⟩ => ⟨S_, .f32⟩
  | .hbm, ⟨24, _⟩ => ⟨S8x8x2048, .f32⟩
  | .hbm, ⟨25, _⟩ => ⟨S8x8x2048, .f32⟩
  | .hbm, ⟨26, _⟩ => ⟨S8x8x2048x1, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S_, .f32⟩
  | .hbm, ⟨31, _⟩ => ⟨S8x8x2048, .f32⟩
  | .hbm, ⟨32, _⟩ => ⟨S8x8x2048x1, .f32⟩
  | .hbm, ⟨33, _⟩ => ⟨S8x8x2048x2048, .f32⟩
  | .hbm, ⟨34, _⟩ => ⟨S8x8x2048x2048, .f32⟩
  | .hbm, ⟨35, _⟩ => ⟨S8x8x64x2048, .f32⟩
  | .hbm, ⟨36, _⟩ => ⟨S8x2048x8x64, .f32⟩
  | .hbm, ⟨37, _⟩ => ⟨S8x2048x512, .f32⟩
  | .hbm, ⟨38, _⟩ => ⟨S8x2048x512, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Out.lean ====
abbrev S8x2048x1024 : Shape := ⟨3, ![8, 2048, 1024]⟩
abbrev S8x2048x512 : Shape := ⟨3, ![8, 2048, 512]⟩
abbrev S16384x512 : Shape := ⟨2, ![16384, 512]⟩
abbrev S16384x1024 : Shape := ⟨2, ![16384, 1024]⟩
abbrev S1x512x1024 : Shape := ⟨3, ![1, 512, 1024]⟩
abbrev S1x1024x1024 : Shape := ⟨3, ![1, 1024, 1024]⟩
abbrev S1024 : Shape := ⟨1, ![1024]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 22
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S16384x512, .bf16⟩
  | .hbm, ⟨3, _⟩ => ⟨S8x2048x1024, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S1x512x1024, .f32⟩
  | .hbm, ⟨8, _⟩ => ⟨S1x1024x1024, .f32⟩
  | .hbm, ⟨9, _⟩ => ⟨S1x1024x1024, .f32⟩
  | .hbm, ⟨10, _⟩ => ⟨S1024, .f32⟩
  | .hbm, ⟨11, _⟩ => ⟨S16384x1024, .f32⟩
  | .hbm, ⟨12, _⟩ => ⟨S16384x512, .bf16⟩
  | .hbm, ⟨13, _⟩ => ⟨S16384x1024, .bf16⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutRefIdeal.lean ====
abbrev S8x2048x1024 : Shape := ⟨3, ![8, 2048, 1024]⟩
abbrev S8x2048x512 : Shape := ⟨3, ![8, 2048, 512]⟩
abbrev S16384x512 : Shape := ⟨2, ![16384, 512]⟩
abbrev S16384x1024 : Shape := ⟨2, ![16384, 1024]⟩
abbrev S1x512x1024 : Shape := ⟨3, ![1, 512, 1024]⟩
abbrev S1x1024x1024 : Shape := ⟨3, ![1, 1024, 1024]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S16384x512, .bf16⟩
  | .hbm, ⟨3, _⟩ => ⟨S8x2048x1024, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S1x512x1024, .f32⟩
  | .hbm, ⟨8, _⟩ => ⟨S1x1024x1024, .f32⟩
  | .hbm, ⟨9, _⟩ => ⟨S1x1024x1024, .f32⟩
  | .hbm, ⟨10, _⟩ => ⟨S1024, .f32⟩
  | .hbm, ⟨11, _⟩ => ⟨S8x2048x512, .f32⟩
  | .hbm, ⟨12, _⟩ => ⟨S16384x512, .f32⟩
  | .hbm, ⟨13, _⟩ => ⟨S8x2048x512, .f32⟩
  | .hbm, ⟨14, _⟩ => ⟨S8x2048x512, .f32⟩
  | .hbm, ⟨15, _⟩ => ⟨S512x1024, .f32⟩
  | .hbm, ⟨16, _⟩ => ⟨S8x2048x1024, .f32⟩
  | .hbm, ⟨17, _⟩ => ⟨S8x2048x1024, .f32⟩
  | .hbm, ⟨18, _⟩ => ⟨S16384x1024, .f32⟩
  | .hbm, ⟨19, _⟩ => ⟨S8x2048x1024, .f32⟩
  | .hbm, ⟨20, _⟩ => ⟨S8x2048x1024, .f32⟩
  | .hbm, ⟨21, _⟩ => ⟨S1024x1024, .f32⟩
  | .hbm, ⟨22, _⟩ => ⟨S8x2048x1024, .f32⟩
  | .hbm, ⟨23, _⟩ => ⟨S16384x1024, .f32⟩
  | .hbm, ⟨24, _⟩ => ⟨S8x2048x1024, .f32⟩
  | .hbm, ⟨25, _⟩ => ⟨S8x2048x1024, .f32⟩
  | .hbm, ⟨26, _⟩ => ⟨S16384x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S1024x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== In.lean ====
abbrev S8x2048x1024 : Shape := ⟨3, ![8, 2048, 1024]⟩
abbrev S16384x32 : Shape := ⟨2, ![16384, 32]⟩
abbrev S1x1024 : Shape := ⟨2, ![1, 1024]⟩
abbrev S1x1024x6320 : Shape := ⟨3, ![1, 1024, 6320]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S1x16x512 : Shape := ⟨3, ![1, 16, 512]⟩
abbrev S1x512 : Shape := ⟨2, ![1, 512]⟩
abbrev S_ : Shape := ⟨0, ![]⟩
abbrev S16384x64 : Shape := ⟨2, ![16384, 64]⟩
abbrev S16384x128 : Shape := ⟨2, ![16384, 128]⟩
abbrev S16384x16 : Shape := ⟨2, ![16384, 16]⟩
abbrev S16384x48 : Shape := ⟨2, ![16384, 48]⟩
abbrev S16384x80 : Shape := ⟨2, ![16384, 80]⟩
abbrev S16384x1024 : Shape := ⟨2, ![16384, 1024]⟩
abbrev S1024x6320 : Shape := ⟨2, ![1024, 6320]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x1024 : Shape := ⟨2, ![1024, 1024]⟩
abbrev S1024x16 : Shape := ⟨2, ![1024, 16]⟩
abbrev S1024x64 : Shape := ⟨2, ![1024, 64]⟩
abbrev S1024x128 : Shape := ⟨2, ![1024, 128]⟩
abbrev S1024x112 : Shape := ⟨2, ![1024, 112]⟩
abbrev S1024x6528 : Shape := ⟨2, ![1024, 6528]⟩
abbrev S384x768 : Shape := ⟨2, ![384, 768]⟩
abbrev S384x8x96 : Shape := ⟨3, ![384, 8, 96]⟩
abbrev S384x8x128 : Shape := ⟨3, ![384, 8, 128]⟩
abbrev S384x1024 : Shape := ⟨2, ![384, 1024]⟩
abbrev S256x1024 : Shape := ⟨2, ![256, 1024]⟩
abbrev S256x8x128 : Shape := ⟨3, ![256, 8, 128]⟩
abbrev S256x8x64 : Shape := ⟨3, ![256, 8, 64]⟩
abbrev S256x512 : Shape := ⟨2, ![256, 512]⟩
abbrev S16x512 : Shape := ⟨2, ![16, 512]⟩
abbrev S128x512 : Shape := ⟨2, ![128, 512]⟩
abbrev S1024 : Shape := ⟨1, ![1024]⟩
abbrev S384 : Shape := ⟨1, ![384]⟩
abbrev S256 : Shape := ⟨1, ![256]⟩
abbrev S512 : Shape := ⟨1, ![512]⟩
abbrev S16384x512 : Shape := ⟨2, ![16384, 512]⟩
abbrev S256x128 : Shape := ⟨2, ![256, 128]⟩
abbrev S256x1 : Shape := ⟨2, ![256, 1]⟩
abbrev S256x384 : Shape := ⟨2, ![256, 384]⟩
abbrev S256x256 : Shape := ⟨2, ![256, 256]⟩

abbrev nBuf : Space → Nat
  | .hbm => 102
  | .vmem => 39
  | .smem => 0
  | _ => 0

abbrev bufTy : (tb : Table) → Fin (tcTables nBuf tb) → BufTy
  | .hbm, ⟨0, _⟩ => ⟨S8x2048x1024, .f32⟩
  | .hbm, ⟨1, _⟩ => ⟨S16384x32, .f32⟩
  | .hbm, ⟨2, _⟩ => ⟨S16384x32, .f32⟩
  | .hbm, ⟨3, _⟩ => ⟨S1x1024, .f32⟩
  | .hbm, ⟨4, _⟩ => ⟨S1x1024x6320, .f32⟩
  | .hbm, ⟨5, _⟩ => ⟨S1x384, .f32⟩
  | .hbm, ⟨6, _⟩ => ⟨S1x384x768, .f32⟩
  | .hbm, ⟨7, _⟩ => ⟨S1x256, .f32⟩
  | .hbm, ⟨8, _⟩ => ⟨S1x256x1024, .f32⟩
  | .hbm, ⟨9, _⟩ => ⟨S1x16x512, .f32⟩
  | .hbm, ⟨10, _⟩ => ⟨S1x512, .f32⟩
  | .hbm, ⟨11, _⟩ => ⟨S_, .f32⟩
  | .hbm, ⟨12, _⟩ => ⟨S16384x64, .f32⟩
  | .hbm, ⟨13, _⟩ => ⟨S_, .f32⟩
  | .hbm, ⟨14, _⟩ => ⟨S16384x32, .f32⟩
  | .hbm, ⟨15, _⟩ => ⟨S16384x128, .f32⟩
  | .hbm, ⟨16, _⟩ => ⟨S_, .f32⟩
  | .hbm, ⟨17, _⟩ => ⟨S16384x64, .f32⟩
  | .hbm, ⟨18, _⟩ => ⟨S16384x16, .f32⟩
  | .hbm, ⟨19, _⟩ => ⟨S16384x16, .f32⟩
  | .hbm, ⟨20, _⟩ => ⟨S_, .f32⟩
  | .hbm, ⟨21, _⟩ => ⟨S16384x48, .f32⟩
  | .hbm, ⟨22, _⟩ => ⟨S16384x128, .f32⟩
  | .hbm, ⟨23, _⟩ => ⟨S_, .f32⟩
  | .hbm, ⟨24, _⟩ => ⟨S16384x80, .f32⟩
  | .hbm, ⟨25, _⟩ => ⟨S16384x16, .f32⟩
  | .hbm, ⟨26, _⟩ => ⟨S_, .f32⟩
  | .hbm, ⟨27, _⟩ => ⟨S16384x32, .f32⟩
  | .hbm, ⟨28, _⟩ => ⟨S16384x128, .f32⟩
  | .hbm, ⟨29, _⟩ => ⟨S16384x1024, .f32⟩
  | .hbm, ⟨30, _⟩ => ⟨S1024x6320, .f32⟩
  | .hbm, ⟨31, _⟩ => ⟨S1024x384, .f32⟩
  | .hbm, ⟨32, _⟩ => ⟨S1024x256, .f32⟩
  | .hbm, ⟨33, _⟩ => ⟨S1024x32, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S1024x1024, .f32⟩
  | .hbm, ⟨38, _⟩ => ⟨S1024x16, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S1024x64, .f32⟩
  | .hbm, ⟨44, _⟩ => ⟨S_, .f32⟩
  | .hbm, ⟨45, _⟩ => ⟨S1024x32, .f32⟩
  | .hbm, ⟨46, _⟩ => ⟨S1024x128, .f32⟩
  | .hbm, ⟨47, _⟩ => ⟨S_, .f32⟩
  | .hbm, ⟨48, _⟩ => ⟨S1024x112, .f32⟩
  | .hbm, ⟨49, _⟩ => ⟨S1024x128, .f32⟩
  | .hbm, ⟨50, _⟩ => ⟨S_, .f32⟩
  | .hbm, ⟨51, _⟩ => ⟨S1024x512, .f32⟩
  | .hbm, ⟨52, _⟩ => ⟨S1024x512, .f32⟩
  | .hbm, ⟨53, _⟩ => ⟨S1024x6528, .f32⟩
  | .hbm, ⟨54, _⟩ => ⟨S1024x6528, .bf16⟩
  | .hbm, ⟨55, _⟩ => ⟨S384x768, .f32⟩
  | .hbm, ⟨56, _⟩ => ⟨S_, .f32⟩
  | .hbm, ⟨57, _⟩ => ⟨S384x768, .f32⟩
  | .hbm, ⟨58, _⟩ => ⟨S384x768, .f32⟩
  | .hbm, ⟨59, _⟩ => ⟨S384x8x96, .f32⟩
  | .hbm, ⟨60, _⟩ => ⟨S_, .i32⟩
  | .hbm, ⟨61, _⟩ => ⟨S_, .f32⟩
  | .hbm, ⟨62, _⟩ => ⟨S384x8x128, .f32⟩
  | .hbm, ⟨63, _⟩ => ⟨S384x1024, .f32⟩
  | .hbm, ⟨64, _⟩ => ⟨S384x1024, .bf16⟩
  | .hbm, ⟨65, _⟩ => ⟨S256x1024, .f32⟩
  | .hbm, ⟨66, _⟩ => ⟨S256x8x128, .f32⟩
  | .hbm, ⟨67, _⟩ => ⟨S256x8x64, .f32⟩
  | .hbm, ⟨68, _⟩ => ⟨S256x512, .f32⟩
  | .hbm, ⟨69, _⟩ => ⟨S256x8x64, .f32⟩
  | .hbm, ⟨70, _⟩ => ⟨S_, .i32⟩
  | .hbm, ⟨71, _⟩ => ⟨S_, .f32⟩
  | .hbm, ⟨72, _⟩ => ⟨S256x8x128, .f32⟩
  | .hbm, ⟨73, _⟩ => ⟨S256x1024, .f32⟩
  | .hbm, ⟨74, _⟩ => ⟨S256x1024, .bf16⟩
  | .hbm, ⟨75, _⟩ => ⟨S256x8x64, .f32⟩
  | .hbm, ⟨76, _⟩ => ⟨S256x512, .f32⟩
  | .hbm, ⟨77, _⟩ => ⟨S256x512, .bf16⟩
  | .hbm, ⟨78, _⟩ => ⟨S16x512, .f32⟩
  | .hbm, ⟨79, _⟩ => ⟨S_, .i32⟩
  | .hbm, ⟨80, _⟩ => ⟨S_, .f32⟩
  | .hbm, ⟨81, _⟩ => ⟨S128x512, .f32⟩
  | .hbm, ⟨82, _⟩ => ⟨S128x512, .bf16⟩
  | .hbm, ⟨83, _⟩ => ⟨S1024, .f32⟩
  | .hbm, ⟨84, _⟩ => ⟨S1x1024, .f32⟩
  | .hbm, ⟨85, _⟩ => ⟨S384, .f32⟩
  | .hbm, ⟨86, _⟩ => ⟨S1x384, .f32⟩
  | .hbm, ⟨87, _⟩ => ⟨S256, .f32⟩
  | .hbm, ⟨88, _⟩ => ⟨S1x256, .f32⟩
  | .hbm, ⟨89, _⟩ => ⟨S512, .f32⟩
  | .hbm, ⟨90, _⟩ => ⟨S1x512, .f32⟩
  | .hbm, ⟨91, _⟩ => ⟨S16384x1024, .bf16⟩
  | .hbm, ⟨92, _⟩ => ⟨S16384x1024, .bf16⟩
  | .hbm, ⟨93, _⟩ => ⟨S16384x512, .bf16⟩
  | .hbm, ⟨94, _⟩ => ⟨S16384x512, .bf16⟩
  | .hbm, ⟨95, _⟩ => ⟨S16384x512, .bf16⟩
  | .hbm, ⟨96, _⟩ => ⟨S16384x512, .bf16⟩
  | .hbm, ⟨97, _⟩ => ⟨S16384x1024, .bf16⟩
  | .hbm, ⟨98, _⟩ => ⟨S16384x512, .f32⟩
  | .hbm, ⟨99, _⟩ => ⟨S16384x1024, .bf16⟩
  | .hbm, ⟨100, _⟩ => ⟨S16384x1024, .bf16⟩
  | .hbm, ⟨101, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x1024, .f32⟩
  | .local _ .vmem, ⟨9, _⟩ => ⟨S1024x6528, .bf16⟩
  | .local _ .vmem, ⟨10, _⟩ => ⟨S1x384, .f32⟩
  | .local _ .vmem, ⟨11, _⟩ => ⟨S384x1024, .bf16⟩
  | .local _ .vmem, ⟨12, _⟩ => ⟨S1x256, .f32⟩
  | .local _ .vmem, ⟨13, _⟩ => ⟨S256x1024, .bf16⟩
  | .local _ .vmem, ⟨14, _⟩ => ⟨S256x512, .bf16⟩
  | .local _ .vmem, ⟨15, _⟩ => ⟨S128x512, .bf16⟩
  | .local _ .vmem, ⟨16, _⟩ => ⟨S1x512, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x1024, .bf16⟩
  | .local _ .vmem, ⟨30, _⟩ => ⟨S256x1024, .bf16⟩
  | .local _ .vmem, ⟨31, _⟩ => ⟨S256x512, .f32⟩
  | .local _ .vmem, ⟨32, _⟩ => ⟨S256x512, .f32⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c : Ref sig .tc := ⟨.hbm, 60, rfl⟩
abbrev main_call0_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_call1_v0 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_call2_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63_0 : Ref sig .tc := ⟨.hbm, 91, rfl⟩
abbrev main_v63_1 : Ref sig .tc := ⟨.hbm, 92, rfl⟩
abbrev main_v63_2 : Ref sig .tc := ⟨.hbm, 93, rfl⟩
abbrev main_v63_3 : Ref sig .tc := ⟨.hbm, 94, rfl⟩
abbrev main_v63_4 : Ref sig .tc := ⟨.hbm, 95, rfl⟩
abbrev main_v63_5 : Ref sig .tc := ⟨.hbm, 96, rfl⟩
abbrev main_v63_6 : Ref sig .tc := ⟨.hbm, 97, rfl⟩
abbrev main_v63_7 : Ref sig .tc := ⟨.hbm, 98, rfl⟩
abbrev main_v63_8 : Ref sig .tc := ⟨.hbm, 99, rfl⟩
abbrev main_v63_9 : Ref sig .tc := ⟨.hbm, 100, rfl⟩
abbrev main_v63_10 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x6528 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== InRefIdeal.lean ====
abbrev S8x2048x1024 : Shape := ⟨3, ![8, 2048, 1024]⟩
abbrev S16384x32 : Shape := ⟨2, ![16384, 32]⟩
abbrev S1x1024 : Shape := ⟨2, ![1, 1024]⟩
abbrev S1x1024x6320 : Shape := ⟨3, ![1, 1024, 6320]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S1x16x512 : Shape := ⟨3, ![1, 16, 512]⟩
abbrev S1x512 : Shape := ⟨2, ![1, 512]⟩
abbrev S8x2048x1x32 : Shape := ⟨4, ![8, 2048, 1, 32]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x6320 : Shape := ⟨2, ![1024, 6320]⟩
abbrev S8x2048x6320 : Shape := ⟨3, ![8, 2048, 6320]⟩
abbrev S8x2048x384 : Shape := ⟨3, ![8, 2048, 384]⟩
abbrev S8x2048x256 : Shape := ⟨3, ![8, 2048, 256]⟩
abbrev S8x2048x32 : Shape := ⟨3, ![8, 2048, 32]⟩
abbrev S8x2048x512 : Shape := ⟨3, ![8, 2048, 512]⟩
abbrev S8x2048x16 : Shape := ⟨3, ![8, 2048, 16]⟩
abbrev S384 : Shape := ⟨1, ![384]⟩
abbrev S1x1x384 : Shape := ⟨3, ![1, 1, 384]⟩
abbrev S384x768 : Shape := ⟨2, ![384, 768]⟩
abbrev S8x2048x768 : Shape := ⟨3, ![8, 2048, 768]⟩
abbrev S8x2048x8x96 : Shape := ⟨4, ![8, 2048, 8, 96]⟩
abbrev S8x2048x8x64 : Shape := ⟨4, ![8, 2048, 8, 64]⟩
abbrev S8x2048x8x32 : Shape := ⟨4, ![8, 2048, 8, 32]⟩
abbrev S8x2048x8x16 : Shape := ⟨4, ![8, 2048, 8, 16]⟩
abbrev S8x2048x1x16 : Shape := ⟨4, ![8, 2048, 1, 16]⟩
abbrev S256 : Shape := ⟨1, ![256]⟩
abbrev S1x1x256 : Shape := ⟨3, ![1, 1, 256]⟩
abbrev S256x1024 : Shape := ⟨2, ![256, 1024]⟩
abbrev S8x2048x8x128 : Shape := ⟨4, ![8, 2048, 8, 128]⟩
abbrev S16x512 : Shape := ⟨2, ![16, 512]⟩
abbrev S512 : Shape := ⟨1, ![512]⟩
abbrev S1x1x512 : Shape := ⟨3, ![1, 1, 512]⟩
abbrev S16384x1024 : Shape := ⟨2, ![16384, 1024]⟩
abbrev S16384x512 : Shape := ⟨2, ![16384, 512]⟩

abbrev nBuf : Space → Nat
  | .hbm => 213
  | .vmem => 0
  | .smem => 0
  | _ => 0

abbrev hbmTy0_0 (i : Nat) : BufTy := match i % 128 with
  | 0 => ⟨S8x2048x1024, .f32⟩
  | 1 => ⟨S16384x32, .f32⟩
  | 2 => ⟨S16384x32, .f32⟩
  | 3 => ⟨S1x1024, .f32⟩
  | 4 => ⟨S1x1024x6320, .f32⟩
  | 5 => ⟨S1x384, .f32⟩
  | 6 => ⟨S1x384x768, .f32⟩
  | 7 => ⟨S1x256, .f32⟩
  | 8 => ⟨S1x256x1024, .f32⟩
  | 9 => ⟨S1x16x512, .f32⟩
  | 10 => ⟨S1x512, .f32⟩
  | 11 => ⟨S8x2048x1x32, .f32⟩
  | 12 => ⟨S8x2048x1x32, .f32⟩
  | 13 => ⟨S1024, .f32⟩
  | 14 => ⟨S8x2048x1024, .f32⟩
  | 15 => ⟨S_, .f32⟩
  | 16 => ⟨S8x2048, .f32⟩
  | 17 => ⟨S8x2048x1, .f32⟩
  | 18 => ⟨S_, .f32⟩
  | 19 => ⟨S8x2048x1, .f32⟩
  | 20 => ⟨S8x2048x1, .f32⟩
  | 21 => ⟨S_, .f32⟩
  | 22 => ⟨S8x2048x1, .f32⟩
  | 23 => ⟨S8x2048x1, .f32⟩
  | 24 => ⟨S8x2048x1, .f32⟩
  | 25 => ⟨S8x2048x1024, .f32⟩
  | 26 => ⟨S8x2048x1024, .f32⟩
  | 27 => ⟨S1x1x1024, .f32⟩
  | 28 => ⟨S8x2048x1024, .f32⟩
  | 29 => ⟨S8x2048x1024, .f32⟩
  | 30 => ⟨S1024x6320, .f32⟩
  | 31 => ⟨S8x2048x6320, .f32⟩
  | 32 => ⟨S8x2048x384, .f32⟩
  | 33 => ⟨S8x2048x256, .f32⟩
  | 34 => ⟨S8x2048x32, .f32⟩
  | 35 => ⟨S8x2048x512, .f32⟩
  | 36 => ⟨S8x2048x512, .f32⟩
  | 37 => ⟨S8x2048x512, .f32⟩
  | 38 => ⟨S8x2048x1024, .f32⟩
  | 39 => ⟨S8x2048x16, .f32⟩
  | 40 => ⟨S8x2048x1024, .f32⟩
  | 41 => ⟨S8x2048x1024, .f32⟩
  | 42 => ⟨S8x2048x1024, .f32⟩
  | 43 => ⟨S384, .f32⟩
  | 44 => ⟨S8x2048x384, .f32⟩
  | 45 => ⟨S_, .f32⟩
  | 46 => ⟨S8x2048, .f32⟩
  | 47 => ⟨S8x2048x1, .f32⟩
  | 48 => ⟨S_, .f32⟩
  | 49 => ⟨S8x2048x1, .f32⟩
  | 50 => ⟨S8x2048x1, .f32⟩
  | 51 => ⟨S_, .f32⟩
  | 52 => ⟨S8x2048x1, .f32⟩
  | 53 => ⟨S8x2048x1, .f32⟩
  | 54 => ⟨S8x2048x1, .f32⟩
  | 55 => ⟨S8x2048x384, .f32⟩
  | 56 => ⟨S8x2048x384, .f32⟩
  | 57 => ⟨S1x1x384, .f32⟩
  | 58 => ⟨S8x2048x384, .f32⟩
  | 59 => ⟨S8x2048x384, .f32⟩
  | 60 => ⟨S384x768, .f32⟩
  | 61 => ⟨S8x2048x768, .f32⟩
  | 62 => ⟨S8x2048x8x96, .f32⟩
  | 63 => ⟨S8x2048x8x64, .f32⟩
  | 64 => ⟨S8x2048x8x32, .f32⟩
  | 65 => ⟨S8x2048x8x16, .f32⟩
  | 66 => ⟨S8x2048x8x16, .f32⟩
  | 67 => ⟨S8x2048x1x16, .f32⟩
  | 68 => ⟨S8x2048x8x16, .f32⟩
  | 69 => ⟨S8x2048x8x16, .f32⟩
  | 70 => ⟨S8x2048x1x16, .f32⟩
  | 71 => ⟨S8x2048x8x16, .f32⟩
  | 72 => ⟨S8x2048x8x16, .f32⟩
  | 73 => ⟨S8x2048x8x16, .f32⟩
  | 74 => ⟨S8x2048x1x16, .f32⟩
  | 75 => ⟨S8x2048x8x16, .f32⟩
  | 76 => ⟨S8x2048x8x16, .f32⟩
  | 77 => ⟨S8x2048x1x16, .f32⟩
  | 78 => ⟨S8x2048x8x16, .f32⟩
  | 79 => ⟨S8x2048x8x16, .f32⟩
  | 80 => ⟨S8x2048x8x16, .f32⟩
  | 81 => ⟨S8x2048x8x32, .f32⟩
  | 82 => ⟨S8x2048x8x96, .f32⟩
  | 83 => ⟨S_, .f32⟩
  | 84 => ⟨S8x2048x8x96, .f32⟩
  | 85 => ⟨S8x2048x8x96, .f32⟩
  | 86 => ⟨S256, .f32⟩
  | 87 => ⟨S8x2048x256, .f32⟩
  | 88 => ⟨S_, .f32⟩
  | 89 => ⟨S8x2048, .f32⟩
  | 90 => ⟨S8x2048x1, .f32⟩
  | 91 => ⟨S_, .f32⟩
  | 92 => ⟨S8x2048x1, .f32⟩
  | 93 => ⟨S8x2048x1, .f32⟩
  | 94 => ⟨S_, .f32⟩
  | 95 => ⟨S8x2048x1, .f32⟩
  | 96 => ⟨S8x2048x1, .f32⟩
  | 97 => ⟨S8x2048x1, .f32⟩
  | 98 => ⟨S8x2048x256, .f32⟩
  | 99 => ⟨S8x2048x256, .f32⟩
  | 100 => ⟨S1x1x256, .f32⟩
  | 101 => ⟨S8x2048x256, .f32⟩
  | 102 => ⟨S8x2048x256, .f32⟩
  | 103 => ⟨S256x1024, .f32⟩
  | 104 => ⟨S8x2048x1024, .f32⟩
  | 105 => ⟨S8x2048x8x128, .f32⟩
  | 106 => ⟨S8x2048x8x64, .f32⟩
  | 107 => ⟨S8x2048x1x32, .f32⟩
  | 108 => ⟨S8x2048x1x16, .f32⟩
  | 109 => ⟨S8x2048x1x16, .f32⟩
  | 110 => ⟨S8x2048x1x16, .f32⟩
  | 111 => ⟨S8x2048x1x16, .f32⟩
  | 112 => ⟨S8x2048x1x16, .f32⟩
  | 113 => ⟨S8x2048x1x16, .f32⟩
  | 114 => ⟨S8x2048x1x16, .f32⟩
  | 115 => ⟨S8x2048x1x16, .f32⟩
  | 116 => ⟨S8x2048x1x16, .f32⟩
  | 117 => ⟨S8x2048x1x16, .f32⟩
  | 118 => ⟨S8x2048x1x16, .f32⟩
  | 119 => ⟨S8x2048x1x16, .f32⟩
  | 120 => ⟨S8x2048x1x32, .f32⟩
  | 121 => ⟨S8x2048x8x32, .f32⟩
  | 122 => ⟨S8x2048x8x96, .f32⟩
  | 123 => ⟨S16x512, .f32⟩
  | 124 => ⟨S8x2048x512, .f32⟩
  | 125 => ⟨S512, .f32⟩
  | 126 => ⟨S1x1x512, .f32⟩
  | 127 => ⟨S8x2048x512, .f32⟩
  | _ => ⟨S8x2048x1024, .f32⟩

abbrev hbmTy0_1 (i : Nat) : BufTy := match i % 128 with
  | 0 => ⟨S8x2048x512, .f32⟩
  | 1 => ⟨S8x2048x512, .f32⟩
  | 2 => ⟨S_, .f32⟩
  | 3 => ⟨S8x2048x512, .f32⟩
  | 4 => ⟨S8x2048x512, .f32⟩
  | 5 => ⟨S8x2048x512, .f32⟩
  | 6 => ⟨S8x2048x512, .f32⟩
  | 7 => ⟨S8x2048x512, .i1⟩
  | 8 => ⟨S8x2048x512, .f32⟩
  | 9 => ⟨S8x2048x512, .f32⟩
  | 10 => ⟨S8x2048x512, .f32⟩
  | 11 => ⟨S8x2048x512, .f32⟩
  | 12 => ⟨S8x2048x512, .f32⟩
  | 13 => ⟨S8x2048x512, .f32⟩
  | 14 => ⟨S8x2048x512, .f32⟩
  | 15 => ⟨S8x2048x512, .f32⟩
  | 16 => ⟨S8x2048x512, .f32⟩
  | 17 => ⟨S_, .f32⟩
  | 18 => ⟨S8x2048x512, .f32⟩
  | 19 => ⟨S8x2048x512, .f32⟩
  | 20 => ⟨S_, .i32⟩
  | 21 => ⟨S_, .f32⟩
  | 22 => ⟨S8x2048x8x128, .f32⟩
  | 23 => ⟨S16384x1024, .f32⟩
  | 24 => ⟨S16384x1024, .bf16⟩
  | 25 => ⟨S_, .i32⟩
  | 26 => ⟨S_, .f32⟩
  | 27 => ⟨S8x2048x8x128, .f32⟩
  | 28 => ⟨S16384x1024, .f32⟩
  | 29 => ⟨S16384x1024, .bf16⟩
  | 30 => ⟨S8x2048x8x64, .f32⟩
  | 31 => ⟨S16384x512, .f32⟩
  | 32 => ⟨S16384x512, .bf16⟩
  | 33 => ⟨S8x2048x512, .f32⟩
  | 34 => ⟨S8x2048x512, .f32⟩
  | 35 => ⟨S_, .f32⟩
  | 36 => ⟨S8x2048x512, .f32⟩
  | 37 => ⟨S8x2048x512, .f32⟩
  | 38 => ⟨S_, .f32⟩
  | 39 => ⟨S8x2048x512, .f32⟩
  | 40 => ⟨S8x2048x512, .f32⟩
  | 41 => ⟨S8x2048x512, .f32⟩
  | 42 => ⟨S16384x512, .f32⟩
  | 43 => ⟨S16384x512, .bf16⟩
  | 44 => ⟨S_, .f32⟩
  | 45 => ⟨S8x2048x512, .f32⟩
  | 46 => ⟨S8x2048x512, .f32⟩
  | 47 => ⟨S16384x512, .f32⟩
  | 48 => ⟨S16384x512, .bf16⟩
  | 49 => ⟨S16384x512, .f32⟩
  | 50 => ⟨S16384x512, .bf16⟩
  | 51 => ⟨S16384x1024, .f32⟩
  | 52 => ⟨S16384x1024, .bf16⟩
  | 53 => ⟨S16384x512, .f32⟩
  | 54 => ⟨S8x2048x1024, .f32⟩
  | 55 => ⟨S8x2048x1024, .f32⟩
  | 56 => ⟨S_, .f32⟩
  | 57 => ⟨S8x2048x1024, .f32⟩
  | 58 => ⟨S8x2048x1024, .f32⟩
  | 59 => ⟨S_, .f32⟩
  | 60 => ⟨S8x2048x1024, .f32⟩
  | 61 => ⟨S8x2048x1024, .f32⟩
  | 62 => ⟨S8x2048x1024, .f32⟩
  | 63 => ⟨S16384x1024, .f32⟩
  | 64 => ⟨S16384x1024, .bf16⟩
  | 65 => ⟨S8x2048x1024, .f32⟩
  | 66 => ⟨S8x2048x1024, .f32⟩
  | 67 => ⟨S_, .f32⟩
  | 68 => ⟨S8x2048x1024, .f32⟩
  | 69 => ⟨S8x2048x1024, .f32⟩
  | 70 => ⟨S_, .f32⟩
  | 71 => ⟨S8x2048x1024, .f32⟩
  | 72 => ⟨S8x2048x1024, .f32⟩
  | 73 => ⟨S16384x1024, .f32⟩
  | 74 => ⟨S16384x1024, .bf16⟩
  | 75 => ⟨S8x2048x1024, .f32⟩
  | 76 => ⟨S8x2048x1024, .f32⟩
  | 77 => ⟨S_, .f32⟩
  | 78 => ⟨S8x2048x1024, .f32⟩
  | 79 => ⟨S8x2048x1024, .f32⟩
  | 80 => ⟨S_, .f32⟩
  | 81 => ⟨S8x2048x1024, .f32⟩
  | 82 => ⟨S8x2048x1024, .f32⟩
  | 83 => ⟨S16384x1024, .f32⟩
  | 84 => ⟨S16384x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_5 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_6 : Ref sig .tc := ⟨.hbm, 88, rfl⟩
abbrev main_v70 : Ref sig .tc := ⟨.hbm, 89, rfl⟩
abbrev main_v71 : Ref sig .tc := ⟨.hbm, 90, rfl⟩
abbrev main_cst_7 : Ref sig .tc := ⟨.hbm, 91, rfl⟩
abbrev main_v72 : Ref sig .tc := ⟨.hbm, 92, rfl⟩
abbrev main_v73 : Ref sig .tc := ⟨.hbm, 93, rfl⟩
abbrev main_cst_8 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_call0_v0 : Ref sig .tc := ⟨.hbm, 129, rfl⟩
abbrev main_call0_call0_cst : Ref sig .tc := ⟨.hbm, 130, rfl⟩
abbrev main_call0_call0_v0 : Ref sig .tc := ⟨.hbm, 131, rfl⟩
abbrev main_call0_call0_v1 : Ref sig .tc := ⟨.hbm, 132, rfl⟩
abbrev main_call0_call0_v2 : Ref sig .tc := ⟨.hbm, 133, rfl⟩
abbrev main_call0_call0_v3 : Ref sig .tc := ⟨.hbm, 134, rfl⟩
abbrev main_call0_call0_v4 : Ref sig .tc := ⟨.hbm, 135, rfl⟩
abbrev main_call0_call0_v5 : Ref sig .tc := ⟨.hbm, 136, rfl⟩
abbrev main_call0_call0_v6 : Ref sig .tc := ⟨.hbm, 137, rfl⟩
abbrev main_call0_call0_v7 : Ref sig .tc := ⟨.hbm, 138, rfl⟩
abbrev main_call0_call0_v8 : Ref sig .tc := ⟨.hbm, 139, rfl⟩
abbrev main_call0_call0_v9 : Ref sig .tc := ⟨.hbm, 140, rfl⟩
abbrev main_call0_call0_v10 : Ref sig .tc := ⟨.hbm, 141, rfl⟩
abbrev main_call0_call0_v11 : Ref sig .tc := ⟨.hbm, 142, rfl⟩
abbrev main_call0_v1 : Ref sig .tc := ⟨.hbm, 143, rfl⟩
abbrev main_v108 : Ref sig .tc := ⟨.hbm, 144, rfl⟩
abbrev main_cst_9 : Ref sig .tc := ⟨.hbm, 145, rfl⟩
abbrev main_v109 : Ref sig .tc := ⟨.hbm, 146, rfl⟩
abbrev main_v110 : Ref sig .tc := ⟨.hbm, 147, rfl⟩
abbrev main_c : Ref sig .tc := ⟨.hbm, 148, rfl⟩
abbrev main_call1_v0 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_c_10 : Ref sig .tc := ⟨.hbm, 153, rfl⟩
abbrev main_call2_v0 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_call3_v0 : Ref sig .tc := ⟨.hbm, 161, rfl⟩
abbrev main_call3_v1 : Ref sig .tc := ⟨.hbm, 162, rfl⟩
abbrev main_call3_cst : Ref sig .tc := ⟨.hbm, 163, rfl⟩
abbrev main_call3_v2 : Ref sig .tc := ⟨.hbm, 164, rfl⟩
abbrev main_call3_v3 : Ref sig .tc := ⟨.hbm, 165, rfl⟩
abbrev main_call3_cst_0 : Ref sig .tc := ⟨.hbm, 166, rfl⟩
abbrev main_call3_v4 : Ref sig .tc := ⟨.hbm, 167, rfl⟩
abbrev main_call3_v5 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_11 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_call4_v0 : Ref sig .tc := ⟨.hbm, 182, rfl⟩
abbrev main_call4_v1 : Ref sig .tc := ⟨.hbm, 183, rfl⟩
abbrev main_call4_cst : Ref sig .tc := ⟨.hbm, 184, rfl⟩
abbrev main_call4_v2 : Ref sig .tc := ⟨.hbm, 185, rfl⟩
abbrev main_call4_v3 : Ref sig .tc := ⟨.hbm, 186, rfl⟩
abbrev main_call4_cst_0 : Ref sig .tc := ⟨.hbm, 187, rfl⟩
abbrev main_call4_v4 : Ref sig .tc := ⟨.hbm, 188, rfl⟩
abbrev main_call4_v5 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_cst_12 : Ref sig .tc := ⟨.hbm, 195, rfl⟩
abbrev main_v137 : Ref sig .tc := ⟨.hbm, 196, rfl⟩
abbrev main_v138 : Ref sig .tc := ⟨.hbm, 197, rfl⟩
abbrev main_cst_13 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_cst_14 : Ref sig .tc := ⟨.hbm, 205, rfl⟩
abbrev main_v145 : Ref sig .tc := ⟨.hbm, 206, rfl⟩
abbrev main_v146 : Ref sig .tc := ⟨.hbm, 207, rfl⟩
abbrev main_cst_15 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩

abbrev nD : Nat := 1
abbrev τ : Topo := Topo.v7x

variable {F : FTy → Type} [FloatOps F]
-- ==== Gla.lean ====
abbrev S8x2048x512 : Shape := ⟨3, ![8, 2048, 512]⟩
abbrev S8x2048x1024 : Shape := ⟨3, ![8, 2048, 1024]⟩
abbrev S1x256 : Shape := ⟨2, ![1, 256]⟩
abbrev S256 : Shape := ⟨1, ![256]⟩
abbrev S1x2048x128 : Shape := ⟨3, ![1, 2048, 128]⟩
abbrev S1x2048x256 : Shape := ⟨3, ![1, 2048, 256]⟩
abbrev S256x128 : Shape := ⟨2, ![256, 128]⟩
abbrev S64x64 : Shape := ⟨2, ![64, 64]⟩
abbrev S1x64x128 : Shape := ⟨3, ![1, 64, 128]⟩
abbrev S64x128 : Shape := ⟨2, ![64, 128]⟩
abbrev S1x128 : Shape := ⟨2, ![1, 128]⟩
abbrev S1x64x256 : Shape := ⟨3, ![1, 64, 256]⟩
abbrev S64x256 : Shape := ⟨2, ![64, 256]⟩
abbrev S64 : Shape := ⟨1, ![64]⟩
abbrev S64x1 : Shape := ⟨2, ![64, 1]⟩

abbrev nBuf : Space → Nat
  | .hbm => 8
  | .vmem => 12
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .bf16⟩
  | .hbm, ⟨3, _⟩ => ⟨S8x2048x512, .f32⟩
  | .hbm, ⟨4, _⟩ => ⟨S1x256, .f32⟩
  | .hbm, ⟨5, _⟩ => ⟨S256, .f32⟩
  | .hbm, ⟨6, _⟩ => ⟨S1x256, .f32⟩
  | .hbm, ⟨7, _⟩ => ⟨S8x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x128, .f32⟩
  | .local _ .vmem, ⟨7, _⟩ => ⟨S1x2048x128, .f32⟩
  | .local _ .vmem, ⟨8, _⟩ => ⟨S1x256, .f32⟩
  | .local _ .vmem, ⟨9, _⟩ => ⟨S1x2048x256, .bf16⟩
  | .local _ .vmem, ⟨10, _⟩ => ⟨S1x2048x256, .bf16⟩
  | .local _ .vmem, ⟨11, _⟩ => ⟨S256x128, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c32_i32 : BitVec 32 := 32#32
  let v13 : BitVec 32 := Scalar.addi c0_i32 c32_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c64_i32 : BitVec 32 := 64#32
  let v14 : BitVec 32 := Scalar.muli arg9 c64_i32
  v14
def k0_off1 (k0_t1 : Fin k0_t1_loop.trips) : Fin 3 → Nat :=
  let c0_6 : Index := 0#32
  let c0_i32 : BitVec 32 := 0#32
  let c1_i32 : BitVec 32 := 1#32
  let arg9 : BitVec 32 := Scf.iv c0_i32 c1_i32 k0_t1
  let c64_i32 : BitVec 32 := 64#32
  let v14 : BitVec 32 := Scalar.muli arg9 c64_i32
  let v15 : BitVec 32 := v14
  let v16 : Index := Scalar.indexCast v15
  let c0_7 : Index := 0#32
  ![0, v16.toNat, 0]
def k0_off2 (k0_t1 : Fin k0_t1_loop.trips) : Fin 3 → Nat :=
  let c0_14 : Index := 0#32
  let c0_i32 : BitVec 32 := 0#32
  let c1_i32 : BitVec 32 := 1#32
  let arg9 : BitVec 32 := Scf.iv c0_i32 c1_i32 k0_t1
  let c64_i32 : BitVec 32 := 64#32
  let v14 : BitVec 32 := Scalar.muli arg9 c64_i32
  let v15 : BitVec 32 := v14
  let v35 : Index := Scalar.indexCast v15
  let c0_15 : Index := 0#32
  ![0, v35.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GlaRefIdeal.lean ====
abbrev S8x2048x512 : Shape := ⟨3, ![8, 2048, 512]⟩
abbrev S8x2048x1024 : Shape := ⟨3, ![8, 2048, 1024]⟩
abbrev S1x256 : Shape := ⟨2, ![1, 256]⟩
abbrev S8x2048x4x128 : Shape := ⟨4, ![8, 2048, 4, 128]⟩
abbrev S8x2048x4x256 : Shape := ⟨4, ![8, 2048, 4, 256]⟩
abbrev S_ : Shape := ⟨0, ![]⟩
abbrev S8x4x2048x2048 : Shape := ⟨4, ![8, 4, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x256x2048 : Shape := ⟨4, ![8, 4, 256, 2048]⟩
abbrev S8x2048x4 : Shape := ⟨3, ![8, 2048, 4]⟩
abbrev S8x2048x4x1 : Shape := ⟨4, ![8, 2048, 4, 1]⟩
abbrev S256 : Shape := ⟨1, ![256]⟩
abbrev S1x1x1x256 : Shape := ⟨4, ![1, 1, 1, 256]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .bf16⟩
  | .hbm, ⟨3, _⟩ => ⟨S8x2048x512, .f32⟩
  | .hbm, ⟨4, _⟩ => ⟨S1x256, .f32⟩
  | .hbm, ⟨5, _⟩ => ⟨S8x2048x512, .f32⟩
  | .hbm, ⟨6, _⟩ => ⟨S8x2048x4x128, .f32⟩
  | .hbm, ⟨7, _⟩ => ⟨S8x2048x512, .f32⟩
  | .hbm, ⟨8, _⟩ => ⟨S8x2048x4x128, .f32⟩
  | .hbm, ⟨9, _⟩ => ⟨S8x2048x1024, .f32⟩
  | .hbm, ⟨10, _⟩ => ⟨S8x2048x4x256, .f32⟩
  | .hbm, ⟨11, _⟩ => ⟨S8x2048x4x128, .f32⟩
  | .hbm, ⟨12, _⟩ => ⟨S_, .f32⟩
  | .hbm, ⟨13, _⟩ => ⟨S_, .f32⟩
  | .hbm, ⟨14, _⟩ => ⟨S8x2048x4x128, .f32⟩
  | .hbm, ⟨15, _⟩ => ⟨S8x2048x4x128, .f32⟩
  | .hbm, ⟨16, _⟩ => ⟨S8x2048x4x128, .f32⟩
  | .hbm, ⟨17, _⟩ => ⟨S8x2048x4x128, .f32⟩
  | .hbm, ⟨18, _⟩ => ⟨S8x2048x4x128, .f32⟩
  | .hbm, ⟨19, _⟩ => ⟨S8x2048x4x128, .f32⟩
  | .hbm, ⟨20, _⟩ => ⟨S8x4x2048x2048, .f32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S8x4x2048x2048, .i1⟩
  | .hbm, ⟨30, _⟩ => ⟨S8x4x2048x2048, .f32⟩
  | .hbm, ⟨31, _⟩ => ⟨S8x4x2048x2048, .f32⟩
  | .hbm, ⟨32, _⟩ => ⟨S8x4x256x2048, .f32⟩
  | .hbm, ⟨33, _⟩ => ⟨S8x2048x4x256, .f32⟩
  | .hbm, ⟨34, _⟩ => ⟨S8x2048x4x256, .f32⟩
  | .hbm, ⟨35, _⟩ => ⟨S_, .f32⟩
  | .hbm, ⟨36, _⟩ => ⟨S8x2048x4, .f32⟩
  | .hbm, ⟨37, _⟩ => ⟨S8x2048x4x1, .f32⟩
  | .hbm, ⟨38, _⟩ => ⟨S_, .f32⟩
  | .hbm, ⟨39, _⟩ => ⟨S8x2048x4x1, .f32⟩
  | .hbm, ⟨40, _⟩ => ⟨S8x2048x4x1, .f32⟩
  | .hbm, ⟨41, _⟩ => ⟨S_, .f32⟩
  | .hbm, ⟨42, _⟩ => ⟨S8x2048x4x1, .f32⟩
  | .hbm, ⟨43, _⟩ => ⟨S8x2048x4x1, .f32⟩
  | .hbm, ⟨44, _⟩ => ⟨S8x2048x4x1, .f32⟩
  | .hbm, ⟨45, _⟩ => ⟨S8x2048x4x256, .f32⟩
  | .hbm, ⟨46, _⟩ => ⟨S8x2048x4x256, .f32⟩
  | .hbm, ⟨47, _⟩ => ⟨S256, .f32⟩
  | .hbm, ⟨48, _⟩ => ⟨S1x1x1x256, .f32⟩
  | .hbm, ⟨49, _⟩ => ⟨S8x2048x4x256, .f32⟩
  | .hbm, ⟨50, _⟩ => ⟨S8x2048x4x256, .f32⟩
  | .hbm, ⟨51, _⟩ => ⟨S8x2048x1024, .f32⟩
  | .hbm, ⟨52, _⟩ => ⟨S8x2048x1024, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_call0_cst : Ref sig .tc := ⟨.hbm, 12, rfl⟩
abbrev main_call0_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Rope.lean ====
abbrev S8x2048 : Shape := ⟨2, ![8, 2048]⟩
abbrev S16 : Shape := ⟨1, ![16]⟩
abbrev S_ : Shape := ⟨0, ![]⟩
abbrev S16384x1 : Shape := ⟨2, ![16384, 1]⟩
abbrev S16384x1x32 : Shape := ⟨3, ![16384, 1, 32]⟩
abbrev S16384x32 : Shape := ⟨2, ![16384, 32]⟩
abbrev S4096x128 : Shape := ⟨2, ![4096, 128]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S512x128 : Shape := ⟨2, ![512, 128]⟩

abbrev nBuf : Space → Nat
  | .hbm => 20
  | .vmem => 7
  | .smem => 0
  | _ => 0

abbrev bufTy : (tb : Table) → Fin (tcTables nBuf tb) → BufTy
  | .hbm, ⟨0, _⟩ => ⟨S8x2048, .i32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16384x1, .i32⟩
  | .hbm, ⟨10, _⟩ => ⟨S16384x1, .f32⟩
  | .hbm, ⟨11, _⟩ => ⟨S16384x1x32, .f32⟩
  | .hbm, ⟨12, _⟩ => ⟨S16384x32, .f32⟩
  | .hbm, ⟨13, _⟩ => ⟨S4096x128, .f32⟩
  | .hbm, ⟨14, _⟩ => ⟨S1x16, .f32⟩
  | .hbm, ⟨15, _⟩ => ⟨S8x16, .f32⟩
  | .hbm, ⟨16, _⟩ => ⟨S128, .f32⟩
  | .hbm, ⟨17, _⟩ => ⟨S1x128, .f32⟩
  | .hbm, ⟨18, _⟩ => ⟨S4096x128, .f32⟩
  | .hbm, ⟨19, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15_0 : Ref sig .tc := ⟨.hbm, 18, rfl⟩
abbrev main_v15_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S8x2048 : Shape := ⟨2, ![8, 2048]⟩
abbrev S16 : Shape := ⟨1, ![16]⟩
abbrev S_ : Shape := ⟨0, ![]⟩
abbrev S8x2048x1 : Shape := ⟨3, ![8, 2048, 1]⟩
abbrev S1x1x16 : Shape := ⟨3, ![1, 1, 16]⟩
abbrev S8x2048x16 : Shape := ⟨3, ![8, 2048, 16]⟩
abbrev S8x2048x32 : Shape := ⟨3, ![8, 2048, 32]⟩
abbrev S4096x128 : Shape := ⟨2, ![4096, 128]⟩

abbrev nBuf : Space → Nat
  | .hbm => 21
  | .vmem => 0
  | .smem => 0
  | _ => 0

abbrev bufTy : (tb : Table) → Fin (tcTables nBuf tb) → BufTy
  | .hbm, ⟨0, _⟩ => ⟨S8x2048, .i32⟩
  | .hbm, ⟨1, _⟩ => ⟨S16, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S8x2048, .f32⟩
  | .hbm, ⟨10, _⟩ => ⟨S8x2048x1, .f32⟩
  | .hbm, ⟨11, _⟩ => ⟨S1x1x16, .f32⟩
  | .hbm, ⟨12, _⟩ => ⟨S8x2048x16, .f32⟩
  | .hbm, ⟨13, _⟩ => ⟨S8x2048x16, .f32⟩
  | .hbm, ⟨14, _⟩ => ⟨S8x2048x16, .f32⟩
  | .hbm, ⟨15, _⟩ => ⟨S8x2048x16, .f32⟩
  | .hbm, ⟨16, _⟩ => ⟨S8x2048x32, .f32⟩
  | .hbm, ⟨17, _⟩ => ⟨S4096x128, .f32⟩
  | .hbm, ⟨18, _⟩ => ⟨S8x2048x16, .f32⟩
  | .hbm, ⟨19, _⟩ => ⟨S8x2048x32, .f32⟩
  | .hbm, ⟨20, _⟩ => ⟨S4096x128, .f32⟩
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Proof.OnlineSoftmax.lean ====
/-
  The online softmax over the extended reals. A row of scores `s` and a column of values `v` are read a block of columns at
  a time; the carried values are the largest score so far, the sum of the exponentials against it, and the sum of the
  exponentials times the values. This file shows that one block's update keeps their meaning, and that the quotient of the
  two sums is the softmax-weighted sum of the values over every column, the masked ones included.
-/
module

public import Idealize.ShloMosaic.PureOps.Ideal.Laws

@[expose] public section

noncomputable section

namespace Cert.OnlineSoftmax

open Idealize.ShloMosaic
open scoped BigOperators

/-! ## Exponentials and sums of extended reals -/

/-- The exponential of minus infinity is zero. -/
theorem exp_bot : Ideal.exp ⊥ = 0 := rfl

/-- The exponential of a real number. -/
theorem exp_coe (r : ℝ) : Ideal.exp (r : EReal) = ((Real.exp r : ℝ) : EReal) := rfl

/-- An exponential is never negative. -/
theorem exp_nonneg (x : EReal) : 0 ≤ Ideal.exp x := by
  induction x using EReal.rec with
  | bot => rw [exp_bot]
  | top => exact le_top
  | coe r => rw [exp_coe]; exact EReal.coe_nonneg.mpr (Real.exp_pos r).le

/-- The exponential of a number below infinity is below infinity. -/
theorem exp_ne_top {x : EReal} (h : x ≠ ⊤) : Ideal.exp x ≠ ⊤ := by
  induction x using EReal.rec with
  | bot => rw [exp_bot]; exact EReal.zero_ne_top
  | top => exact absurd rfl h
  | coe r => rw [exp_coe]; exact EReal.coe_ne_top _

/-- A factor that is a nonnegative number passes into a sum of extended reals. -/
theorem mul_sum_of_nonneg {ι : Type} {c : EReal} (h0 : 0 ≤ c) (ht : c ≠ ⊤) (S : Finset ι) (f : ι → EReal) :
    c * ∑ j ∈ S, f j = ∑ j ∈ S, c * f j := by
  classical
  induction S using Finset.induction_on with
  | empty => simp
  | insert a S ha ih => rw [Finset.sum_insert ha, Finset.sum_insert ha, EReal.left_distrib_of_nonneg_of_ne_top h0 ht, ih]

/-- A sum of terms below infinity is below infinity. -/
theorem sum_ne_top {ι : Type} (S : Finset ι) (f : ι → EReal) (h : ∀ j ∈ S, f j ≠ ⊤) : ∑ j ∈ S, f j ≠ ⊤ := by
  classical
  induction S using Finset.induction_on with
  | empty => simp
  | insert a S ha ih =>
    rw [Finset.sum_insert ha]
    exact EReal.add_ne_top (h a (Finset.mem_insert_self a S)) (ih fun j hj => h j (Finset.mem_insert_of_mem hj))

/-- Moving an exponential from one bound of the scores to a larger finite one. -/
theorem exp_rebase {x m : EReal} {m' : ℝ} (hx : x ≤ m) (hm : m ≤ (m' : EReal)) :
    Ideal.exp (m - m') * Ideal.exp (x - m) = Ideal.exp (x - m') := by
  induction m using EReal.rec with
  | bot => rw [le_bot_iff.mp hx, EReal.bot_sub, EReal.bot_sub, exp_bot, zero_mul]
  | top => exact absurd (top_le_iff.mp hm) (EReal.coe_ne_top _)
  | coe m =>
    induction x using EReal.rec with
    | bot => rw [EReal.bot_sub, EReal.bot_sub, exp_bot, mul_zero]
    | top => exact absurd (top_le_iff.mp hx) (EReal.coe_ne_top _)
    | coe x =>
      rw [← EReal.coe_sub, ← EReal.coe_sub, ← EReal.coe_sub]
      show ((Real.exp (m - m') : ℝ) : EReal) * ((Real.exp (x - m) : ℝ) : EReal) = ((Real.exp (x - m') : ℝ) : EReal)
      rw [← EReal.coe_mul, ← Real.exp_add]
      congr 2; ring

/-! ## The carried values -/

/-- The largest of the first `n` scores. -/
abbrev top (s : ℕ → EReal) (n : ℕ) : EReal := (Finset.range n).sup s

/-- The first `n + w` scores' largest is the larger of the first `n`'s and the next `w`'s. -/
theorem top_add (s : ℕ → EReal) (n w : ℕ) :
    top s (n + w) = max (top s n) (Finset.univ.sup fun c : Fin w => s (n + c.val)) := by
  apply le_antisymm
  · refine Finset.sup_le fun j hj => ?_
    have hj := Finset.mem_range.mp hj
    by_cases h : j < n
    · exact le_max_of_le_left (Finset.le_sup (f := s) (Finset.mem_range.mpr h))
    · refine le_max_of_le_right ?_
      have := Finset.le_sup (f := fun c : Fin w => s (n + c.val)) (Finset.mem_univ ⟨j - n, by omega⟩)
      simpa [Nat.add_sub_cancel' (Nat.le_of_not_lt h)] using this
  · refine max_le (Finset.sup_mono (Finset.range_subset_range.mpr (by omega))) (Finset.sup_le fun c _ => ?_)
    exact Finset.le_sup (f := s) (Finset.mem_range.mpr (by have := c.isLt; omega))

/-- A sum over the first `n + w` columns is the sum over the first `n` plus the sum over the next `w`. -/
theorem sum_add (f : ℕ → EReal) (n w : ℕ) :
    ∑ j ∈ Finset.range (n + w), f j = ∑ j ∈ Finset.range n, f j + ∑ c : Fin w, f (n + c.val) := by
  rw [Finset.sum_range_add, Finset.sum_range (fun x => f (n + x))]

/-- The carried values after `n` columns: the largest score, the sum of the exponentials against it, and the sum of the
    exponentials times the values. -/
structure Carried (s v : ℕ → EReal) (n : ℕ) (m l a : EReal) : Prop where
  hm : m = top s n
  hl : l = ∑ j ∈ Finset.range n, Ideal.exp (s j - m)
  ha : a = ∑ j ∈ Finset.range n, Ideal.exp (s j - m) * v j

/-- Before any column: minus infinity, zero, zero. -/
theorem Carried.zero (s v : ℕ → EReal) : Carried s v 0 ⊥ 0 0 := ⟨by simp [top], by simp, by simp⟩

/-- The largest of scores below infinity, one of which is above minus infinity, is a real number. -/
theorem top_real {s : ℕ → EReal} {n : ℕ} (hs : ∀ j, s j ≠ ⊤) {j : ℕ} (hj : j < n) (hb : s j ≠ ⊥) : ∃ r : ℝ, top s n = r := by
  have h1 : top s n ≠ ⊥ := fun e => hb (le_bot_iff.mp (e ▸ Finset.le_sup (f := s) (Finset.mem_range.mpr hj)))
  have h2 : top s n ≠ ⊤ := by
    refine ne_of_lt ((Finset.sup_lt_iff (by simp)).mpr fun j _ => lt_top_iff_ne_top.mpr (hs j))
  exact ⟨(top s n).toReal, (EReal.coe_toReal h2 h1).symm⟩

/-- One block of `w` columns, at least one of whose scores is above minus infinity: the update of the carried values. -/
theorem Carried.step {s v : ℕ → EReal} {n : ℕ} {m l a : EReal} (h : Carried s v n m l a) (w : ℕ) (hs : ∀ j, s j ≠ ⊤)
    {c₀ : ℕ} (hc : c₀ < w) (hb : s (n + c₀) ≠ ⊥) {m' l' a' : EReal}
    (hm' : m' = max m (Finset.univ.sup fun c : Fin w => s (n + c.val)))
    (hl' : l' = Ideal.exp (m - m') * l + ∑ c : Fin w, Ideal.exp (s (n + c.val) - m'))
    (ha' : a' = Ideal.exp (m - m') * a + ∑ c : Fin w, Ideal.exp (s (n + c.val) - m') * v (n + c.val)) :
    Carried s v (n + w) m' l' a' := by
  have em : m' = top s (n + w) := by rw [hm', h.hm, top_add]
  obtain ⟨r, hr⟩ := top_real (n := n + w) hs (show n + c₀ < n + w by omega) hb
  have er : m' = (r : EReal) := em.trans hr
  have hle : m ≤ (r : EReal) := by rw [← er, hm']; exact le_max_left _ _
  have hne : Ideal.exp (m - m') ≠ ⊤ := by
    refine exp_ne_top ?_
    rw [er]
    intro e
    have hmt : m ≠ ⊤ := fun e' => absurd (top_le_iff.mp (e' ▸ hle)) (EReal.coe_ne_top _)
    induction m using EReal.rec with
    | bot => simp at e
    | top => exact hmt rfl
    | coe m => rw [← EReal.coe_sub] at e; exact EReal.coe_ne_top _ e
  have key : ∀ j ∈ Finset.range n, Ideal.exp (m - m') * Ideal.exp (s j - m) = Ideal.exp (s j - m') := fun j hj => by
    rw [er]; exact exp_rebase (by rw [h.hm]; exact Finset.le_sup (f := s) hj) hle
  refine ⟨em, ?_, ?_⟩
  · rw [hl', h.hl, mul_sum_of_nonneg (exp_nonneg _) hne, sum_add (fun j => Ideal.exp (s j - m'))]
    exact congrArg (· + _) (Finset.sum_congr rfl key)
  · rw [ha', h.ha, mul_sum_of_nonneg (exp_nonneg _) hne, sum_add (fun j => Ideal.exp (s j - m') * v j)]
    exact congrArg (· + _) (Finset.sum_congr rfl fun j hj => by rw [← mul_assoc, key j hj])

/-! ## The result -/

/-- The softmax-weighted sum of the values over the first `N` columns: each weight is an exponential against the largest
    score divided by the sum of them all. -/
def attend (s v : ℕ → EReal) (N : ℕ) : EReal :=
  ∑ j ∈ Finset.range N, Ideal.div (Ideal.exp (s j - top s N)) (∑ i ∈ Finset.range N, Ideal.exp (s i - top s N)) * v j

/-- Columns whose score is minus infinity change no sum. -/
theorem sum_masked {f : ℕ → EReal} {n N : ℕ} (h : n ≤ N) (h0 : ∀ j, n ≤ j → f j = 0) :
    ∑ j ∈ Finset.range N, f j = ∑ j ∈ Finset.range n, f j := by
  obtain ⟨w, rfl⟩ := Nat.exists_eq_add_of_le h
  rw [sum_add, Finset.sum_eq_zero (s := Finset.univ) fun c _ => h0 _ (by omega), add_zero]

/-- The quotient of the two carried sums is the softmax-weighted sum over every column, masked columns included. -/
theorem Carried.div_eq {s v : ℕ → EReal} {n N : ℕ} {m l a : EReal} (h : Carried s v n m l a) (hN : n ≤ N) (hs : ∀ j, s j ≠ ⊤)
    (hmask : ∀ j, n ≤ j → s j = ⊥) {j₀ : ℕ} (hj : j₀ < n) (hb : s j₀ ≠ ⊥) : Ideal.div a l = attend s v N := by
  obtain ⟨r, hr⟩ := top_real hs hj hb
  have em : top s N = m := by
    rw [h.hm]
    obtain ⟨w, rfl⟩ := Nat.exists_eq_add_of_le hN
    rw [top_add]
    refine max_eq_left (Finset.sup_le fun c _ => ?_)
    rw [hmask _ (by omega)]; exact bot_le
  have er : m = (r : EReal) := h.hm.trans hr
  have e0 : ∀ j, n ≤ j → Ideal.exp (s j - m) = 0 := fun j hj => by rw [hmask j hj, EReal.bot_sub, exp_bot]
  have el : ∑ i ∈ Finset.range N, Ideal.exp (s i - top s N) = l := by
    rw [em, h.hl]; exact sum_masked hN e0
  have hl0 : 0 < l := by
    rw [h.hl]
    have hp : 0 < Ideal.exp (s j₀ - m) := by
      obtain ⟨t, ht⟩ : ∃ t : ℝ, s j₀ = t := ⟨(s j₀).toReal, (EReal.coe_toReal (hs j₀) hb).symm⟩
      rw [ht, er, ← EReal.coe_sub]
      show (0 : EReal) < ((Real.exp (t - r) : ℝ) : EReal)
      exact EReal.coe_pos.mpr (Real.exp_pos _)
    exact lt_of_lt_of_le hp (Finset.single_le_sum (f := fun j => Ideal.exp (s j - m)) (fun j _ => exp_nonneg _) (Finset.mem_range.mpr hj))
  have hdiv : ∀ x, Ideal.div x l = l⁻¹ * x := fun x => by unfold Ideal.div; rw [if_neg hl0.ne', mul_comm]
  unfold attend
  rw [el, em, hdiv, h.ha, mul_sum_of_nonneg (EReal.inv_nonneg_of_nonneg hl0.le) (ne_of_lt (EReal.inv_lt_top _)),
    ← sum_masked (f := fun j => l⁻¹ * (Ideal.exp (s j - m) * v j)) hN fun j hj => by rw [e0 j hj, zero_mul, mul_zero]]
  exact Finset.sum_congr rfl fun j _ => by rw [hdiv, mul_assoc]

end Cert.OnlineSoftmax

end
-- ==== Proof.MlaStep.lean ====
/-
  One block's update in the attention kernel, at the exact values. `scores`, `newMax`, `newSum` and `newAcc` are the
  operations of one update on whole vectors; read at a row and a lane they are the update of `OnlineSoftmax.Carried`.
-/
module

public import proofs.«01_k».proof.Proof.Gen.MlaIdeal.Value
public import proofs.«01_k».proof.Proof.OnlineSoftmax
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.WordCmp

@[expose] public section

set_option maxRecDepth 16384

noncomputable section

namespace Cert.MlaIdeal.Attention

open Cert.MlaIdeal Cert.MlaIdeal.Gen Cert.OnlineSoftmax
open Idealize.ShloMosaic Idealize.ShloMosaic.TcCoe Idealize.ShloMosaic.ValueIdx Idealize.ShloMosaic.WordCmp
open scoped BigOperators

/-! ## The update on whole vectors -/

/-- The products of the query rows with a block's key rows. -/
def scores (q : FVec Ideal S256x128 .bf16) (k : Vec Ideal S1x256x128 .bf16) : FVec Ideal S256x256 .f32 :=
  matmul dot_S256x128_S256x128_S256x256_1_1_0_0_n_n none q
    (shapeCast S256x128 k shapeCasts_S1x256x128_S256x128 : FVec Ideal S256x128 .bf16)
    (constant S256x256 .f32 0x00000000#32)

/-- The products with the block on the diagonal: minus infinity where the key is past the query. -/
def diagScores (q : FVec Ideal S256x128 .bf16) (k : Vec Ideal S1x256x128 .bf16) : FVec Ideal S256x256 .f32 :=
  select (cmpi .sle (iota .tc S256x256 32 [1] iota_S256x256_d1_w32) (iota .tc S256x256 32 [0] iota_S256x256_d0_w32))
    (scores q k) (broadcast S256x256 (Scalar.ofBits .f32 0xFF800000#32))

/-- The largest score so far. -/
def newMax (s : FVec Ideal S256x256 .f32) (m : FVec Ideal S256x1 .f32) : FVec Ideal S256x1 .f32 :=
  maximumf m (shapeCast S256x1 (multiReduction .maximumf [1] S256 s 0xFF800000#32 reduces_S256x256_S256 (.inl rfl) rfl)
    shapeCasts_S256_S256x1)

/-- The factor the carried sums are multiplied by. -/
def factor (s : FVec Ideal S256x256 .f32) (m : FVec Ideal S256x1 .f32) : FVec Ideal S256x1 .f32 := exp (subf m (newMax s m))

/-- The block's exponentials. -/
def weights (s : FVec Ideal S256x256 .f32) (m : FVec Ideal S256x1 .f32) : FVec Ideal S256x256 .f32 :=
  exp (subf s (broadcastTo S256x256 (newMax s m) broadcasts_S256x1_S256x256))

/-- The sum of the exponentials so far. -/
def newSum (s : FVec Ideal S256x256 .f32) (m l : FVec Ideal S256x1 .f32) : FVec Ideal S256x1 .f32 :=
  addf (mulf (factor s m) l) (shapeCast S256x1 (multiReduction .add [1] S256 (weights s m) 0x00000000#32
    reduces_S256x256_S256 (.inl rfl) rfl) shapeCasts_S256_S256x1)

/-- The sum of the exponentials times the values so far. -/
def newAcc (s : FVec Ideal S256x256 .f32) (m : FVec Ideal S256x1 .f32) (a : FVec Ideal S256x128 .f32)
    (v : Vec Ideal S1x256x128 .bf16) : FVec Ideal S256x128 .f32 :=
  addf (mulf (broadcastTo S256x128 (factor s m) broadcasts_S256x1_S256x128) a)
    (matmul dot_S256x256_S256x128_S256x128_1_0_0_1_n_n none (truncf .bf16 (weights s m) bitsLt_bf16_f32)
      (shapeCast S256x128 v shapeCasts_S1x256x128_S256x128 : FVec Ideal S256x128 .bf16) (constant S256x128 .f32 0x00000000#32))

/-! ## The update read at a row and a lane -/

theorem ofBits_neg_inf : Ideal.ofBits .f32 0xFF800000#32 = (⊥ : EReal) := by
  simp [Ideal.ofBits, Ideal.ieee]

theorem bcast_row (x : FVec Ideal S256x1 .f32) (r : Fin 256) (c : Fin 256) :
    broadcastTo S256x256 x broadcasts_S256x1_S256x256 (ix2 r c) = x (ix2 r 0) := by
  refine broadcastTo_apply x _ _ _ fun a => ?_
  match a with
  | ⟨0, _⟩ => rfl
  | ⟨1, _⟩ => rfl

theorem bcast_lane (x : FVec Ideal S256x1 .f32) (r : Fin 256) (c : Fin 128) :
    broadcastTo S256x128 x broadcasts_S256x1_S256x128 (ix2 r c) = x (ix2 r 0) := by
  refine broadcastTo_apply x _ _ _ fun a => ?_
  match a with
  | ⟨0, _⟩ => rfl
  | ⟨1, _⟩ => rfl

theorem scores_apply (q : FVec Ideal S256x128 .bf16) (k : Vec Ideal S1x256x128 .bf16) (r c : Fin 256) :
    scores q k (ix2 r c) = ∑ e : Fin 128, q (ix2 r e) * k (ix3 0 c e) := by
  unfold scores
  refine (Ideal.matmul_transposedRhs_apply none q (shapeCast S256x128 k shapeCasts_S1x256x128_S256x128) _ r c).trans ?_
  rw [constant_apply, Ideal.ofBits_zero_f32, zero_add]
  exact Finset.sum_congr rfl fun e _ => by rw [shapeCast_1ab_ab_apply]

theorem lift_row (r c : Fin 256) : (reduces_S256x256_S256).lift (ix1 r) c = ix2 r c := by
  funext a; match a with | ⟨0, _⟩ => rfl | ⟨1, _⟩ => rfl

theorem newMax_apply (s : FVec Ideal S256x256 .f32) (m : FVec Ideal S256x1 .f32) (r : Fin 256) :
    newMax s m (ix2 r 0) = max (m (ix2 r 0)) (Finset.univ.sup fun c : Fin 256 => s (ix2 r c)) := by
  unfold newMax
  rw [maximumf_apply, shapeCast_a_a1_apply]
  refine congrArg (max _) ((Ideal.multiReduction_maximumf_single s _ reduces_S256x256_S256 (.inl rfl) rfl (ix1 r)).trans ?_)
  show Finset.fold max (Ideal.ofBits .f32 0xFF800000#32) _ _ = _
  rw [ofBits_neg_inf]
  refine Finset.fold_congr fun c _ => ?_
  exact congrArg s (lift_row r c)

theorem factor_apply (s : FVec Ideal S256x256 .f32) (m : FVec Ideal S256x1 .f32) (r : Fin 256) :
    factor s m (ix2 r 0) = Ideal.exp (m (ix2 r 0) - newMax s m (ix2 r 0)) := rfl

theorem weights_apply (s : FVec Ideal S256x256 .f32) (m : FVec Ideal S256x1 .f32) (r c : Fin 256) :
    weights s m (ix2 r c) = Ideal.exp (s (ix2 r c) - newMax s m (ix2 r 0)) := by
  show Ideal.exp (s (ix2 r c) - broadcastTo S256x256 (newMax s m) broadcasts_S256x1_S256x256 (ix2 r c)) = _
  rw [bcast_row]

theorem newSum_apply (s : FVec Ideal S256x256 .f32) (m l : FVec Ideal S256x1 .f32) (r : Fin 256) :
    newSum s m l (ix2 r 0) = Ideal.exp (m (ix2 r 0) - newMax s m (ix2 r 0)) * l (ix2 r 0)
      + ∑ c : Fin 256, Ideal.exp (s (ix2 r c) - newMax s m (ix2 r 0)) := by
  unfold newSum
  rw [addf_apply, mulf_apply, factor_apply, shapeCast_a_a1_apply]
  refine congrArg (_ + ·) ((Ideal.multiReduction_add_single (weights s m) _ reduces_S256x256_S256 (.inl rfl) rfl (ix1 r)).trans
    (Finset.sum_congr rfl fun c _ => ?_))
  exact (congrArg (weights s m) (lift_row r c)).trans (weights_apply s m r c)

theorem newAcc_apply (s : FVec Ideal S256x256 .f32) (m : FVec Ideal S256x1 .f32) (a : FVec Ideal S256x128 .f32)
    (v : Vec Ideal S1x256x128 .bf16) (r : Fin 256) (d : Fin 128) :
    newAcc s m a v (ix2 r d) = Ideal.exp (m (ix2 r 0) - newMax s m (ix2 r 0)) * a (ix2 r d)
      + ∑ c : Fin 256, Ideal.exp (s (ix2 r c) - newMax s m (ix2 r 0)) * v (ix3 0 c d) := by
  unfold newAcc
  rw [addf_apply, mulf_apply, bcast_lane, factor_apply]
  refine congrArg (Ideal.exp (m (ix2 r 0) - newMax s m (ix2 r 0)) * a (ix2 r d) + ·) ?_
  refine (Ideal.matmul_plain_apply none (truncf .bf16 (weights s m) bitsLt_bf16_f32)
    (shapeCast S256x128 v shapeCasts_S1x256x128_S256x128) _ r d).trans ?_
  rw [constant_apply, Ideal.ofBits_zero_f32, zero_add]
  exact Finset.sum_congr rfl fun c _ => by rw [shapeCast_1ab_ab_apply, truncf_apply, weights_apply]

/-- The block's mask: a key column at or before the query row. -/
theorem diagScores_apply (q : FVec Ideal S256x128 .bf16) (k : Vec Ideal S1x256x128 .bf16) (r c : Fin 256) :
    diagScores q k (ix2 r c) = if c.val ≤ r.val then ∑ e : Fin 128, q (ix2 r e) * k (ix3 0 c e) else ⊥ := by
  have hb : (IntOp.cmpi .sle (BitVec.ofNat 32 c.val) (BitVec.ofNat 32 r.val) : BitVec 1) = BitVec.ofBool (decide (c.val ≤ r.val)) :=
    cmpi_sle_ofNat (by have := c.isLt; omega) (by have := r.isLt; omega)
  have h1 : diagScores q k (ix2 r c) = Scalar.select (IntOp.cmpi .sle (BitVec.ofNat 32 c.val) (BitVec.ofNat 32 r.val))
      (scores q k (ix2 r c)) (Ideal.ofBits .f32 0xFF800000#32) := by
    unfold diagScores
    show Scalar.select (IntOp.cmpi .sle (iota .tc S256x256 32 [1] iota_S256x256_d1_w32 (ix2 r c))
      (iota .tc S256x256 32 [0] iota_S256x256_d0_w32 (ix2 r c))) _ _ = _
    rw [iota_single_apply, iota_single_apply]
    rfl
  rw [h1, hb, ofBits_neg_inf, ← scores_apply]
  by_cases h : c.val ≤ r.val
  · rw [if_pos h, decide_eq_true h]; rfl
  · rw [if_neg h, decide_eq_false h]; rfl

/-- One update keeps the meaning of the carried values, whenever the block's scores are the row's next 256 ones and its
    values the column's. -/
theorem step_carried {s v : ℕ → EReal} {n : ℕ} {S : FVec Ideal S256x256 .f32} {m l : FVec Ideal S256x1 .f32}
    {a : FVec Ideal S256x128 .f32} {V : Vec Ideal S1x256x128 .bf16} {r : Fin 256} {d : Fin 128}
    (h : Carried s v n (m (ix2 r 0)) (l (ix2 r 0)) (a (ix2 r d))) (hs : ∀ j, s j ≠ ⊤) (hb : s n ≠ ⊥)
    (hS : ∀ c : Fin 256, S (ix2 r c) = s (n + c.val)) (hV : ∀ c : Fin 256, V (ix3 0 c d) = v (n + c.val)) :
    Carried s v (n + 256) (newMax S m (ix2 r 0)) (newSum S m l (ix2 r 0)) (newAcc S m a V (ix2 r d)) := by
  refine h.step 256 hs (c₀ := 0) (by omega) hb ?_ ?_ ?_
  · rw [newMax_apply]; simp only [hS]
  · rw [newSum_apply]; simp only [hS]
  · rw [newAcc_apply]; simp only [hS, hV]

end Cert.MlaIdeal.Attention

end
-- ==== Proof.MlaBody.lean ====
/-
  The attention kernel's body as the update of MlaStep.lean: one trip of its loop is one update of each head, the loop
  carries both heads' values, and what the body stores is each head's quotient after the update on the diagonal.
-/
module

public import proofs.«01_k».proof.Proof.MlaStep

@[expose] public section

set_option maxRecDepth 16384

noncomputable section

namespace Cert.MlaIdeal.Attention

open Cert.MlaIdeal Cert.MlaIdeal.Gen Cert.OnlineSoftmax
open Idealize.ShloMosaic Idealize.ShloMosaic.TcCoe Idealize.ShloMosaic.ValueIdx Idealize.ShloMosaic.Tactic Idealize.SL.Sem
open scoped BigOperators

/-- The values one pass carries: for each of the two heads the largest score, the sum and the weighted sum. -/
abbrev Two := FVec Ideal S256x1 .f32 × FVec Ideal S256x1 .f32 × FVec Ideal S256x128 .f32 × FVec Ideal S256x1 .f32
  × FVec Ideal S256x1 .f32 × FVec Ideal S256x128 .f32

/-- Both heads' update: `s`, `s'` their scores, `v` the block's values. -/
def update (s s' : FVec Ideal S256x256 .f32) (v : Vec Ideal S1x256x128 .bf16) (z : Two) : Two :=
  (newMax s z.1, newSum s z.1 z.2.1, newAcc s z.1 z.2.2.1 v,
    newMax s' z.2.2.2.1, newSum s' z.2.2.2.1 z.2.2.2.2.1, newAcc s' z.2.2.2.1 z.2.2.2.2.2 v)

/-- What a pass starts from. -/
def start : Two := (k0_pay32, k0_pay33, k0_pay34, k0_pay35, k0_pay36, k0_pay37)

/-- A query block's rows of one head, as a matrix. -/
def rows (q : Vec Ideal S1x256x128 .bf16) : FVec Ideal S256x128 .bf16 := shapeCast S256x128 q shapeCasts_S1x256x128_S256x128

section
variable (c : Dev nD) (i : grid0.Coords) (arg3 : Memref sig .tc .vmem S1x256x256 .bf16) (harg3 : arg3.IsWhole)
  (arg4 : Memref sig .tc .vmem S1x2048x256 .bf16) (harg4 : arg4.IsWhole) (arg5 : Memref sig .tc .vmem S1x2048x128 .bf16)
  (harg5 : arg5.IsWhole) (arg6 : Memref sig .tc .vmem S1x256x128 .bf16) (harg6 : arg6.IsWhole)
  (x0 : Vec Ideal S1x256x256 .bf16) (x1 : Vec Ideal S1x2048x256 .bf16) (x2 : Vec Ideal S1x2048x128 .bf16)

/-- One trip of the loop is one update of both heads. -/
theorem trip_eq (v0 v2 : Vec Ideal S1x256x128 .bf16) (k : Fin (k0_t1_loop i).trips) (z : Two) :
    tripR_k0_t1 (F := Ideal) Variants.none c none i arg3 harg3 arg4 harg4 arg5 harg5 arg6 harg6 v0 v2 (harg4.unread x1) (harg5.unread x2) k z
      = update (scores (rows v0) (View.ld x1 (Rect.unit (s := S1x2048x256) (k0_off2 i k) S1x256x128.size (k0_off2_inb i k))))
          (scores (rows v2) (View.ld x1 (Rect.unit (s := S1x2048x256) (k0_off3 i k) S1x256x128.size (k0_off3_inb i k))))
          (View.ld x2 (Rect.unit (s := S1x2048x128) (k0_off1 i k) S1x256x128.size (k0_off1_inb i k))) z := by
  unfold tripR_k0_t1 trip_k0_t1
  dsimp only
  sl_unfold_run_names
  simp only [View.readAt_eq_ld, harg4.read_unread, harg5.read_unread]
  rfl

/-- What the body stores, from the carried values: each head's quotient, the first head's in the first 64 lanes and the
    second's in the others. -/
def finish (z : Two) : Vec Ideal S1x256x128 .bf16 :=
  k0_pay1 (truncf .bf16 (select (cmpi .slt (iota .tc S256x128 32 [1] iota_S256x128_d1_w32) (broadcast S256x128 64#32))
    (divf z.2.2.1 (broadcastTo S256x128 z.2.1 broadcasts_S256x1_S256x128))
    (divf z.2.2.2.2.2 (broadcastTo S256x128 z.2.2.2.2.1 broadcasts_S256x1_S256x128))) bitsLt_bf16_f32)

/-- The query block's rows of the first head and of the second, as the body loads them. -/
abbrev qLoad0 : Vec Ideal S1x256x128 .bf16 := View.ld x0 (Rect.unit (s := S1x256x256) ![0, 0, 0] S1x256x128.size inb_S1x256x256_S1x256x128_0_0_0)
abbrev qLoad1 : Vec Ideal S1x256x128 .bf16 := View.ld x0 (Rect.unit (s := S1x256x256) ![0, 0, 128] S1x256x128.size inb_S1x256x256_S1x256x128_0_0_128)

/-- The carried values after the loop's first `k` trips. -/
abbrev carry (k : ℕ) : Two :=
  st_k0_t1 (F := Ideal) Variants.none c none i arg3 harg3 arg4 harg4 arg5 harg5 arg6 harg6 (qLoad0 x0) (qLoad1 x0)
    (harg4.unread x1) (harg5.unread x2) start k

/-- The loop over the full blocks runs once per block before the diagonal. -/
theorem trips_full : (k0_t1_loop i).trips = (i 2).val := by
  have h : ∀ q : Fin 8, Scf.trips (0#32) (Scalar.addi 0#32 (Scalar.muli (Scalar.divsi (Scalar.subi (BitVec.ofNat 32 q.val) 0#32) 1#32) 1#32)) 1#32
      = q.val := by decide +kernel
  exact h (i 2)

/-- The loop over the remainder never runs. -/
theorem trips_rest : (k0_t2_loop i).trips = 0 := by
  have h : ∀ q : Fin 8, Scf.trips (Scalar.addi 0#32 (Scalar.muli (Scalar.divsi (Scalar.subi (BitVec.ofNat 32 q.val) 0#32) 1#32) 1#32))
      (Scalar.addi 0#32 (Scalar.subi (BitVec.ofNat 32 q.val) 0#32)) 1#32 = 0 := by decide +kernel
  exact h (i 2)

/-- The body stores, for each row, the two heads' quotients after the diagonal update, side by side. -/
theorem out_eq : out0_A_3 c i arg3 harg3 arg4 harg4 arg5 harg5 arg6 harg6 x0 x1 x2
    = finish (update
        (diagScores (rows (qLoad0 x0)) (View.ld x1 (Rect.unit (s := S1x2048x256) (k0_off8 i) S1x256x128.size (k0_off8_inb i))))
        (diagScores (rows (qLoad1 x0)) (View.ld x1 (Rect.unit (s := S1x2048x256) (k0_off9 i) S1x256x128.size (k0_off9_inb i))))
        (View.ld x2 (Rect.unit (s := S1x2048x128) (k0_off7 i) S1x256x128.size (k0_off7_inb i)))
        (carry c i arg3 harg3 arg4 harg4 arg5 harg5 arg6 harg6 x0 x1 x2 (i 2).val)) := by
  have e2 := trips_rest i
  unfold Scf.Loop.trips at e2
  have e1 := trips_full i
  unfold Scf.Loop.trips at e1
  unfold out0_A_3
  rw [View.read_writes_eq_canon _ _ _ (cover0_A_3 c i arg3 harg3 arg4 harg4 arg5 harg5 arg6 harg6 x0 x1 x2)]
  unfold kernelRun0_A
  dsimp only
  sl_unfold_run_names
  rw [View.canon_unit_zero (funext fun a => by fin_cases a <;> rfl)]
  simp only [View.readAt_eq_ld, harg3.read_unread, harg4.read_unread, harg5.read_unread, e2, st_k0_t2_zero, e1]
  rfl
end
end Cert.MlaIdeal.Attention

end
-- ==== Proof.MlaRows.lean ====
/-
  The attention kernel's body read at one row and lane: the softmax-weighted sum of the values, over the keys at or before
  the query. The queries' and keys' entries are real numbers here; the values' may be any extended reals.
-/
module

public import proofs.«01_k».proof.Proof.MlaBody
public import Idealize.ShloMosaic.Lib.Pipeline.ValueKit.Tiles

@[expose] public section

set_option maxRecDepth 16384

noncomputable section

namespace Cert.MlaIdeal.Attention

open Cert.MlaIdeal Cert.MlaIdeal.Gen Cert.OnlineSoftmax
open Idealize.ShloMosaic Idealize.ShloMosaic.TcCoe Idealize.ShloMosaic.ValueIdx Idealize.ShloMosaic.Tactic Idealize.SL.Sem
open Idealize.ShloMosaic.WordCmp
open scoped BigOperators

/-- An entry that is a real number. -/
def IsReal (x : EReal) : Prop := ∃ r : ℝ, x = r

theorem IsReal.sum {ι : Type} (S : Finset ι) {f : ι → EReal} (h : ∀ j ∈ S, IsReal (f j)) : IsReal (∑ j ∈ S, f j) := by
  classical
  induction S using Finset.induction_on with
  | empty => exact ⟨0, by simp⟩
  | insert a S ha ih =>
    obtain ⟨x, hx⟩ := h a (Finset.mem_insert_self a S)
    obtain ⟨y, hy⟩ := ih fun j hj => h j (Finset.mem_insert_of_mem hj)
    exact ⟨x + y, by rw [Finset.sum_insert ha, hx, hy, EReal.coe_add]⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- Head `h`'s lane `e` among the 256 of two heads. -/
abbrev lane (h : Fin 2) (e : Fin 128) : Fin 256 := ⟨128 * h.val + e.val, by have := h.isLt; have := e.isLt; omega⟩

/-- The row's scores by key position: the product of the query row `r` of block `n` with key `j` where `j` is at or before
    the row, and minus infinity elsewhere. -/
def rowScore (x0 : Vec Ideal S1x256x256 .bf16) (x1 : Vec Ideal S1x2048x256 .bf16) (n : ℕ) (h : Fin 2) (r : Fin 256) (j : ℕ) : EReal :=
  if hj : j ≤ 256 * n + r.val ∧ j < 2048 then ∑ e : Fin 128, x0 (ix3 0 r (lane h e)) * x1 (ix3 0 ⟨j, hj.2⟩ (lane h e)) else ⊥

/-- The value at lane `d` by key position. -/
def colValue (x2 : Vec Ideal S1x2048x128 .bf16) (d : Fin 128) (j : ℕ) : EReal :=
  if hj : j < 2048 then x2 (ix3 0 ⟨j, hj⟩ d) else 0

theorem rows_apply (q : Vec Ideal S1x256x128 .bf16) (r : Fin 256) (e : Fin 128) : rows q (ix2 r e) = q (ix3 0 r e) := by
  unfold rows; rw [shapeCast_1ab_ab_apply]

theorem off1_eq (i : grid0.Coords) (k : Fin (k0_t1_loop i).trips) : k0_off1 i k = ![0, 256 * k.val, 0] := by
  have hk : k.val < 8 := lt_of_lt_of_le k.isLt (by rw [trips_full]; exact (i 2).isLt.le)
  have h : ∀ q : Fin 8, (Scalar.indexCast (Scalar.muli (Scf.iv 0#32 1#32 q.val) 256#32) : Index).toNat = 256 * q.val := by decide +kernel
  have := h ⟨k.val, hk⟩
  unfold k0_off1
  exact congrArg (fun t => ![0, t, 0]) this

theorem off2_eq (i : grid0.Coords) (k : Fin (k0_t1_loop i).trips) : k0_off2 i k = ![0, 256 * k.val, 0] := off1_eq i k

theorem off3_eq (i : grid0.Coords) (k : Fin (k0_t1_loop i).trips) : k0_off3 i k = ![0, 256 * k.val, 128] := by
  have h : (![0, (k0_off1 i k) 1, 128] : Fin 3 → ℕ) = ![0, 256 * k.val, 128] := by rw [off1_eq]; rfl
  exact h

theorem off7_eq (i : grid0.Coords) : k0_off7 i = ![0, 256 * (i 2).val, 0] := by
  have h : ∀ q : Fin 8, (Scalar.indexCast (Scalar.muli (BitVec.ofNat 32 q.val) 256#32) : Index).toNat = 256 * q.val := by decide +kernel
  exact congrArg (fun t => ![0, t, 0]) (h (i 2))

theorem off8_eq (i : grid0.Coords) : k0_off8 i = ![0, 256 * (i 2).val, 0] := off7_eq i

theorem off9_eq (i : grid0.Coords) : k0_off9 i = ![0, 256 * (i 2).val, 128] := by
  have h : (![0, (k0_off7 i) 1, 128] : Fin 3 → ℕ) = ![0, 256 * (i 2).val, 128] := by rw [off7_eq]; rfl
  exact h

/-- A load of 256 key rows of one head reads the keys' entries. -/
theorem kLoad_apply (x1 : Vec Ideal S1x2048x256 .bf16) (o : Fin 3 → ℕ) (n : ℕ) (h : Fin 2) (ho : o = ![0, 256 * n, 128 * h.val]) (inb)
    (c : Fin 256) (e : Fin 128) (hn : 256 * n + c.val < 2048) :
    View.ld x1 (Rect.unit (s := S1x2048x256) o S1x256x128.size inb) (ix3 0 c e) = x1 (ix3 0 ⟨256 * n + c.val, hn⟩ (lane h e)) := by
  subst ho
  refine View.ld_unit_apply_of _ _ _ _ _ _ fun a => ?_
  match a with
  | ⟨0, _⟩ => rfl
  | ⟨1, _⟩ => rfl
  | ⟨2, _⟩ => rfl

/-- A load of 256 value rows reads the values' entries. -/
theorem vLoad_apply (x2 : Vec Ideal S1x2048x128 .bf16) (o : Fin 3 → ℕ) (n : ℕ) (ho : o = ![0, 256 * n, 0]) (inb)
    (c : Fin 256) (d : Fin 128) (hn : 256 * n + c.val < 2048) :
    View.ld x2 (Rect.unit (s := S1x2048x128) o S1x256x128.size inb) (ix3 0 c d) = x2 (ix3 0 ⟨256 * n + c.val, hn⟩ d) := by
  subst ho
  refine View.ld_unit_apply_of _ _ _ _ _ _ fun a => ?_
  match a with
  | ⟨0, _⟩ => rfl
  | ⟨1, _⟩ => rfl
  | ⟨2, _⟩ => exact (Nat.zero_add _).symm

theorem qLoad0_apply (x0 : Vec Ideal S1x256x256 .bf16) (r : Fin 256) (e : Fin 128) : qLoad0 x0 (ix3 0 r e) = x0 (ix3 0 r (lane 0 e)) := by
  refine View.ld_unit_apply_of _ _ _ _ _ _ fun a => ?_
  match a with
  | ⟨0, _⟩ => rfl
  | ⟨1, _⟩ => exact (Nat.zero_add _).symm
  | ⟨2, _⟩ => rfl

theorem qLoad1_apply (x0 : Vec Ideal S1x256x256 .bf16) (r : Fin 256) (e : Fin 128) : qLoad1 x0 (ix3 0 r e) = x0 (ix3 0 r (lane 1 e)) := by
  refine View.ld_unit_apply_of _ _ _ _ _ _ fun a => ?_
  match a with
  | ⟨0, _⟩ => rfl
  | ⟨1, _⟩ => exact (Nat.zero_add _).symm
  | ⟨2, _⟩ => rfl

section
variable (x0 : Vec Ideal S1x256x256 .bf16) (x1 : Vec Ideal S1x2048x256 .bf16) (x2 : Vec Ideal S1x2048x128 .bf16)

/-- A score at or before the row is a real number when the entries are. -/
theorem rowScore_real (h0 : ∀ j, IsReal (x0 j)) (h1 : ∀ j, IsReal (x1 j)) (n : ℕ) (h : Fin 2) (r : Fin 256) {j : ℕ}
    (hj : j ≤ 256 * n + r.val ∧ j < 2048) : IsReal (rowScore x0 x1 n h r j) := by
  unfold rowScore; rw [dif_pos hj]
  exact IsReal.sum _ fun e _ => (h0 _).mul (h1 _)

theorem rowScore_ne_top (h0 : ∀ j, IsReal (x0 j)) (h1 : ∀ j, IsReal (x1 j)) (n : ℕ) (h : Fin 2) (r : Fin 256) (j : ℕ) :
    rowScore x0 x1 n h r j ≠ ⊤ := by
  by_cases hj : j ≤ 256 * n + r.val ∧ j < 2048
  · obtain ⟨t, ht⟩ := rowScore_real x0 x1 h0 h1 n h r hj; rw [ht]; exact EReal.coe_ne_top _
  · unfold rowScore; rw [dif_neg hj]; exact bot_ne_top

theorem rowScore_ne_bot (h0 : ∀ j, IsReal (x0 j)) (h1 : ∀ j, IsReal (x1 j)) (n : ℕ) (h : Fin 2) (r : Fin 256) {j : ℕ}
    (hj : j ≤ 256 * n + r.val ∧ j < 2048) : rowScore x0 x1 n h r j ≠ ⊥ := by
  obtain ⟨t, ht⟩ := rowScore_real x0 x1 h0 h1 n h r hj; rw [ht]; exact EReal.coe_ne_bot _

/-- Both heads' carried values have their meaning after `n` columns, at every row and lane. -/
def TwoCarried (q : ℕ) (n : ℕ) (z : Two) : Prop := ∀ (r : Fin 256) (d : Fin 128),
  Carried (rowScore x0 x1 q 0 r) (colValue x2 d) n (z.1 (ix2 r 0)) (z.2.1 (ix2 r 0)) (z.2.2.1 (ix2 r d))
  ∧ Carried (rowScore x0 x1 q 1 r) (colValue x2 d) n (z.2.2.2.1 (ix2 r 0)) (z.2.2.2.2.1 (ix2 r 0)) (z.2.2.2.2.2 (ix2 r d))

theorem start_carried (q : ℕ) : TwoCarried x0 x1 x2 q 0 start := by
  have e : ∀ j, (k0_pay32 (F := Ideal)) j = (⊥ : EReal) := fun _ => ofBits_neg_inf
  have e0 : ∀ j, (k0_pay33 (F := Ideal)) j = (0 : EReal) := fun _ => Ideal.ofBits_zero_f32
  have e1 : ∀ j, (k0_pay34 (F := Ideal)) j = (0 : EReal) := fun _ => Ideal.ofBits_zero_f32
  intro r d
  refine ⟨?_, ?_⟩
  · show Carried _ _ _ (k0_pay32 (F := Ideal) (ix2 r 0)) (k0_pay33 (F := Ideal) (ix2 r 0)) (k0_pay34 (F := Ideal) (ix2 r d))
    rw [e, e0, e1]; exact Carried.zero _ _
  · show Carried _ _ _ (k0_pay32 (F := Ideal) (ix2 r 0)) (k0_pay33 (F := Ideal) (ix2 r 0)) (k0_pay34 (F := Ideal) (ix2 r d))
    rw [e, e0, e1]; exact Carried.zero _ _

/-- One update of both heads keeps their meaning. -/
theorem update_carried (h0 : ∀ j, IsReal (x0 j)) (h1 : ∀ j, IsReal (x1 j)) {q n : ℕ} {z : Two} {S S' : FVec Ideal S256x256 .f32}
    {V : Vec Ideal S1x256x128 .bf16} (hz : TwoCarried x0 x1 x2 q (256 * n) z) (hn : n ≤ q) (hq : q < 8)
    (hS : ∀ r c : Fin 256, S (ix2 r c) = rowScore x0 x1 q 0 r (256 * n + c.val))
    (hS' : ∀ r c : Fin 256, S' (ix2 r c) = rowScore x0 x1 q 1 r (256 * n + c.val))
    (hV : ∀ (c : Fin 256) (d : Fin 128), V (ix3 0 c d) = colValue x2 d (256 * n + c.val)) :
    TwoCarried x0 x1 x2 q (256 * (n + 1)) (update S S' V z) := by
  intro r d
  have hb : ∀ h, rowScore x0 x1 q h r (256 * n) ≠ ⊥ := fun h => rowScore_ne_bot x0 x1 h0 h1 q h r ⟨by omega, by omega⟩
  exact
  ⟨step_carried (hz r d).1 (rowScore_ne_top x0 x1 h0 h1 q 0 r) (hb 0) (hS r) fun c => hV c d,
   step_carried (hz r d).2 (rowScore_ne_top x0 x1 h0 h1 q 1 r) (hb 1) (hS' r) fun c => hV c d⟩

/-- A full block's scores: every key is before the row. -/
theorem full_scores {q n : ℕ} (hn : n < q) (hq : q < 8) (h : Fin 2) {Q : Vec Ideal S1x256x128 .bf16}
    (hQ : ∀ (r : Fin 256) (e : Fin 128), Q (ix3 0 r e) = x0 (ix3 0 r (lane h e))) (o : Fin 3 → ℕ)
    (ho : o = ![0, 256 * n, 128 * h.val]) (inb) (r c : Fin 256) :
    scores (rows Q) (View.ld x1 (Rect.unit (s := S1x2048x256) o S1x256x128.size inb)) (ix2 r c) = rowScore x0 x1 q h r (256 * n + c.val) := by
  have hc := c.isLt
  rw [scores_apply]
  unfold rowScore
  rw [dif_pos ⟨by omega, by omega⟩]
  exact Finset.sum_congr rfl fun e _ => by rw [rows_apply, hQ, kLoad_apply x1 o n h ho inb c e (by omega)]

/-- The diagonal block's scores: the mask inside the block is the mask by position. -/
theorem diag_scores {q : ℕ} (hq : q < 8) (h : Fin 2) {Q : Vec Ideal S1x256x128 .bf16}
    (hQ : ∀ (r : Fin 256) (e : Fin 128), Q (ix3 0 r e) = x0 (ix3 0 r (lane h e))) (o : Fin 3 → ℕ)
    (ho : o = ![0, 256 * q, 128 * h.val]) (inb) (r c : Fin 256) :
    diagScores (rows Q) (View.ld x1 (Rect.unit (s := S1x2048x256) o S1x256x128.size inb)) (ix2 r c) = rowScore x0 x1 q h r (256 * q + c.val) := by
  have hc := c.isLt
  rw [diagScores_apply]
  unfold rowScore
  by_cases hrc : c.val ≤ r.val
  · rw [if_pos hrc, dif_pos ⟨by omega, by omega⟩]
    exact Finset.sum_congr rfl fun e _ => by rw [rows_apply, hQ, kLoad_apply x1 o q h ho inb c e (by omega)]
  · rw [if_neg hrc, dif_neg (by omega)]

theorem block_values {q n : ℕ} (hn : n ≤ q) (hq : q < 8) (o : Fin 3 → ℕ) (ho : o = ![0, 256 * n, 0]) (inb) (c : Fin 256) (d : Fin 128) :
    View.ld x2 (Rect.unit (s := S1x2048x128) o S1x256x128.size inb) (ix3 0 c d) = colValue x2 d (256 * n + c.val) := by
  have hc := c.isLt
  unfold colValue
  rw [dif_pos (by omega), vLoad_apply x2 o n ho inb c d (by omega)]

/-- What the body stores at a row and lane, from carried values with their meaning over the columns up to the diagonal's. -/
theorem finish_apply (h0 : ∀ j, IsReal (x0 j)) (h1 : ∀ j, IsReal (x1 j)) {q : ℕ} (hq : q < 8) {z : Two}
    (hz : TwoCarried x0 x1 x2 q (256 * (q + 1)) z) (r : Fin 256) (d : Fin 128) :
    finish z (ix3 0 r d) = attend (rowScore x0 x1 q (if d.val < 64 then 0 else 1) r) (colValue x2 d) 2048 := by
  have hr := r.isLt
  have hmask : ∀ (h : Fin 2) (j : ℕ), 256 * (q + 1) ≤ j → rowScore x0 x1 q h r j = ⊥ := fun h j hj => by
    unfold rowScore; rw [dif_neg (by omega)]
  have hb : (IntOp.cmpi .slt (BitVec.ofNat 32 d.val) 64#32 : BitVec 1) = BitVec.ofBool (decide (d.val < 64)) :=
    cmpi_slt_ofNat (b := 64) (by have := d.isLt; omega) (by omega)
  have e : finish z (ix3 0 r d) = Scalar.select (IntOp.cmpi .slt (BitVec.ofNat 32 d.val) 64#32)
      (Ideal.div (z.2.2.1 (ix2 r d)) (z.2.1 (ix2 r 0))) (Ideal.div (z.2.2.2.2.2 (ix2 r d)) (z.2.2.2.2.1 (ix2 r 0))) := by
    unfold finish k0_pay1
    dsimp only
    rw [shapeCast_ab_1ab_apply, truncf_apply]
    show Scalar.select (IntOp.cmpi .slt (iota .tc S256x128 32 [1] iota_S256x128_d1_w32 (ix2 r d)) 64#32)
      (Ideal.div _ (broadcastTo S256x128 z.2.1 broadcasts_S256x1_S256x128 (ix2 r d)))
      (Ideal.div _ (broadcastTo S256x128 z.2.2.2.2.1 broadcasts_S256x1_S256x128 (ix2 r d))) = _
    rw [iota_single_apply, bcast_lane, bcast_lane]
  rw [e, hb]
  by_cases hd : d.val < 64
  · rw [decide_eq_true hd, if_pos hd]
    exact (hz r d).1.div_eq (by omega) (rowScore_ne_top x0 x1 h0 h1 q 0 r) (hmask 0) (j₀ := 0) (by omega)
      (rowScore_ne_bot x0 x1 h0 h1 q 0 r ⟨by omega, by omega⟩)
  · rw [decide_eq_false hd, if_neg hd]
    exact (hz r d).2.div_eq (by omega) (rowScore_ne_top x0 x1 h0 h1 q 1 r) (hmask 1) (j₀ := 0) (by omega)
      (rowScore_ne_bot x0 x1 h0 h1 q 1 r ⟨by omega, by omega⟩)

variable (c : Dev nD) (i : grid0.Coords) (arg3 : Memref sig .tc .vmem S1x256x256 .bf16) (harg3 : arg3.IsWhole)
  (arg4 : Memref sig .tc .vmem S1x2048x256 .bf16) (harg4 : arg4.IsWhole) (arg5 : Memref sig .tc .vmem S1x2048x128 .bf16)
  (harg5 : arg5.IsWhole) (arg6 : Memref sig .tc .vmem S1x256x128 .bf16) (harg6 : arg6.IsWhole)

/-- The loop keeps the carried values' meaning, by induction on the trip. -/
theorem carry_carried (h0 : ∀ j, IsReal (x0 j)) (h1 : ∀ j, IsReal (x1 j)) : ∀ k : ℕ, k ≤ (i 2).val →
    TwoCarried x0 x1 x2 (i 2).val (256 * k) (carry c i arg3 harg3 arg4 harg4 arg5 harg5 arg6 harg6 x0 x1 x2 k)
  | 0, _ => start_carried x0 x1 x2 _
  | k + 1, hk => by
    have hq : (i 2).val < 8 := (i 2).isLt
    have ih := carry_carried h0 h1 k (by omega)
    have e := st_k0_t1_succ (F := Ideal) Variants.none c none i arg3 harg3 arg4 harg4 arg5 harg5 arg6 harg6 (qLoad0 x0) (qLoad1 x0)
      (harg4.unread x1) (harg5.unread x2) start ⟨k, by rw [trips_full]; omega⟩
    unfold carry
    rw [e, trip_eq]
    exact update_carried x0 x1 x2 h0 h1 ih (by omega) hq
      (full_scores x0 x1 (n := k) (by omega) hq 0 (qLoad0_apply x0) _ (off2_eq i _) _)
      (full_scores x0 x1 (n := k) (by omega) hq 1 (qLoad1_apply x0) _ (off3_eq i _) _)
      (block_values x2 (q := (i 2).val) (n := k) (by omega) hq _ (off1_eq i _) _)

/-- What the body leaves at row `r` and lane `d` of its output block. -/
theorem out_apply (h0 : ∀ j, IsReal (x0 j)) (h1 : ∀ j, IsReal (x1 j)) (r : Fin 256) (d : Fin 128) :
    out0_A_3 c i arg3 harg3 arg4 harg4 arg5 harg5 arg6 harg6 x0 x1 x2 (ix3 0 r d)
      = attend (rowScore x0 x1 (i 2).val (if d.val < 64 then 0 else 1) r) (colValue x2 d) 2048 := by
  have hq : (i 2).val < 8 := (i 2).isLt
  rw [out_eq]
  exact finish_apply x0 x1 x2 h0 h1 hq
    (update_carried x0 x1 x2 h0 h1 (carry_carried x0 x1 x2 c i arg3 harg3 arg4 harg4 arg5 harg5 arg6 harg6 h0 h1 _ le_rfl) le_rfl hq
      (diag_scores x0 x1 hq 0 (qLoad0_apply x0) _ (off8_eq i) _)
      (diag_scores x0 x1 hq 1 (qLoad1_apply x0) _ (off9_eq i) _)
      (block_values x2 le_rfl hq _ (off7_eq i) _)) r d

end
end Cert.MlaIdeal.Attention

end
-- ==== Proof.MlaArray.lean ====
/-
  The attention kernel's result array: every entry is the softmax-weighted sum over the keys at or before its query, of its
  batch and head. The blocks of the grid's points cover the array.
-/
module

public import proofs.«01_k».proof.Proof.MlaRows
public import Idealize.ShloMosaic.Lib.Pipeline.ValueKit.Geometry

@[expose] public section

set_option maxRecDepth 16384

noncomputable section

namespace Cert.MlaIdeal.Attention

open Cert.MlaIdeal Cert.MlaIdeal.Gen Cert.OnlineSoftmax
open Idealize.ShloMosaic Idealize.ShloMosaic.TcCoe Idealize.ShloMosaic.ValueIdx Idealize.ShloMosaic.Tactic Idealize.SL.Sem
open Idealize.ShloMosaic.Pipeline (Dat)
open scoped BigOperators

/-- Head `h`'s lane `e` among the 1024 of eight heads. -/
abbrev wide (h : Fin 8) (e : Fin 128) : Fin 1024 := ⟨128 * h.val + e.val, by have := h.isLt; have := e.isLt; omega⟩

/-- The causal scores of batch `b`, head `h`, query `t` by key position: minus infinity past the query. -/
def causal (q k : Vec Ideal S8x2048x1024 .bf16) (b h : Fin 8) (t : Fin 2048) (j : ℕ) : EReal :=
  if hj : j ≤ t.val ∧ j < 2048 then ∑ e : Fin 128, q (ix3 b t (wide h e)) * k (ix3 b ⟨j, hj.2⟩ (wide h e)) else ⊥

/-- The values of batch `b` at column `w` by key position. -/
def values (v : Vec Ideal S8x2048x512 .bf16) (b : Fin 8) (w : Fin 512) (j : ℕ) : EReal :=
  if hj : j < 2048 then v (ix3 b ⟨j, hj⟩ w) else 0

/-- The head a column of the result belongs to. -/
abbrev headOf (w : Fin 512) : Fin 8 := ⟨w.val / 64, by have := w.isLt; omega⟩

/-- Causal attention of every batch, query and column. -/
def attention (q k : Vec Ideal S8x2048x1024 .bf16) (v : Vec Ideal S8x2048x512 .bf16) : Vec Ideal S8x2048x512 .bf16 := fun x =>
  attend (causal q k (x 0) (headOf (x 2)) (x 1)) (values v (x 0) (x 2)) 2048

theorem idx0 : ∀ t : Fin cfg0.N, win0_0.index t = ![(grid0.coords t 0).val, (grid0.coords t 2).val, (grid0.coords t 1).val] :=
  (by decide +kernel : ∀ t : Fin grid0.N, _)
theorem idx1 : ∀ t : Fin cfg0.N, win0_1.index t = ![(grid0.coords t 0).val, 0, (grid0.coords t 1).val] :=
  (by decide +kernel : ∀ t : Fin grid0.N, _)
theorem idx2 : ∀ t : Fin cfg0.N, win0_2.index t = ![(grid0.coords t 0).val, 0, (grid0.coords t 1).val] :=
  (by decide +kernel : ∀ t : Fin grid0.N, _)
theorem idx3 : ∀ t : Fin cfg0.N, win0_3.index t = ![(grid0.coords t 0).val, (grid0.coords t 2).val, (grid0.coords t 1).val] :=
  (by decide +kernel : ∀ t : Fin grid0.N, _)

variable (m : (ℓ : Loc nD τ sig) → Buf (Elt Ideal) ℓ)

/-- A query block's entry is the queries' entry at the block's place. -/
theorem qBlock_apply (c : Dev nD) (t : Fin cfg0.N) (r : Fin 256) (l : Fin 256) (z : S8x2048x1024.Idx)
    (h0 : (z 0).val = (grid0.coords t 0).val) (h1 : (z 1).val = 256 * (grid0.coords t 2).val + r.val)
    (h2 : (z 2).val = 256 * (grid0.coords t 1).val + l.val) :
    iblk m c 0 t (ix3 0 r l) = m ((c : Thread nD τ).loc main_arg0) z := by
  blk_simp [iblk]
  rw [V_main_arg0]
  refine congrArg _ (funext fun a => Fin.ext ?_)
  match a with
  | ⟨0, _⟩ => blk_simp [idx0]; show (grid0.coords t 0).val = (z 0).val; omega
  | ⟨1, _⟩ => blk_simp [idx0]; show (grid0.coords t 2).val * 256 + r.val = (z 1).val; omega
  | ⟨2, _⟩ => blk_simp [idx0]; show (grid0.coords t 1).val * 256 + l.val = (z 2).val; omega

/-- A key block's entry is the keys' entry at the block's place. -/
theorem kBlock_apply (c : Dev nD) (t : Fin cfg0.N) (j : Fin 2048) (l : Fin 256) (z : S8x2048x1024.Idx)
    (h0 : (z 0).val = (grid0.coords t 0).val) (h1 : (z 1).val = j.val)
    (h2 : (z 2).val = 256 * (grid0.coords t 1).val + l.val) :
    iblk m c 1 t (ix3 0 j l) = m ((c : Thread nD τ).loc main_arg1) z := by
  blk_simp [iblk]
  rw [V_main_arg1]
  refine congrArg _ (funext fun a => Fin.ext ?_)
  match a with
  | ⟨0, _⟩ => blk_simp [idx1]; show (grid0.coords t 0).val = (z 0).val; omega
  | ⟨1, _⟩ => blk_simp [idx1]; exact h1.symm
  | ⟨2, _⟩ => blk_simp [idx1]; show (grid0.coords t 1).val * 256 + l.val = (z 2).val; omega

/-- A value block's entry is the values' entry at the block's place. -/
theorem vBlock_apply (c : Dev nD) (t : Fin cfg0.N) (j : Fin 2048) (d : Fin 128) (z : S8x2048x512.Idx)
    (h0 : (z 0).val = (grid0.coords t 0).val) (h1 : (z 1).val = j.val)
    (h2 : (z 2).val = 128 * (grid0.coords t 1).val + d.val) :
    iblk m c 2 t (ix3 0 j d) = m ((c : Thread nD τ).loc main_arg2) z := by
  blk_simp [iblk]
  rw [V_main_arg2]
  refine congrArg _ (funext fun a => Fin.ext ?_)
  match a with
  | ⟨0, _⟩ => blk_simp [idx2]; show (grid0.coords t 0).val = (z 0).val; omega
  | ⟨1, _⟩ => blk_simp [idx2]; exact h1.symm
  | ⟨2, _⟩ => blk_simp [idx2]; show (grid0.coords t 1).val * 128 + d.val = (z 2).val; omega

/-- The row scores of a point's blocks are the causal scores of the row's batch, head and query. -/
theorem rowScore_blocks (c : Dev nD) (t : Fin cfg0.N) (r : Fin 256) (d : Fin 128) (b : Fin 8) (s : Fin 2048) (w : Fin 512)
    (hb : b.val = (grid0.coords t 0).val) (hs : s.val = 256 * (grid0.coords t 2).val + r.val)
    (hw : w.val = 128 * (grid0.coords t 1).val + d.val) :
    rowScore (iblk m c 0 t) (iblk m c 1 t) (grid0.coords t 2).val (if d.val < 64 then 0 else 1) r
      = causal (m ((c : Thread nD τ).loc main_arg0)) (m ((c : Thread nD τ).loc main_arg1)) b (headOf w) s := by
  have hh : (headOf w).val = 2 * (grid0.coords t 1).val + (if d.val < 64 then (0 : Fin 2) else 1).val := by
    have := d.isLt
    show w.val / 64 = _
    split <;> simp <;> omega
  funext j
  unfold rowScore causal
  by_cases hj : j ≤ s.val ∧ j < 2048
  · rw [dif_pos hj, dif_pos (hs ▸ hj)]
    refine Finset.sum_congr rfl fun e _ => ?_
    rw [qBlock_apply m c t r _ (ix3 b s (wide (headOf w) e)) hb hs (by show 128 * (headOf w).val + e.val = _ + (128 * _ + e.val); omega),
      kBlock_apply m c t ⟨j, hj.2⟩ _ (ix3 b ⟨j, hj.2⟩ (wide (headOf w) e)) hb rfl (by show 128 * (headOf w).val + e.val = _ + (128 * _ + e.val); omega)]
  · rw [dif_neg hj, dif_neg (hs ▸ hj)]

theorem colValue_blocks (c : Dev nD) (t : Fin cfg0.N) (d : Fin 128) (b : Fin 8) (w : Fin 512)
    (hb : b.val = (grid0.coords t 0).val) (hw : w.val = 128 * (grid0.coords t 1).val + d.val) :
    colValue (iblk m c 2 t) d = values (m ((c : Thread nD τ).loc main_arg2)) b w := by
  funext j
  unfold colValue values
  by_cases hj : j < 2048
  · rw [dif_pos hj, dif_pos hj]; exact vBlock_apply m c t ⟨j, hj⟩ d (ix3 b ⟨j, hj⟩ w) hb rfl hw
  · rw [dif_neg hj, dif_neg hj]

/-- The result array of the run. -/
theorem final (c : Dev nD)
    (h0 : ∀ j, IsReal (m ((c : Thread nD τ).loc main_arg0) j)) (h1 : ∀ j, IsReal (m ((c : Thread nD τ).loc main_arg1) j)) :
    (dats m 0 c).arrAt 3 cfg0.N
      = attention (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨y0, r, d, rfl⟩ : ∃ (y0 : Fin 1) (r : Fin 256) (d : Fin 128), y = ix3 y0 r d := ⟨y 0, y 1, y 2, eq_ix3 y⟩
  obtain rfl : y0 = 0 := Subsingleton.elim _ _
  blk_simp
  rw [after0_3]
  unfold outsAt0
  rw [out_apply (iblk m c 0 t) (iblk m c 1 t) (iblk m c 2 t) c (grid0.coords t) _ _ _ _ _ _ _ _
    (fun j => by blk_simp [iblk]; rw [V_main_arg0]; exact h0 _) (fun j => by blk_simp [iblk]; rw [V_main_arg1]; exact h1 _)]
  have e0 : ((win0_3.blk t).view.emb (ix3 0 r d) 0).val = (grid0.coords t 0).val := by
    blk_simp [idx3]; skip
  have e1 : ((win0_3.blk t).view.emb (ix3 0 r d) 1).val = 256 * (grid0.coords t 2).val + r.val := by
    blk_simp [idx3]; show (grid0.coords t 2).val * 256 + r.val = _; omega
  have e2 : ((win0_3.blk t).view.emb (ix3 0 r d) 2).val = 128 * (grid0.coords t 1).val + d.val := by
    blk_simp [idx3]; show (grid0.coords t 1).val * 128 + d.val = _; omega
  unfold attention
  rw [rowScore_blocks m c t r d _ _ _ e0 e1 e2, colValue_blocks m c t d _ _ e0 e2]

end Cert.MlaIdeal.Attention

end
-- ==== Proof.MlaRefRead.lean ====
/-
  The reference's result at an index: the causal attention of the row's batch, head and query.
-/
module

public import proofs.«01_k».proof.Proof.MlaArray
public import proofs.«01_k».proof.Proof.Gen.MlaRefIdeal.Read
public import Idealize.ShloMosaic.Lib.KernelVsHost

@[expose] public section

set_option maxRecDepth 16384

noncomputable section

namespace Cert.MlaRefIdeal.Attention

open Cert.MlaRefIdeal Cert.MlaRefIdeal.Gen Cert.MlaRefIdeal.Read Cert.OnlineSoftmax Cert.MlaIdeal.Attention
open Idealize.ShloMosaic Idealize.ShloMosaic.ValueIdx Idealize.ShloMosaic.WordCmp
open scoped BigOperators

variable (q k : Vec Ideal S8x2048x1024 .bf16) (v : Vec Ideal S8x2048x512 .bf16)

/-- A head's lane of the queries, heads split off, is the queries' lane. -/
theorem heads_q (b : Fin 8) (t : Fin 2048) (h : Fin 8) (e : Fin 128) :
    val_main_v1 (F := Ideal) q (ix4 b t h e) = q (ix3 b t (wide h e)) := by
  rw [val_main_v1_apply]
  show q _ = _
  refine congrArg q (funext fun a => Fin.ext ?_)
  have := b.isLt; have := t.isLt; have := h.isLt; have := e.isLt
  match a with
  | ⟨0, _⟩ => show (((b.val * 2048 + t.val) * 8 + h.val) * 128 + e.val) / 2097152 = b.val; omega
  | ⟨1, _⟩ => show (((b.val * 2048 + t.val) * 8 + h.val) * 128 + e.val) / 1024 % 2048 = t.val; omega
  | ⟨2, _⟩ => show (((b.val * 2048 + t.val) * 8 + h.val) * 128 + e.val) % 1024 = 128 * h.val + e.val; omega

theorem heads_v (b : Fin 8) (t : Fin 2048) (h : Fin 8) (e : Fin 64) (w : Fin 512) (hw : w.val = 64 * h.val + e.val) :
    val_main_v5 (F := Ideal) v (ix4 b t h e) = v (ix3 b t w) := by
  rw [val_main_v5_apply]
  show v _ = _
  refine congrArg v (funext fun a => Fin.ext ?_)
  have := b.isLt; have := t.isLt; have := h.isLt; have := e.isLt
  match a with
  | ⟨0, _⟩ => show (((b.val * 2048 + t.val) * 8 + h.val) * 64 + e.val) / 1048576 = b.val; omega
  | ⟨1, _⟩ => show (((b.val * 2048 + t.val) * 8 + h.val) * 64 + e.val) / 512 % 2048 = t.val; omega
  | ⟨2, _⟩ => show (((b.val * 2048 + t.val) * 8 + h.val) * 64 + e.val) % 512 = w.val; omega

theorem lidx6 (b h : Fin 8) (t j : Fin 2048) (e : Fin 128) : lidx_main_v6 (ix4 b h t j) e = ix4 b t h e := by
  funext a; match a with | ⟨0, _⟩ => rfl | ⟨1, _⟩ => rfl | ⟨2, _⟩ => rfl | ⟨3, _⟩ => rfl
theorem ridx6 (b h : Fin 8) (t j : Fin 2048) (e : Fin 128) : ridx_main_v6 (ix4 b h t j) e = ix4 b j h e := by
  funext a; match a with | ⟨0, _⟩ => rfl | ⟨1, _⟩ => rfl | ⟨2, _⟩ => rfl | ⟨3, _⟩ => rfl
theorem row18 (b h : Fin 8) (t j : Fin 2048) : idx_main_v17 (idx_main_v18 (ix4 b h t j)) = ix3 b h t := by
  funext a; match a with | ⟨0, _⟩ => rfl | ⟨1, _⟩ => rfl | ⟨2, _⟩ => rfl
theorem row23 (b h : Fin 8) (t j : Fin 2048) : idx_main_v22 (idx_main_v23 (ix4 b h t j)) = ix3 b h t := by
  funext a; match a with | ⟨0, _⟩ => rfl | ⟨1, _⟩ => rfl | ⟨2, _⟩ => rfl
theorem idx21 (b h : Fin 8) (t j : Fin 2048) : idx_main_v21 (ix3 b h t) j = ix4 b h t j := by
  funext a; match a with | ⟨0, _⟩ => rfl | ⟨1, _⟩ => rfl | ⟨2, _⟩ => rfl | ⟨3, _⟩ => rfl
theorem lidx25 (b : Fin 8) (t : Fin 2048) (h : Fin 8) (e : Fin 64) (j : Fin 2048) :
    lidx_main_v25 (idx_main_v26 (ix4 b t h e)) j = ix4 b j h e := by
  funext a; match a with | ⟨0, _⟩ => rfl | ⟨1, _⟩ => rfl | ⟨2, _⟩ => rfl | ⟨3, _⟩ => rfl
theorem ridx25 (b : Fin 8) (t : Fin 2048) (h : Fin 8) (e : Fin 64) (j : Fin 2048) :
    ridx_main_v25 (idx_main_v26 (ix4 b t h e)) j = ix4 b h t j := by
  funext a; match a with | ⟨0, _⟩ => rfl | ⟨1, _⟩ => rfl | ⟨2, _⟩ => rfl | ⟨3, _⟩ => rfl

/-- The masked scores. -/
theorem scores_eq (b h : Fin 8) (t j : Fin 2048) :
    val_main_v13 (F := Ideal) q k (ix4 b h t j) = causal q k b h t j.val := by
  have hb : (IntOp.cmpi .sle (BitVec.ofNat 32 j.val) (BitVec.ofNat 32 t.val) : BitVec 1) = BitVec.ofBool (decide (j.val ≤ t.val)) :=
    cmpi_sle_ofNat (by have := j.isLt; omega) (by have := t.isLt; omega)
  rw [val_main_v13_apply, val_main_call0_v1_apply, val_main_v12_apply, val_main_v10_apply, val_main_v8_apply, val_main_v7_apply,
    val_main_v11_apply, val_main_v9_apply, val_main_v7_apply, val_main_call0_v2_apply, val_main_call0_v0_apply, val_main_cst_apply]
  show Scalar.select (IntOp.cmpi .sle (BitVec.ofNat 32 j.val) (BitVec.ofNat 32 t.val)) _ (Ideal.ofBits .f32 0xFF800000#32) = _
  rw [hb, ofBits_neg_inf]
  unfold causal
  by_cases hj : j.val ≤ t.val
  · rw [decide_eq_true hj, dif_pos ⟨hj, j.isLt⟩, val_main_v6_apply]
    refine (show Scalar.select (BitVec.ofBool true) _ _ = ∑ e : Fin 128, val_main_v1 (F := Ideal) q (lidx_main_v6 (ix4 b h t j) e)
      * val_main_v3 (F := Ideal) k (ridx_main_v6 (ix4 b h t j) e) from rfl).trans ?_
    refine Finset.sum_congr rfl fun e _ => ?_
    rw [lidx6, ridx6, heads_q, ← heads_q k]
    rfl
  · rw [decide_eq_false hj, dif_neg fun hc => hj hc.1]; rfl

theorem reducesScores : S8x8x2048x2048.Reduces [3] S8x8x2048 := by decide

/-- The largest score of a row. -/
theorem top_eq (b h : Fin 8) (t : Fin 2048) (j : Fin 2048) :
    val_main_v18 (F := Ideal) q k (ix4 b h t j) = top (causal q k b h t) 2048 := by
  rw [val_main_v18_apply, val_main_v17_apply, val_main_v16_apply, val_main_v15_apply, val_main_cst_1_apply, row18]
  refine (show _ = max (Ideal.ofBits .f32 0xFF800000#32) (val_main_v14 (F := Ideal) q k (ix3 b h t)) from rfl).trans ?_
  rw [ofBits_neg_inf, max_eq_right bot_le]
  unfold val_main_v14 val_main_cst_0
  refine (congrFun (hostReduce_maximumf_eq_multiReduction _ _ _ _ reducesScores (.inl rfl) rfl) (ix3 b h t)).trans ?_
  refine (Ideal.multiReduction_maximumf_single _ _ reducesScores (.inl rfl) rfl (ix3 b h t)).trans ?_
  show Finset.fold max (Ideal.ofBits .f32 0xFF800000#32) _ _ = _
  rw [ofBits_neg_inf]
  have e : (val_main_v13 (F := Ideal) q k) ∘ (reducesScores.lift (ix3 b h t)) = fun j : Fin 2048 => causal q k b h t j.val := by
    funext j
    refine Eq.trans (congrArg (val_main_v13 (F := Ideal) q k) ?_) (scores_eq q k b h t j)
    funext a; match a with | ⟨0, _⟩ => rfl | ⟨1, _⟩ => rfl | ⟨2, _⟩ => rfl | ⟨3, _⟩ => rfl
  rw [e]
  refine Eq.trans ?_ ((top_add (causal q k b h t) 0 2048).symm.trans (by rw [Nat.zero_add]))
  simp only [top, Finset.range_zero, Finset.sup_empty, Nat.zero_add]
  exact (max_eq_right bot_le).symm

theorem exp_eq (b h : Fin 8) (t j : Fin 2048) :
    val_main_v20 (F := Ideal) q k (ix4 b h t j) = Ideal.exp (causal q k b h t j.val - top (causal q k b h t) 2048) := by
  rw [val_main_v20_apply, val_main_v19_apply, scores_eq, top_eq]; rfl

theorem sum_eq (b h : Fin 8) (t j : Fin 2048) :
    val_main_v23 (F := Ideal) q k (ix4 b h t j)
      = ∑ i ∈ Finset.range 2048, Ideal.exp (causal q k b h t i - top (causal q k b h t) 2048) := by
  rw [val_main_v23_apply, val_main_v22_apply, val_main_v21_apply, val_main_cst_2_apply, row23]
  refine (congrArg (fun z : EReal => z + _) Ideal.ofBits_zero_f32).trans ?_
  rw [zero_add, Finset.sum_range]
  refine Finset.sum_congr rfl fun i _ => ?_
  rw [idx21, exp_eq]

/-- The reference's result. -/
theorem result_eq : val_main_v28 (F := Ideal) q k v = attention q k v := by
  funext x
  obtain ⟨b, t, w, rfl⟩ : ∃ (b : Fin 8) (t : Fin 2048) (w : Fin 512), x = ix3 b t w := ⟨x 0, x 1, x 2, eq_ix3 x⟩
  rw [val_main_v28_apply]
  show val_main_v27 (F := Ideal) q k v (ix3 b t w) = _
  have hb := b.isLt; have ht := t.isLt; have hw := w.isLt
  have e : idx_main_v27 (ix3 b t w) = ix4 b t (headOf w) (⟨w.val % 64, by omega⟩ : Fin 64) := by
    funext a
    apply Fin.ext
    match a with
    | ⟨0, _⟩ => show ((b.val * 2048 + t.val) * 512 + w.val) / 1048576 = b.val; omega
    | ⟨1, _⟩ => show ((b.val * 2048 + t.val) * 512 + w.val) / 512 % 2048 = t.val; omega
    | ⟨2, _⟩ => show ((b.val * 2048 + t.val) * 512 + w.val) / 64 % 8 = w.val / 64; omega
    | ⟨3, _⟩ => show ((b.val * 2048 + t.val) * 512 + w.val) % 64 = w.val % 64; omega
  rw [val_main_v27_apply, e, val_main_v26_apply, val_main_v25_apply]
  show _ = attend (causal q k b (headOf w) t) (values v b w) 2048
  unfold attend
  rw [Finset.sum_range]
  refine Finset.sum_congr rfl fun j _ => ?_
  rw [mul_comm, lidx25, ridx25]
  refine congrArg₂ (fun x y : EReal => x * y) ?_ ?_
  · rw [val_main_v24_apply, exp_eq, sum_eq]; rfl
  · refine (heads_v v b j (headOf w) ⟨w.val % 64, by omega⟩ w (by show w.val = 64 * (w.val / 64) + w.val % 64; omega)).trans ?_
    unfold values
    rw [dif_pos j.isLt]

end Cert.MlaRefIdeal.Attention

end
-- ==== Proof.FiniteArgs.lean ====
/-
  What the precondition says: every entry of the queries and of the keys is a real number.
-/
module

public import proofs.«01_k».proof.Pre_finite_qk
public import proofs.«01_k».proof.Proof.MlaRows
public import Idealize.ShloMosaic.Lib.ReduceAll

@[expose] public section

noncomputable section

namespace Cert.Pre_finite_qk

open Idealize.ShloMosaic Cert.MlaIdeal.Attention

theorem ofBits_inf : Ideal.ofBits .f32 0x7F800000#32 = ⊤ := by
  unfold Ideal.ofBits; rfl

/-- A value whose absolute value is below infinity is a real number. -/
theorem real_of_abs_lt {x : EReal} (h : (x ⊔ -x) < ⊤) : IsReal x := by
  induction x using EReal.rec with
  | bot => simp at h
  | top => simp at h
  | coe r => exact ⟨r, rfl⟩

theorem real_of_test {s : Shape} (x : FVec Ideal s .bf16) (hx : FTy.bits .bf16 < FTy.bits .f32) (i : s.Idx)
    (h : FloatOps.cmpf .olt (FloatOps.hostAbsf (FloatOps.extf (F := Ideal) .f32 hx (x i))) (FloatOps.ofBits (F := Ideal) .f32 0x7F800000#32) = 1#1) :
    IsReal (x i) := by
  apply real_of_abs_lt
  have h' : BitVec.ofBool (decide ((x i : EReal) ⊔ -(x i) < Ideal.ofBits .f32 0x7F800000#32)) = 1#1 := h
  rw [ofBits_inf] at h'
  by_contra hn
  rw [decide_eq_false hn] at h'
  exact absurd h' (by decide)

variable [Facts]

theorem real_args (q k : FVec Ideal S8x2048x1024 .bf16) (v : FVec Ideal S8x2048x512 .bf16)
    (h : fn (F := Ideal) q k v = fun _ => 1#1) : (∀ i, IsReal (q i)) ∧ ∀ i, IsReal (k i) := by
  have h0 := congrFun h (Shape.Idx.first Facts.h_S_)
  unfold fn at h0
  obtain ⟨hq, hk⟩ := IntOp.andi_eq_one.1 h0
  haveI : Subsingleton S_.Idx := ⟨fun a b => funext fun i => i.elim0⟩
  exact ⟨fun i => real_of_test q _ i (Host.reduce_andi_all _ _ _ _ _ hq i), fun i => real_of_test k _ i (Host.reduce_andi_all _ _ _ _ _ hk i)⟩

end Cert.Pre_finite_qk

end
-- ==== Proof.OutBlock.lean ====
/-
  The output projection of one row, and what the kernel's body stores of it: each row of a block is the root-mean-square
  normed sum of the row of `x` and the projection of the two gated branches.
-/
module

public import proofs.«01_k».proof.Proof.Gen.OutIdeal.Value
public import Idealize.ShloMosaic.Lib.MatmulPlain
public import Idealize.ShloMosaic.Lib.ValueIdx
public import Idealize.ShloMosaic.Lib.ValueLayout
public import Idealize.ShloMosaic.Lib.ValueLayoutCasts

@[expose] public section

set_option maxRecDepth 16384

noncomputable section

namespace Cert.OutRow

open Idealize.ShloMosaic
open scoped BigOperators

/-- One branch's gated projection at column `c`: its output times its gate, through its weights. -/
def branch {n : ℕ} (o z : Fin n → EReal) (w : Fin n → Fin 1024 → EReal) (c : Fin 1024) : EReal := ∑ i, o i * z i * w i c

/-- The row before its norm: the residual plus the projection of the two branches, mixed by their gates. -/
def summed (x gm gg pm pg : Fin 1024 → EReal) (w : Fin 1024 → Fin 1024 → EReal) (d : Fin 1024) : EReal :=
  x d + ∑ c, (gm c * pm c + gg c * pg c) * w c d

/-- The root-mean-square norm of a row, times its weight. -/
def normed (y g : Fin 1024 → EReal) (d : Fin 1024) : EReal :=
  y d * Ideal.rsqrt (Ideal.div (∑ e, y e * y e) (Ideal.ofBits .f32 0x44800000#32) + Ideal.ofBits .f32 0x358637BD#32) * g d

end Cert.OutRow

namespace Cert.OutIdeal.Out

open Cert.OutIdeal Cert.OutIdeal.Gen Cert.OutRow
open Idealize.ShloMosaic Idealize.ShloMosaic.TcCoe Idealize.ShloMosaic.ValueIdx Idealize.ShloMosaic.Tactic Idealize.SL.Sem
open scoped BigOperators

theorem lift_row (r : Fin 256) (c : Fin 1024) : (reduces_S256x1024_S256 : S256x1024.Reduces [1] S256).lift (ix1 r) c = ix2 r c := by
  funext a; match a with | ⟨0, _⟩ => rfl | ⟨1, _⟩ => rfl

theorem bcast_row (x : FVec Ideal S256x1 .f32) (r : Fin 256) (d : Fin 1024) :
    broadcastTo S256x1024 x broadcasts_S256x1_S256x1024 (ix2 r d) = x (ix2 r 0) := by
  refine broadcastTo_apply x _ _ _ fun a => ?_
  match a with
  | ⟨0, _⟩ => rfl
  | ⟨1, _⟩ => rfl

theorem bcast_col (x : FVec Ideal S1x1024 .f32) (r : Fin 256) (d : Fin 1024) :
    broadcastTo S256x1024 x broadcasts_S1x1024_S256x1024 (ix2 r d) = x (ix2 0 d) := by
  refine broadcastTo_apply x _ _ _ fun a => ?_
  match a with
  | ⟨0, _⟩ => rfl
  | ⟨1, _⟩ => rfl

/-- The norm of a block, by rows. -/
theorem norm_apply (y : FVec Ideal S256x1024 .f32) (g : Vec Ideal S1x1024 .f32) (r : Fin 256) (d : Fin 1024) :
    k0_pay1 y g (ix2 r d) = normed (fun e => y (ix2 r e)) (fun e => g (ix2 0 e)) d := by
  unfold k0_pay1 normed
  dsimp only
  rw [mulf_apply, mulf_apply, bcast_row, bcast_col, shapeCast_self]
  refine congrArg (fun z => y (ix2 r d) * Ideal.rsqrt (Ideal.div z _ + _) * g (ix2 0 d)) ?_
  rw [shapeCast_a_a1_apply]
  refine (Ideal.multiReduction_add_single (mulf y y) _ reduces_S256x1024_S256 (.inl rfl) rfl (ix1 r)).trans
    (Finset.sum_congr rfl fun e _ => ?_)
  exact (congrArg (mulf y y) (lift_row r e)).trans rfl

/-- A block before its norm, by rows. -/
theorem residual_apply (om zm : Vec Ideal S256x512 .bf16) (og zg : Vec Ideal S256x1024 .bf16) (wm : Vec Ideal S512x1024 .bf16)
    (wg : Vec Ideal S1024x1024 .bf16) (gm gg : Vec Ideal S256x1024 .bf16) (x : Vec Ideal S256x1024 .f32)
    (wo : Vec Ideal S1024x1024 .bf16) (r : Fin 256) (d : Fin 1024) :
    k0_pay2 om zm og zg wm wg gm gg x wo (ix2 r d)
      = summed (fun e => x (ix2 r e)) (fun e => gm (ix2 r e)) (fun e => gg (ix2 r e))
          (branch (fun i => om (ix2 r i)) (fun i => zm (ix2 r i)) fun i e => wm (ix2 i e))
          (branch (fun i => og (ix2 r i)) (fun i => zg (ix2 r i)) fun i e => wg (ix2 i e))
          (fun i e => wo (ix2 i e)) d := by
  unfold k0_pay2 summed
  dsimp only
  simp only [shapeCast_self]
  rw [addf_apply]
  refine congrArg (x (ix2 r d) + ·) ?_
  refine (Ideal.matmul_plain_apply none _ (wo : FVec Ideal S1024x1024 .bf16) _ r d).trans ?_
  rw [constant_apply, Ideal.ofBits_zero_f32, zero_add]
  refine Finset.sum_congr rfl fun c _ => congrArg (· * wo (ix2 c d)) ?_
  rw [truncf_apply, addf_apply, mulf_apply, mulf_apply]
  refine congrArg₂ (fun p q => gm (ix2 r c) * p + gg (ix2 r c) * q) ?_ ?_
  · refine (Ideal.matmul_plain_apply none _ (wm : FVec Ideal S512x1024 .bf16) _ r c).trans ?_
    rw [constant_apply, Ideal.ofBits_zero_f32, zero_add]
    rfl
  · refine (Ideal.matmul_plain_apply none _ (wg : FVec Ideal S1024x1024 .bf16) _ r c).trans ?_
    rw [constant_apply, Ideal.ofBits_zero_f32, zero_add]
    rfl

end Cert.OutIdeal.Out

end
-- ==== Proof.OutArray.lean ====
/-
  The output projection's result array: every row is the normed sum of the row of `x` and its projection. The blocks of the
  grid's points cover the array.
-/
module

public import proofs.«01_k».proof.Proof.OutBlock
public import Idealize.ShloMosaic.Lib.Pipeline.ValueKit.Geometry
public import Idealize.ShloMosaic.Lib.StableHlo.ReadAt

@[expose] public section

set_option maxRecDepth 16384

noncomputable section

namespace Cert.OutIdeal.Out

open Cert.OutIdeal Cert.OutIdeal.Gen Cert.OutRow
open Idealize.ShloMosaic hiding ix1 ix2 ix3 ix4 eq_ix2
open Idealize.ShloMosaic.TcCoe Idealize.ShloMosaic.ValueIdx Idealize.ShloMosaic.Tactic Idealize.SL.Sem
open Idealize.ShloMosaic.Pipeline (Dat)
open scoped BigOperators

/-- The batch of a row among the 16384 of eight batches, and its position in it. -/
abbrev batch (n : Fin 16384) : Fin 8 := ⟨n.val / 2048, by have := n.isLt; omega⟩
abbrev place (n : Fin 16384) : Fin 2048 := ⟨n.val % 2048, Nat.mod_lt _ (by decide)⟩

/-- The output projection of every row. -/
def projected (x : Vec Ideal S8x2048x1024 .f32) (om : Vec Ideal S8x2048x512 .bf16) (zm : Vec Ideal S16384x512 .bf16)
    (og : Vec Ideal S8x2048x1024 .bf16) (zg gm gg : Vec Ideal S16384x1024 .bf16) (wm : Vec Ideal S1x512x1024 .f32)
    (wg wo : Vec Ideal S1x1024x1024 .f32) (g : Vec Ideal S1024 .f32) : Vec Ideal S16384x1024 .f32 := fun z =>
  normed
    (summed (fun e => x (ix3 (batch (z 0)) (place (z 0)) e)) (fun e => gm (ix2 (z 0) e)) (fun e => gg (ix2 (z 0) e))
      (branch (fun i => om (ix3 (batch (z 0)) (place (z 0)) i)) (fun i => zm (ix2 (z 0) i)) fun i e => wm (ix3 0 i e))
      (branch (fun i => og (ix3 (batch (z 0)) (place (z 0)) i)) (fun i => zg (ix2 (z 0) i)) fun i e => wg (ix3 0 i e))
      (fun i e => wo (ix3 0 i e)))
    (fun e => g (ix1 e)) (z 1)

variable (m : (ℓ : Loc nD τ sig) → Buf (Elt Ideal) ℓ)

/-! ## The arrays the launch finds -/

/-- Rows of eight batches, laid one after the other. -/
theorem flat_apply {α : Type} {n : ℕ} (x : (⟨3, ![8, 2048, n]⟩ : Shape).Idx → α)
    (h : (⟨3, ![8, 2048, n]⟩ : Shape).ShapeCasts ⟨2, ![16384, n]⟩) (r : Fin 16384) (e : Fin n) :
    shapeCast ⟨2, ![16384, n]⟩ x h (ix2 r e) = x (ix3 (batch r) (place r) e) := by
  refine shapeCast_apply x h _ _ ?_
  rw [Shape.rowMajor_val_two, Shape.rowMajor_val_three]
  show (r.val / 2048 * 2048 + r.val % 2048) * n + e.val = r.val * n + e.val
  rw [Nat.div_add_mod']

theorem rows_x (c : Dev nD) (n : Fin 16384) (e : Fin 1024) :
    V m c main_v0 (ix2 n e) = m ((c : Thread nD τ).loc main_arg0) (ix3 (batch n) (place n) e) := by
  unfold V hostOps0
  after_reads_simp
  exact flat_apply _ _ n e

theorem rows_om (c : Dev nD) (n : Fin 16384) (e : Fin 512) :
    V m c main_v1 (ix2 n e) = m ((c : Thread nD τ).loc main_arg1) (ix3 (batch n) (place n) e) := by
  unfold V hostOps0
  after_reads_simp
  exact flat_apply _ _ n e

theorem rows_og (c : Dev nD) (n : Fin 16384) (e : Fin 1024) :
    V m c main_v2 (ix2 n e) = m ((c : Thread nD τ).loc main_arg3) (ix3 (batch n) (place n) e) := by
  unfold V hostOps0
  after_reads_simp
  exact flat_apply _ _ n e

theorem weights_m (c : Dev nD) (i : Fin 512) (e : Fin 1024) :
    V m c main_v4 (ix2 i e) = m ((c : Thread nD τ).loc main_arg7) (ix3 0 i e) := by
  unfold V hostOps0
  after_reads_simp
  exact shapeCast_1ab_ab_apply _ _ i e

theorem weights_g (c : Dev nD) (i : Fin 1024) (e : Fin 1024) :
    V m c main_v6 (ix2 i e) = m ((c : Thread nD τ).loc main_arg8) (ix3 0 i e) := by
  unfold V hostOps0
  after_reads_simp
  exact shapeCast_1ab_ab_apply _ _ i e

theorem weights_o (c : Dev nD) (i : Fin 1024) (e : Fin 1024) :
    V m c main_v8 (ix2 i e) = m ((c : Thread nD τ).loc main_arg9) (ix3 0 i e) := by
  unfold V hostOps0
  after_reads_simp
  exact shapeCast_1ab_ab_apply _ _ i e

theorem weights_f (c : Dev nD) (e : Fin 1024) :
    V m c main_v9 (ix2 0 e) = m ((c : Thread nD τ).loc main_arg10) (ix1 e) := by
  unfold V hostOps0
  after_reads_simp
  exact shapeCast_a_1a_apply _ _ 0 e

/-! ## The blocks -/

/-- Row `r` of the block of point `t`. -/
abbrev row (t : Fin cfg0.N) (r : Fin 256) : Fin 16384 :=
  ⟨256 * (grid0.coords t 0).val + r.val, by have := (grid0.coords t 0).isLt; have := r.isLt; show _ < 16384; have h : grid0.bound 0 = 64 := rfl; omega⟩

/-- The windows of rows move by one block a point. -/
theorem idx_rows : ∀ t : Fin cfg0.N, win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0]
    ∧ win0_11.index t = ![(grid0.coords t 0).val, 0] :=
  (by decide +kernel : ∀ t : Fin grid0.N, _)

/-- The weights' windows stay. -/
theorem idx_whole : ∀ t : Fin cfg0.N, win0_7.index t = ![0, 0]
    ∧ win0_8.index t = ![0, 0]
    ∧ win0_9.index t = ![0, 0]
    ∧ win0_10.index t = ![0, 0] :=
  (by decide +kernel : ∀ t : Fin grid0.N, _)

/-- The place in the array of a block's entry, the block being 256 whole rows. -/
theorem place_rows {n : ℕ} (z : (⟨2, ![16384, n]⟩ : Shape).Idx) (t : Fin cfg0.N) (r : Fin 256) (e : Fin n)
    (h0 : (z 0).val = (grid0.coords t 0).val * 256 + r.val) (h1 : (z 1).val = e.val) : z = ix2 (row t r) e := by
  funext a
  refine Fin.ext ?_
  match a with
  | ⟨0, _⟩ => exact h0.trans (by show _ = 256 * (grid0.coords t 0).val + r.val; omega)
  | ⟨1, _⟩ => exact h1

/-- The place in the array of a block's entry, the block being the array. -/
theorem place_whole {k n : ℕ} (z : (⟨2, ![k, n]⟩ : Shape).Idx) (i : Fin k) (e : Fin n)
    (h0 : (z 0).val = i.val) (h1 : (z 1).val = e.val) : z = ix2 i e := by
  funext a
  refine Fin.ext ?_
  match a with
  | ⟨0, _⟩ => exact h0
  | ⟨1, _⟩ => exact h1

theorem block_x (c : Dev nD) (t : Fin cfg0.N) (r : Fin 256) (e : Fin 1024) :
    iblk m c 0 t (ix2 r e) = m ((c : Thread nD τ).loc main_arg0) (ix3 (batch (row t r)) (place (row t r)) e) := by
  blk_simp [iblk]
  exact (congrArg _ (place_rows _ t r e (by blk_simp [idx_rows t]) (by blk_simp [idx_rows t]))).trans (rows_x m c _ e)

theorem block_om (c : Dev nD) (t : Fin cfg0.N) (r : Fin 256) (e : Fin 512) :
    iblk m c 1 t (ix2 r e) = m ((c : Thread nD τ).loc main_arg1) (ix3 (batch (row t r)) (place (row t r)) e) := by
  blk_simp [iblk]
  exact (congrArg _ (place_rows _ t r e (by blk_simp [idx_rows t]) (by blk_simp [idx_rows t]))).trans (rows_om m c _ e)

theorem block_zm (c : Dev nD) (t : Fin cfg0.N) (r : Fin 256) (e : Fin 512) :
    iblk m c 2 t (ix2 r e) = m ((c : Thread nD τ).loc main_arg2) (ix2 (row t r) e) := by
  blk_simp [iblk]
  rw [V_main_arg2]
  exact congrArg _ (place_rows _ t r e (by blk_simp [idx_rows t]) (by blk_simp [idx_rows t]))

theorem block_og (c : Dev nD) (t : Fin cfg0.N) (r : Fin 256) (e : Fin 1024) :
    iblk m c 3 t (ix2 r e) = m ((c : Thread nD τ).loc main_arg3) (ix3 (batch (row t r)) (place (row t r)) e) := by
  blk_simp [iblk]
  exact (congrArg _ (place_rows _ t r e (by blk_simp [idx_rows t]) (by blk_simp [idx_rows t]))).trans (rows_og m c _ e)

theorem block_zg (c : Dev nD) (t : Fin cfg0.N) (r : Fin 256) (e : Fin 1024) :
    iblk m c 4 t (ix2 r e) = m ((c : Thread nD τ).loc main_arg4) (ix2 (row t r) e) := by
  blk_simp [iblk]
  rw [V_main_arg4]
  exact congrArg _ (place_rows _ t r e (by blk_simp [idx_rows t]) (by blk_simp [idx_rows t]))

theorem block_gm (c : Dev nD) (t : Fin cfg0.N) (r : Fin 256) (e : Fin 1024) :
    iblk m c 5 t (ix2 r e) = m ((c : Thread nD τ).loc main_arg5) (ix2 (row t r) e) := by
  blk_simp [iblk]
  rw [V_main_arg5]
  exact congrArg _ (place_rows _ t r e (by blk_simp [idx_rows t]) (by blk_simp [idx_rows t]))

theorem block_gg (c : Dev nD) (t : Fin cfg0.N) (r : Fin 256) (e : Fin 1024) :
    iblk m c 6 t (ix2 r e) = m ((c : Thread nD τ).loc main_arg6) (ix2 (row t r) e) := by
  blk_simp [iblk]
  rw [V_main_arg6]
  exact congrArg _ (place_rows _ t r e (by blk_simp [idx_rows t]) (by blk_simp [idx_rows t]))

theorem block_wm (c : Dev nD) (t : Fin cfg0.N) (i : Fin 512) (e : Fin 1024) :
    iblk m c 7 t (ix2 i e) = m ((c : Thread nD τ).loc main_arg7) (ix3 0 i e) := by
  blk_simp [iblk]
  exact (congrArg _ (place_whole _ i e (by blk_simp [idx_whole t]) (by blk_simp [idx_whole t]))).trans (weights_m m c i e)

theorem block_wg (c : Dev nD) (t : Fin cfg0.N) (i : Fin 1024) (e : Fin 1024) :
    iblk m c 8 t (ix2 i e) = m ((c : Thread nD τ).loc main_arg8) (ix3 0 i e) := by
  blk_simp [iblk]
  exact (congrArg _ (place_whole _ i e (by blk_simp [idx_whole t]) (by blk_simp [idx_whole t]))).trans (weights_g m c i e)

theorem block_wo (c : Dev nD) (t : Fin cfg0.N) (i : Fin 1024) (e : Fin 1024) :
    iblk m c 9 t (ix2 i e) = m ((c : Thread nD τ).loc main_arg9) (ix3 0 i e) := by
  blk_simp [iblk]
  exact (congrArg _ (place_whole _ i e (by blk_simp [idx_whole t]) (by blk_simp [idx_whole t]))).trans (weights_o m c i e)

theorem block_f (c : Dev nD) (t : Fin cfg0.N) (e : Fin 1024) :
    iblk m c 10 t (ix2 0 e) = m ((c : Thread nD τ).loc main_arg10) (ix1 e) := by
  blk_simp [iblk]
  exact (congrArg _ (place_whole _ 0 e (by blk_simp [idx_whole t]; rfl) (by blk_simp [idx_whole t]))).trans (weights_f m c e)

/-- The result array of the run. -/
theorem final (c : Dev nD) :
    (dats m 0 c).arrAt 11 cfg0.N
      = projected (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  refine (dats m 0 c).arrAt_eq_of_covers 11 _ (by decide +kernel) fun t hf y => ?_
  obtain ⟨r, d, rfl⟩ : ∃ (r : Fin 256) (d : Fin 1024), y = ix2 r d := ⟨y 0, y 1, eq_ix2 y⟩
  blk_simp
  rw [after0_11]
  unfold out0_11
  rw [View.canon_unit_zero (funext fun a => by fin_cases a <;> rfl)]
  have hz : (win0_11.blk t).view.emb (ix2 r d) = ix2 (row t r) d :=
    place_rows _ t r d (by blk_simp [idx_rows t]) (by blk_simp [idx_rows t])
  refine Eq.trans ?_ (congrArg _ hz).symm
  have hz2 : (![0, 0] : Fin 2 → ℕ) = fun _ => 0 := funext fun a => by fin_cases a <;> rfl
  have l0 : ∀ X : Vec Ideal S256x512 .bf16, View.ld X r0_0 = X := fun X => View.ld_unit_zero hz2 _ X
  have l1 : ∀ X : Vec Ideal S256x1024 .bf16, View.ld X r0_1 = X := fun X => View.ld_unit_zero hz2 _ X
  have l1' : ∀ X : Vec Ideal S256x1024 .f32, View.ld X r0_1 = X := fun X => View.ld_unit_zero hz2 _ X
  have l2 : ∀ X : Vec Ideal S512x1024 .bf16, View.ld X r0_2 = X := fun X => View.ld_unit_zero hz2 _ X
  have l3 : ∀ X : Vec Ideal S1024x1024 .bf16, View.ld X r0_3 = X := fun X => View.ld_unit_zero hz2 _ X
  have l4 : ∀ X : Vec Ideal S1x1024 .f32, View.ld X r0_4 = X := fun X => View.ld_unit_zero hz2 _ X
  rw [l0, l0, l1, l1, l1, l1, l1', l2, l3, l3, l4, norm_apply]
  simp only [residual_apply, block_x, block_om, block_zm, block_og, block_zg, block_gm, block_gg, block_wm, block_wg, block_wo,
    block_f]
  rfl

end Cert.OutIdeal.Out

end
-- ==== Proof.OutRefRead.lean ====
/-
  The reference's output projection at an index: the normed sum of the row of `x` and its projection.
-/
module

public import proofs.«01_k».proof.Proof.OutArray
public import proofs.«01_k».proof.Proof.Gen.OutRefIdeal.Read

@[expose] public section

set_option maxRecDepth 16384

noncomputable section

namespace Cert.OutRefIdeal.Out

open Cert.OutRefIdeal Cert.OutRefIdeal.Gen Cert.OutRefIdeal.Read Cert.OutRow Cert.OutIdeal.Out
open Idealize.ShloMosaic hiding ix1 ix2 ix3 ix4 eq_ix2
open Idealize.ShloMosaic.ValueIdx
open scoped BigOperators

variable (x : Vec Ideal S8x2048x1024 .f32) (om : Vec Ideal S8x2048x512 .bf16) (zm : Vec Ideal S16384x512 .bf16)
    (og : Vec Ideal S8x2048x1024 .bf16) (zg gm gg : Vec Ideal S16384x1024 .bf16) (wm : Vec Ideal S1x512x1024 .f32)
    (wg wo : Vec Ideal S1x1024x1024 .f32) (g : Vec Ideal S1024 .f32)

/-! ## The index maps at a row's batch and place -/

theorem at_row {b : ℕ} (n : Fin 16384) (e : Fin b) (z : (⟨2, ![16384, b]⟩ : Shape).Idx)
    (h0 : (z 0).val = ((n.val / 2048 * 2048 + n.val % 2048) * b + e.val) / b)
    (h1 : (z 1).val = ((n.val / 2048 * 2048 + n.val % 2048) * b + e.val) % b) : z = ix2 n e := by
  have he := e.isLt
  rw [Nat.div_add_mod'] at h0 h1
  have hb : 0 < b := by omega
  funext a
  refine Fin.ext ?_
  match a with
  | ⟨0, _⟩ => exact h0.trans (by rw [Nat.mul_comm, Nat.mul_add_div hb, Nat.div_eq_of_lt he, Nat.add_zero])
  | ⟨1, _⟩ => exact h1.trans (by rw [Nat.mul_comm, Nat.mul_add_mod, Nat.mod_eq_of_lt he])

theorem idx2 (n : Fin 16384) (e : Fin 512) : idx_main_v2 (ix3 (batch n) (place n) e) = ix2 n e := at_row n e _ rfl rfl
theorem idx8 (n : Fin 16384) (e : Fin 1024) : idx_main_v8 (ix3 (batch n) (place n) e) = ix2 n e := at_row n e _ rfl rfl
theorem idx13 (n : Fin 16384) (e : Fin 1024) : idx_main_v13 (ix3 (batch n) (place n) e) = ix2 n e := at_row n e _ rfl rfl
theorem idx16 (n : Fin 16384) (e : Fin 1024) : idx_main_v16 (ix3 (batch n) (place n) e) = ix2 n e := at_row n e _ rfl rfl

theorem idx4 (i : Fin 512) (e : Fin 1024) : idx_main_v4 (ix2 i e) = ix3 0 i e := by
  have := i.isLt; have := e.isLt
  funext a; refine Fin.ext ?_
  match a with
  | ⟨0, _⟩ => rfl
  | ⟨1, _⟩ => show (i.val * 1024 + e.val) / 1024 % 512 = i.val; omega
  | ⟨2, _⟩ => show (i.val * 1024 + e.val) % 1024 = e.val; omega
theorem idx10 (i e : Fin 1024) : idx_main_v10 (ix2 i e) = ix3 0 i e := by
  have := i.isLt; have := e.isLt
  funext a; refine Fin.ext ?_
  match a with
  | ⟨0, _⟩ => rfl
  | ⟨1, _⟩ => show (i.val * 1024 + e.val) / 1024 % 1024 = i.val; omega
  | ⟨2, _⟩ => show (i.val * 1024 + e.val) % 1024 = e.val; omega
theorem idx19 (i e : Fin 1024) : idx_main_v19 (ix2 i e) = ix3 0 i e := idx10 i e

theorem idx35 (n : Fin 16384) (d : Fin 1024) : idx_main_v35 (ix2 n d) = ix3 (batch n) (place n) d := by
  have := n.isLt; have := d.isLt
  funext a; refine Fin.ext ?_
  match a with
  | ⟨0, _⟩ => show (n.val * 1024 + d.val) / 2097152 = n.val / 2048; omega
  | ⟨1, _⟩ => show (n.val * 1024 + d.val) / 1024 % 2048 = n.val % 2048; omega
  | ⟨2, _⟩ => show (n.val * 1024 + d.val) % 1024 = d.val; omega

variable (b : Fin 8) (t : Fin 2048)
theorem lidx5 (c : Fin 1024) (k : Fin 512) : lidx_main_v5 (ix3 b t c) k = ix3 b t k := by
  funext a; match a with | ⟨0, _⟩ => rfl | ⟨1, _⟩ => rfl | ⟨2, _⟩ => rfl
theorem ridx5 (c : Fin 1024) (k : Fin 512) : ridx_main_v5 (ix3 b t c) k = ix2 k c := by
  funext a; match a with | ⟨0, _⟩ => rfl | ⟨1, _⟩ => rfl
theorem lidx11 (c k : Fin 1024) : lidx_main_v11 (ix3 b t c) k = ix3 b t k := by
  funext a; match a with | ⟨0, _⟩ => rfl | ⟨1, _⟩ => rfl | ⟨2, _⟩ => rfl
theorem ridx11 (c k : Fin 1024) : ridx_main_v11 (ix3 b t c) k = ix2 k c := by
  funext a; match a with | ⟨0, _⟩ => rfl | ⟨1, _⟩ => rfl
theorem lidx20 (c k : Fin 1024) : lidx_main_v20 (ix3 b t c) k = ix3 b t k := lidx11 b t c k
theorem ridx20 (c k : Fin 1024) : ridx_main_v20 (ix3 b t c) k = ix2 k c := ridx11 b t c k
theorem idx23 (k : Fin 1024) : idx_main_v23 (ix2 b t) k = ix3 b t k := by
  funext a; match a with | ⟨0, _⟩ => rfl | ⟨1, _⟩ => rfl | ⟨2, _⟩ => rfl
theorem idx24 (d : Fin 1024) : idx_main_v24 (idx_main_v30 (ix3 b t d)) = ix2 b t := by
  funext a; match a with | ⟨0, _⟩ => rfl | ⟨1, _⟩ => rfl
theorem idx32 (d : Fin 1024) : idx_main_v32 (idx_main_v33 (ix3 b t d)) = ix1 d := by
  funext a; match a with | ⟨0, _⟩ => rfl

/-! ## The stages by rows -/

theorem v5_at (n : Fin 16384) (c : Fin 1024) : val_main_v5 (F := Ideal) om zm wm (ix3 (batch n) (place n) c)
    = branch (fun i => om (ix3 (batch n) (place n) i)) (fun i => zm (ix2 n i)) (fun i e => wm (ix3 0 i e)) c := by
  rw [val_main_v5_apply]
  refine Finset.sum_congr rfl fun i _ => ?_
  rw [lidx5, ridx5, val_main_v3_apply, val_main_v2_apply, val_main_v4_apply, idx2, idx4]
  rfl

theorem v11_at (n : Fin 16384) (c : Fin 1024) : val_main_v11 (F := Ideal) og zg wg (ix3 (batch n) (place n) c)
    = branch (fun i => og (ix3 (batch n) (place n) i)) (fun i => zg (ix2 n i)) (fun i e => wg (ix3 0 i e)) c := by
  rw [val_main_v11_apply]
  refine Finset.sum_congr rfl fun i _ => ?_
  rw [lidx11, ridx11, val_main_v9_apply, val_main_v8_apply, val_main_v10_apply, idx8, idx10]
  rfl

/-- The row before its norm. -/
theorem v21_at (n : Fin 16384) (d : Fin 1024) :
    val_main_v21 (F := Ideal) x om zm og zg gm gg wm wg wo (ix3 (batch n) (place n) d)
      = summed (fun e => x (ix3 (batch n) (place n) e)) (fun e => gm (ix2 n e)) (fun e => gg (ix2 n e))
          (branch (fun i => om (ix3 (batch n) (place n) i)) (fun i => zm (ix2 n i)) fun i e => wm (ix3 0 i e))
          (branch (fun i => og (ix3 (batch n) (place n) i)) (fun i => zg (ix2 n i)) fun i e => wg (ix3 0 i e))
          (fun i e => wo (ix3 0 i e)) d := by
  rw [val_main_v21_apply, val_main_v20_apply]
  refine congrArg (x (ix3 (batch n) (place n) d) + ·) (Finset.sum_congr rfl fun c _ => ?_)
  rw [lidx20, ridx20, val_main_v18_apply, val_main_v14_apply, val_main_v17_apply, val_main_v13_apply, val_main_v16_apply,
    val_main_v19_apply, idx13, idx16, idx19, v5_at, v11_at]
  rfl

/-- The reference's result is the output projection of every row. -/
theorem result_eq : val_main_v35 (F := Ideal) x om zm og zg gm gg wm wg wo g = projected x om zm og zg gm gg wm wg wo g := by
  funext z
  obtain ⟨n, d, rfl⟩ : ∃ (n : Fin 16384) (d : Fin 1024), z = ix2 n d := ⟨z 0, z 1, eq_ix2 z⟩
  have hs : val_main_v23 (F := Ideal) x om zm og zg gm gg wm wg wo (ix2 (batch n) (place n))
      = ∑ e : Fin 1024, val_main_v21 (F := Ideal) x om zm og zg gm gg wm wg wo (ix3 (batch n) (place n) e)
          * val_main_v21 (F := Ideal) x om zm og zg gm gg wm wg wo (ix3 (batch n) (place n) e) := by
    rw [val_main_v23_apply]
    refine (congrArg (· + _) Ideal.ofBits_zero_f32).trans ((zero_add _).trans (Finset.sum_congr rfl fun e _ => ?_))
    rw [idx23, val_main_v22_apply]
    rfl
  rw [val_main_v35_apply, idx35, val_main_v34_apply, val_main_v31_apply, val_main_v30_apply, val_main_v29_apply,
    val_main_v28_apply, val_main_v26_apply, val_main_v24_apply, val_main_v33_apply, val_main_v32_apply,
    val_main_v25_apply, val_main_v27_apply, idx24, idx32, hs]
  simp only [v21_at]
  rfl

end Cert.OutRefIdeal.Out

end
-- ==== Proof.InRow.lean ====
/-
  The input projection of one row: the normed row, its products with the weights, the rotation of the position lanes, the
  gates and the decay. The kernel keeps a head's 96 lanes in 128 with zeros behind, rotates by two lane rolls against three
  tables, scales the weights instead of the queries, and multiplies by a sixteenth; each is equal to the plain form.
-/
module

public import proofs.«01_k».proof.Proof.OnlineSoftmax
public import Idealize.ShloMosaic.Lib.IdealHost

@[expose] public section

noncomputable section

namespace Cert.InRow

open Idealize.ShloMosaic
open scoped BigOperators

/-- The root-mean-square norm of a row of `N` entries, times its weight. -/
def rms {n : ℕ} (N : EReal) (y g : Fin n → EReal) (d : Fin n) : EReal :=
  y d * Ideal.rsqrt (Ideal.div (∑ e, y e * y e) N + Ideal.ofBits .f32 0x358637BD#32) * g d

/-- A row through a matrix, at column `c`. -/
def lin {k n : ℕ} (h : Fin k → EReal) (w : Fin k → Fin n → EReal) (c : Fin n) : EReal := ∑ i, h i * w i c

theorem lin_congr {k n n' : ℕ} (h : Fin k → EReal) {w : Fin k → Fin n → EReal} {w' : Fin k → Fin n' → EReal} {c : Fin n} {c' : Fin n'}
    (e : ∀ i, w i c = w' i c') : lin h w c = lin h w' c' := Finset.sum_congr rfl fun i _ => congrArg (h i * ·) (e i)

/-- A nonnegative real factor of every weight comes out of the product. -/
theorem lin_scale {k n : ℕ} (h : Fin k → EReal) (w : Fin k → Fin n → EReal) {s : EReal} (h0 : 0 ≤ s) (ht : s ≠ ⊤) (c : Fin n) :
    lin h (fun i c => w i c * s) c = lin h w c * s := by
  unfold lin
  rw [mul_comm, Cert.OnlineSoftmax.mul_sum_of_nonneg h0 ht]
  exact Finset.sum_congr rfl fun i _ => by rw [mul_comm s, ← mul_assoc]

/-! ## The lanes of a head -/

/-- A head's 128 lanes: 64 plain ones, 32 rotated ones, and zeros. -/
def lanes (p : Fin 64 → EReal) (q : Fin 32 → EReal) (l : Fin 128) : EReal :=
  if h : l.val < 64 then p ⟨l.val, h⟩ else if h' : l.val < 96 then q ⟨l.val - 64, by omega⟩ else 0

theorem lanes_low (p : Fin 64 → EReal) (q : Fin 32 → EReal) {l : Fin 128} (h : l.val < 64) : lanes p q l = p ⟨l.val, h⟩ := dif_pos h
theorem lanes_mid (p : Fin 64 → EReal) (q : Fin 32 → EReal) {l : Fin 128} (h : 64 ≤ l.val) (h' : l.val < 96) :
    lanes p q l = q ⟨l.val - 64, by omega⟩ := (dif_neg (by omega)).trans (dif_pos h')
theorem lanes_high (p : Fin 64 → EReal) (q : Fin 32 → EReal) {l : Fin 128} (h : 96 ≤ l.val) : lanes p q l = 0 :=
  (dif_neg (by omega)).trans (dif_neg (by omega))

theorem lanes_add (p p' : Fin 64 → EReal) (q q' : Fin 32 → EReal) (l : Fin 128) :
    lanes p q l + lanes p' q' l = lanes (fun j => p j + p' j) (fun j => q j + q' j) l := by
  unfold lanes
  split_ifs
  · rfl
  · rfl
  · exact zero_add 0

theorem lanes_congr {p p' : Fin 64 → EReal} {q q' : Fin 32 → EReal} (hp : ∀ j, p j = p' j) (hq : ∀ j, q j = q' j) (l : Fin 128) :
    lanes p q l = lanes p' q' l := by rw [funext hp, funext hq]

/-- Weights laid in lanes give a product laid in lanes. -/
theorem sum_lanes {k : ℕ} (h : Fin k → EReal) (p : Fin k → Fin 64 → EReal) (q : Fin k → Fin 32 → EReal) (l : Fin 128) :
    ∑ i, h i * lanes (p i) (q i) l = lanes (lin h p) (lin h q) l := by
  unfold lanes lin
  split_ifs
  · rfl
  · rfl
  · exact Finset.sum_eq_zero fun i _ => mul_zero _

/-- The rotation of the 32 position lanes: the halves turn against each other by the row's cosines and sines. -/
def turned (a cs sn : Fin 32 → EReal) (l : Fin 32) : EReal :=
  if h : l.val < 16 then a l * cs l - a ⟨l.val + 16, by omega⟩ * sn l else a l * cs l + a ⟨l.val - 16, by omega⟩ * sn l

theorem turned_scale (a cs sn : Fin 32 → EReal) {s : EReal} (h0 : 0 ≤ s) (ht : s ≠ ⊤) (l : Fin 32) :
    turned (fun j => a j * s) cs sn l = turned a cs sn l * s := by
  have hd : ∀ x y : EReal, (x + y) * s = x * s + y * s := fun x y => EReal.right_distrib_of_nonneg_of_ne_top h0 ht x y
  unfold turned
  split_ifs with h
  · rw [sub_eq_add_neg, sub_eq_add_neg, hd, EReal.neg_mul]
    exact congrArg₂ (fun x y => x + -y) (mul_right_comm _ _ _) (mul_right_comm _ _ _)
  · rw [hd]
    exact congrArg₂ (· + ·) (mul_right_comm _ _ _) (mul_right_comm _ _ _)

/-- The cosine table: ones on the plain lanes, cosines on the position lanes, and zeros. -/
def tableC (cs : Fin 32 → EReal) : Fin 128 → EReal := lanes (fun _ => 1) cs

/-- The table of the lanes 16 above: minus the sines on the first half of the position lanes. -/
def tableA (sn : Fin 32 → EReal) (l : Fin 128) : EReal :=
  if h : 64 ≤ l.val ∧ l.val < 80 then -sn ⟨l.val - 64, by omega⟩ else 0

/-- The table of the lanes 16 below: the sines on the second half. -/
def tableB (sn : Fin 32 → EReal) (l : Fin 128) : EReal :=
  if h : 80 ≤ l.val ∧ l.val < 96 then sn ⟨l.val - 64, by omega⟩ else 0

/-- Rotation by lane rolls: a lane, the lane 16 above and the lane 16 below, each times its table. -/
def rolled (t c a b : Fin 128 → EReal) (l : Fin 128) : EReal :=
  t l * c l + t ⟨(l.val + 16) % 128, Nat.mod_lt _ (by decide)⟩ * a l + t ⟨(l.val + 112) % 128, Nat.mod_lt _ (by decide)⟩ * b l

/-- The rolls against the tables rotate the position lanes and leave the others. -/
theorem rolled_lanes (p : Fin 64 → EReal) (q cs sn : Fin 32 → EReal) (l : Fin 128) :
    rolled (lanes p q) (tableC cs) (tableA sn) (tableB sn) l = lanes p (turned q cs sn) l := by
  unfold rolled
  rcases lt_or_ge l.val 64 with h | h
  · have ha : tableA sn l = 0 := dif_neg (by omega)
    have hb : tableB sn l = 0 := dif_neg (by omega)
    have hc : tableC cs l = 1 := lanes_low _ _ h
    rw [ha, hb, hc, mul_one, mul_zero, mul_zero, add_zero, add_zero, lanes_low _ _ h, lanes_low _ _ h]
  rcases lt_or_ge l.val 96 with h' | h'
  · have hc : tableC cs l = cs ⟨l.val - 64, by omega⟩ := lanes_mid _ _ h h'
    rw [hc, lanes_mid p (turned q cs sn) h h', lanes_mid p q h h']
    rcases lt_or_ge l.val 80 with h2 | h2
    · have ha : tableA sn l = -sn ⟨l.val - 64, by omega⟩ := dif_pos ⟨h, h2⟩
      have hb : tableB sn l = 0 := dif_neg (by omega)
      have ht : turned q cs sn ⟨l.val - 64, by omega⟩ = q ⟨l.val - 64, by omega⟩ * cs ⟨l.val - 64, by omega⟩
          - q ⟨l.val - 64 + 16, by omega⟩ * sn ⟨l.val - 64, by omega⟩ := dif_pos (by show l.val - 64 < 16; omega)
      have hl : lanes p q ⟨(l.val + 16) % 128, Nat.mod_lt _ (by decide)⟩ = q ⟨l.val - 64 + 16, by omega⟩ :=
        (lanes_mid p q (by show 64 ≤ (l.val + 16) % 128; omega) (by show (l.val + 16) % 128 < 96; omega)).trans
          (congrArg q (Fin.ext (by show (l.val + 16) % 128 - 64 = l.val - 64 + 16; omega)))
      rw [ha, hb, ht, hl, mul_zero, add_zero, mul_comm _ (-sn _), EReal.neg_mul, mul_comm (sn _), ← sub_eq_add_neg]
    · have ha : tableA sn l = 0 := dif_neg (by omega)
      have hb : tableB sn l = sn ⟨l.val - 64, by omega⟩ := dif_pos ⟨h2, h'⟩
      have ht : turned q cs sn ⟨l.val - 64, by omega⟩ = q ⟨l.val - 64, by omega⟩ * cs ⟨l.val - 64, by omega⟩
          + q ⟨l.val - 64 - 16, by omega⟩ * sn ⟨l.val - 64, by omega⟩ := dif_neg (by show ¬ l.val - 64 < 16; omega)
      have hl : lanes p q ⟨(l.val + 112) % 128, Nat.mod_lt _ (by decide)⟩ = q ⟨l.val - 64 - 16, by omega⟩ :=
        (lanes_mid p q (by show 64 ≤ (l.val + 112) % 128; omega) (by show (l.val + 112) % 128 < 96; omega)).trans
          (congrArg q (Fin.ext (by show (l.val + 112) % 128 - 64 = l.val - 64 - 16; omega)))
      rw [ha, hb, ht, hl, mul_zero, add_zero]
  · have ha : tableA sn l = 0 := dif_neg (by omega)
    have hb : tableB sn l = 0 := dif_neg (by omega)
    rw [ha, hb, lanes_high p q h', lanes_high p (turned q cs sn) h', zero_mul, mul_zero, mul_zero, add_zero, add_zero]

/-! ## The gates and the decay -/

/-- The logistic function. -/
def sigmoid (z : EReal) : EReal := Ideal.div 1 (1 + Ideal.exp (-z))

/-- A gate: the entry times its logistic. -/
def silu (z : EReal) : EReal := z * sigmoid z

/-- The log-decay: a sixteenth of the logarithm of the logistic. -/
def decay (z : EReal) : EReal :=
  (min z 0 - Ideal.log1p (Ideal.exp (0 - max z (-z)))) * Ideal.ofBits .f32 0x3D800000#32

theorem sixteen : Ideal.ofBits .f32 0x41800000#32 = ((16 : ℝ) : EReal) := by
  simp [Ideal.ofBits, Ideal.ieee, -EReal.coe_mul]; norm_num

theorem sixteenth : Ideal.ofBits .f32 0x3D800000#32 = (((16 : ℝ)⁻¹ : ℝ) : EReal) := by
  simp [Ideal.ofBits, Ideal.ieee, -EReal.coe_mul]; norm_num

theorem div_sixteen (x : EReal) : Ideal.div x (Ideal.ofBits .f32 0x41800000#32) = x * Ideal.ofBits .f32 0x3D800000#32 := by
  rw [sixteen, sixteenth]
  unfold Ideal.div
  rw [if_neg (by exact_mod_cast (by norm_num : (16 : ℝ) ≠ 0)), EReal.coe_inv]

theorem log1p_ne_bot {x : EReal} (h : 0 ≤ x) : Ideal.log1p x ≠ ⊥ := by
  unfold Ideal.log1p
  induction x using EReal.rec with
  | bot => simp at h
  | top => rw [show (1 : EReal) + ⊤ = ⊤ from rfl]; exact top_ne_bot
  | coe r =>
    have hr : 0 ≤ r := EReal.coe_nonneg.mp h
    rw [show (1 : EReal) + (r : EReal) = ((1 + r : ℝ) : EReal) from rfl]
    show (if 1 + r ≤ 0 then (⊥ : EReal) else (Real.log (1 + r) : EReal)) ≠ ⊥
    rw [if_neg (by linarith)]
    exact EReal.coe_ne_bot _

/-- The log-decay as the negated softplus of the negated entry, divided by sixteen. -/
theorem decay_eq (z : EReal) :
    Ideal.div (-(max (-z) 0 + Ideal.log1p (Ideal.exp (-max (-z) (-(-z)))))) (Ideal.ofBits .f32 0x41800000#32) = decay z := by
  rw [div_sixteen, decay, neg_neg, max_comm (-z) z, zero_sub]
  refine congrArg (· * _) ?_
  have h0 : (0 : EReal) ≤ max (-z) 0 := le_max_right _ _
  rw [EReal.neg_add (.inl fun e => by rw [e] at h0; simp at h0) (.inr (log1p_ne_bot (Cert.OnlineSoftmax.exp_nonneg _)))]
  refine congrArg (· - _) ?_
  rcases le_total z 0 with h | h
  · rw [min_eq_left h, max_eq_left (EReal.neg_nonneg.mpr h), neg_neg]
  · rw [min_eq_right h, max_eq_right ((by rw [← EReal.neg_nonneg, neg_neg]; exact h)), neg_zero]

/-- The decay's product over 128 lanes, 16 of them nonzero. -/
theorem sum_sixteen (f : Fin 128 → EReal) (g : Fin 16 → EReal) (hl : ∀ j : Fin 16, f ⟨j.val, by omega⟩ = g j)
    (hh : ∀ j : Fin 128, 16 ≤ j.val → f j = 0) : ∑ j, f j = ∑ j, g j := by
  have e := Fin.sum_univ_add (a := 16) (b := 112) (show Fin (16 + 112) → EReal from f)
  refine e.trans ?_
  rw [Finset.sum_eq_zero (s := Finset.univ) (f := fun i : Fin 112 => f (Fin.natAdd 16 i)) fun i _ => hh _ (by simp), add_zero]
  exact Finset.sum_congr rfl fun j _ => hl j

end Cert.InRow

end
-- ==== Proof.InTarget.lean ====
/-
  What the input projection leaves in each of its eleven arrays, entry by entry: the normed row through the input weights,
  the query and key heads with their rotated position lanes, the values, the gates and the log-decay.
-/
module

public import proofs.«01_k».proof.Proof.InRow
public import proofs.«01_k».proof.Proof.OutArray

@[expose] public section

noncomputable section

namespace Cert.InRow

open Cert.OutIdeal.Out (batch place)
open Idealize.ShloMosaic hiding ix1 ix2 ix3 ix4 eq_ix2
open Idealize.ShloMosaic.ValueIdx
open scoped BigOperators

/-- Arrays of two and of three axes. -/
abbrev Mat (a b : ℕ) : Type := (⟨2, ![a, b]⟩ : Shape).Idx → EReal
abbrev Cube (a b c : ℕ) : Type := (⟨3, ![a, b, c]⟩ : Shape).Idx → EReal

/-- A head's lane: the head and the lane in it. -/
abbrev headOf (z : Fin 1024) : Fin 8 := ⟨z.val / 128, by omega⟩
abbrev laneOf (z : Fin 1024) : Fin 128 := ⟨z.val % 128, by omega⟩

/-- The scale of the queries, and that of the linear attention's queries. -/
abbrev qScale : EReal := Ideal.ofBits .f32 0x3DD105EC#32
abbrev lScale : EReal := Ideal.ofBits .f32 0x3DB504F3#32

theorem qScale_eq : qScale = ((13698540 / 134217728 : ℝ) : EReal) := by
  simp [qScale, Ideal.ofBits, Ideal.ieee, -EReal.coe_mul]; norm_num

theorem lScale_eq : lScale = ((11863283 / 134217728 : ℝ) : EReal) := by
  simp [lScale, Ideal.ofBits, Ideal.ieee, -EReal.coe_mul]; norm_num

theorem qScale_nonneg : 0 ≤ qScale := by rw [qScale_eq]; exact EReal.coe_nonneg.mpr (by norm_num)
theorem qScale_ne_top : qScale ≠ ⊤ := by rw [qScale_eq]; exact EReal.coe_ne_top _
theorem lScale_nonneg : 0 ≤ lScale := by rw [lScale_eq]; exact EReal.coe_nonneg.mpr (by norm_num)
theorem lScale_ne_top : lScale ≠ ⊤ := by rw [lScale_eq]; exact EReal.coe_ne_top _

section
variable (x : Cube 8 2048 1024) (gin : Mat 1 1024) (win : Cube 1 1024 6320)

/-- A row of the input, normed. -/
def hidden (n : Fin 16384) (e : Fin 1024) : EReal :=
  rms (Ideal.ofBits .f32 0x44800000#32) (fun e => x (ix3 (batch n) (place n) e)) (fun e => gin (ix2 0 e)) e

/-- The normed row through the input weights. -/
def proj (n : Fin 16384) (j : Fin 6320) : EReal := lin (hidden x gin n) (fun i j => win (ix3 0 i j)) j

/-- The queries' columns, before the rotation. -/
def queries (gq : Mat 1 384) (uq : Cube 1 384 768) (n : Fin 16384) (j : Fin 768) : EReal :=
  lin (rms (Ideal.ofBits .f32 0x43C00000#32) (fun e : Fin 384 => proj x gin win n ⟨e.val, by omega⟩) fun e => gq (ix2 0 e))
    (fun i j => uq (ix3 0 i j)) j

/-- The keys' and values' columns. -/
def keyVals (gkv : Mat 1 256) (ukv : Cube 1 256 1024) (n : Fin 16384) (j : Fin 1024) : EReal :=
  lin (rms (Ideal.ofBits .f32 0x43800000#32) (fun e : Fin 256 => proj x gin win n ⟨384 + e.val, by omega⟩) fun e => gkv (ix2 0 e))
    (fun i j => ukv (ix3 0 i j)) j

/-- The queries' array. -/
def outQ (cs sn : Mat 16384 32) (gq : Mat 1 384) (uq : Cube 1 384 768) : Mat 16384 1024 := fun z =>
  lanes (fun j => queries x gin win gq uq (z 0) ⟨96 * (headOf (z 1)).val + j.val, by have := (headOf (z 1)).isLt; omega⟩ * qScale)
    (fun j => turned (fun j => queries x gin win gq uq (z 0) ⟨96 * (headOf (z 1)).val + (64 + j.val), by have := (headOf (z 1)).isLt; omega⟩)
      (fun j => cs (ix2 (z 0) j)) (fun j => sn (ix2 (z 0) j)) j * qScale) (laneOf (z 1))

/-- The keys' array. -/
def outK (cs sn : Mat 16384 32) (gkv : Mat 1 256) (ukv : Cube 1 256 1024) : Mat 16384 1024 := fun z =>
  lanes (fun j => keyVals x gin win gkv ukv (z 0) ⟨128 * (headOf (z 1)).val + j.val, by have := (headOf (z 1)).isLt; omega⟩)
    (turned (fun j => proj x gin win (z 0) ⟨640 + j.val, by omega⟩) (fun j => cs (ix2 (z 0) j)) (fun j => sn (ix2 (z 0) j)))
    (laneOf (z 1))

/-- The values' array. -/
def outV (gkv : Mat 1 256) (ukv : Cube 1 256 1024) : Mat 16384 512 := fun z =>
  keyVals x gin win gkv ukv (z 0) ⟨128 * ((z 1).val / 64) + (64 + (z 1).val % 64), by have := (z 1).isLt; have h : (z 1).val < 512 := (z 1).isLt; omega⟩

/-- Columns of the projection from `o` on. -/
def outCols {n : ℕ} (o : ℕ) (h : o + n ≤ 6320) (f : EReal → EReal) : Mat 16384 n := fun z =>
  f (proj x gin win (z 0) ⟨o + (z 1).val, by have h' : (z 1).val < n := (z 1).isLt; omega⟩)

/-- The log-decay's array. -/
def outL (wgg : Cube 1 16 512) (bgg : Mat 1 512) : Mat 16384 512 := fun z =>
  decay (∑ j : Fin 16, proj x gin win (z 0) ⟨3232 + j.val, by omega⟩ * wgg (ix3 0 j (z 1)) + bgg (ix2 0 (z 1)))

end

end Cert.InRow

end
-- ==== Proof.InIdealLaunch.lean ====
/- The launch of the in-projection kernel: its blocks at a grid point, the body's triple, the run and the
   frame, for any value type. -/
module

public import proofs.«01_k».proof.Proof.Gen.InIdeal.Launch
public import proofs.«01_k».proof.Proof.Gen.InIdeal.Skeleton
public import proofs.«01_k».proof.Proof.Gen.InIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.InIdeal.Launched

open Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1440000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_InIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S256x128 := Rect.unit (s := S256x128) ![0, 0] S256x128.size inb_S256x128_S256x128_0_0
abbrev r0_3 : Rect S1024x6528 := Rect.unit (s := S1024x6528) ![0, 0] S1024x384.size inb_S1024x6528_S1024x384_0_0
abbrev r0_4 : Rect S1x384 := Rect.unit (s := S1x384) ![0, 0] S1x384.size inb_S1x384_S1x384_0_0
abbrev r0_5 : Rect S384x1024 := Rect.unit (s := S384x1024) ![0, 0] S384x1024.size inb_S384x1024_S384x1024_0_0
abbrev r0_6 : Rect S256x1024 := Rect.unit (s := S256x1024) ![0, 0] S256x128.size inb_S256x1024_S256x128_0_0
abbrev r0_7 : Rect S256x1024 := Rect.unit (s := S256x1024) ![0, 128] S256x128.size inb_S256x1024_S256x128_0_128
abbrev r0_8 : Rect S256x1024 := Rect.unit (s := S256x1024) ![0, 256] S256x128.size inb_S256x1024_S256x128_0_256
abbrev r0_9 : Rect S256x1024 := Rect.unit (s := S256x1024) ![0, 384] S256x128.size inb_S256x1024_S256x128_0_384
abbrev r0_10 : Rect S256x1024 := Rect.unit (s := S256x1024) ![0, 512] S256x128.size inb_S256x1024_S256x128_0_512
abbrev r0_11 : Rect S256x1024 := Rect.unit (s := S256x1024) ![0, 640] S256x128.size inb_S256x1024_S256x128_0_640
abbrev r0_12 : Rect S256x1024 := Rect.unit (s := S256x1024) ![0, 768] S256x128.size inb_S256x1024_S256x128_0_768
abbrev r0_13 : Rect S256x1024 := Rect.unit (s := S256x1024) ![0, 896] S256x128.size inb_S256x1024_S256x128_0_896
abbrev r0_14 : Rect S1024x6528 := Rect.unit (s := S1024x6528) ![0, 384] S1024x256.size inb_S1024x6528_S1024x256_0_384
abbrev r0_15 : Rect S1x256 := Rect.unit (s := S1x256) ![0, 0] S1x256.size inb_S1x256_S1x256_0_0
abbrev r0_16 : Rect S1024x6528 := Rect.unit (s := S1024x6528) ![0, 640] S1024x128.size inb_S1024x6528_S1024x128_0_640
abbrev r0_17 : Rect S256x512 := Rect.unit (s := S256x512) ![0, 0] S256x512.size inb_S256x512_S256x512_0_0
abbrev r0_18 : Rect S1024x6528 := Rect.unit (s := S1024x6528) ![0, 896] S1024x512.size inb_S1024x6528_S1024x512_0_896
abbrev r0_19 : Rect S1024x6528 := Rect.unit (s := S1024x6528) ![0, 1408] S1024x512.size inb_S1024x6528_S1024x512_0_1408
abbrev r0_20 : Rect S1024x6528 := Rect.unit (s := S1024x6528) ![0, 1920] S1024x512.size inb_S1024x6528_S1024x512_0_1920
abbrev r0_21 : Rect S1024x6528 := Rect.unit (s := S1024x6528) ![0, 2432] S1024x1024.size inb_S1024x6528_S1024x1024_0_2432
abbrev r0_22 : Rect S1024x6528 := Rect.unit (s := S1024x6528) ![0, 768] S1024x128.size inb_S1024x6528_S1024x128_0_768
abbrev r0_23 : Rect S128x512 := Rect.unit (s := S128x512) ![0, 0] S128x512.size inb_S128x512_S128x512_0_0
abbrev r0_24 : Rect S1x512 := Rect.unit (s := S1x512) ![0, 0] S1x512.size inb_S1x512_S1x512_0_0
abbrev r0_25 : Rect S1024x6528 := Rect.unit (s := S1024x6528) ![0, 3456] S1024x1024.size inb_S1024x6528_S1024x1024_0_3456
abbrev r0_26 : Rect S1024x6528 := Rect.unit (s := S1024x6528) ![0, 4480] S1024x1024.size inb_S1024x6528_S1024x1024_0_4480
abbrev r0_27 : Rect S1024x6528 := Rect.unit (s := S1024x6528) ![0, 5504] S1024x1024.size inb_S1024x6528_S1024x1024_0_5504

/-! ## What the body leaves in each output window's buffer -/

/-! ### Values of the body that the stores' payloads, spelt out, would write more than once

    Each is a vector the body binds (often a part call's result), stated over the input windows' blocks and
    numbered on from the skeleton's payload functions (`k0_pay42` …, after `k0_pay41`), so that
    `out0_W` and the values after it name it instead of spelling it out (`unfold out0_W` opens a canon
    with them, `unfold_payloads` opens them with the payloads); the comment after each is the printed function's
    name for the value (a count appended where that name is bound again). -/

def k0_pay42 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : FVec F S256x1024 .bf16 :=
  k0_pay1 (View.ld x0 r0_0) (View.ld x4 r0_1) -- `v16`
def k0_pay43 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : FVec F S256x128 .f32 :=
  k0_pay2 (View.ld x1 r0_2) -- `v18`
def k0_pay44 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : FVec F S256x128 .f32 :=
  k0_pay3 (View.ld x2 r0_2) -- `v20`
def k0_pay45 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : FVec F S256x128 .f32 :=
  k0_pay4 (View.ld x3 r0_2) -- `v22`
def k0_pay46 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : FVec F S1x384 .f32 :=
  k0_pay5 (View.ld x6 r0_4) -- `v27`
def k0_pay47 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : FVec F S256x384 .f32 :=
  k0_pay6 (View.ld x0 r0_0) (View.ld x4 r0_1) (View.ld x5 r0_3) -- `v37`
def k0_pay48 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : FVec F S256x1024 .f32 :=
  k0_pay7 (k0_pay46 x0 x1 x2 x3 x4 x5 x6 x7 x8 x9 x10 x11 x12) (k0_pay47 x0 x1 x2 x3 x4 x5 x6 x7 x8 x9 x10 x11 x12) (View.ld x7 r0_5) -- `v43`
def k0_pay49 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : FVec F S256x1024 .f32 :=
  k0_pay21 (k0_pay42 x0 x1 x2 x3 x4 x5 x6 x7 x8 x9 x10 x11 x12) (View.ld x5 r0_14) (View.ld x8 r0_15) (View.ld x9 r0_0) -- `v144`
def k0_pay50 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : FVec F S256x128 .f32 :=
  k0_pay22 (k0_pay42 x0 x1 x2 x3 x4 x5 x6 x7 x8 x9 x10 x11 x12) (k0_pay43 x0 x1 x2 x3 x4 x5 x6 x7 x8 x9 x10 x11 x12) (k0_pay44 x0 x1 x2 x3 x4 x5 x6 x7 x8 x9 x10 x11 x12) (k0_pay45 x0 x1 x2 x3 x4 x5 x6 x7 x8 x9 x10 x11 x12) (View.ld x5 r0_16) -- `v154`

/-- Window 13's staging buffer after the body, from the input windows' blocks: its 8 stores as pieces, LAST
    FIRST (Lib/Pipeline/FrameBody.lean `View.canon`; the payloads are the skeleton's and the values stated above). -/
def out0_13 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : Vec F S256x1024 .bf16 :=
  View.canon [⟨r0_13, k0_pay19 (k0_pay45 x0 x1 x2 x3 x4 x5 x6 x7 x8 x9 x10 x11 x12) (k0_pay17 (k0_pay48 x0 x1 x2 x3 x4 x5 x6 x7 x8 x9 x10 x11 x12)) (k0_pay18 (k0_pay43 x0 x1 x2 x3 x4 x5 x6 x7 x8 x9 x10 x11 x12) (k0_pay44 x0 x1 x2 x3 x4 x5 x6 x7 x8 x9 x10 x11 x12) (k0_pay48 x0 x1 x2 x3 x4 x5 x6 x7 x8 x9 x10 x11 x12))⟩,
    ⟨r0_12, k0_pay16 (k0_pay43 x0 x1 x2 x3 x4 x5 x6 x7 x8 x9 x10 x11 x12) (k0_pay44 x0 x1 x2 x3 x4 x5 x6 x7 x8 x9 x10 x11 x12) (k0_pay45 x0 x1 x2 x3 x4 x5 x6 x7 x8 x9 x10 x11 x12) (k0_pay48 x0 x1 x2 x3 x4 x5 x6 x7 x8 x9 x10 x11 x12)⟩,
    ⟨r0_11, k0_pay15 (k0_pay43 x0 x1 x2 x3 x4 x5 x6 x7 x8 x9 x10 x11 x12) (k0_pay44 x0 x1 x2 x3 x4 x5 x6 x7 x8 x9 x10 x11 x12) (k0_pay45 x0 x1 x2 x3 x4 x5 x6 x7 x8 x9 x10 x11 x12) (k0_pay48 x0 x1 x2 x3 x4 x5 x6 x7 x8 x9 x10 x11 x12)⟩,
    ⟨r0_10, k0_pay14 (k0_pay43 x0 x1 x2 x3 x4 x5 x6 x7 x8 x9 x10 x11 x12) (k0_pay44 x0 x1 x2 x3 x4 x5 x6 x7 x8 x9 x10 x11 x12) (k0_pay45 x0 x1 x2 x3 x4 x5 x6 x7 x8 x9 x10 x11 x12) (k0_pay48 x0 x1 x2 x3 x4 x5 x6 x7 x8 x9 x10 x11 x12)⟩,
    ⟨r0_9, k0_pay13 (k0_pay45 x0 x1 x2 x3 x4 x5 x6 x7 x8 x9 x10 x11 x12) (k0_pay11 (k0_pay46 x0 x1 x2 x3 x4 x5 x6 x7 x8 x9 x10 x11 x12) (k0_pay47 x0 x1 x2 x3 x4 x5 x6 x7 x8 x9 x10 x11 x12) (View.ld x7 r0_5)) (k0_pay12 (k0_pay43 x0 x1 x2 x3 x4 x5 x6 x7 x8 x9 x10 x11 x12) (k0_pay44 x0 x1 x2 x3 x4 x5 x6 x7 x8 x9 x10 x11 x12) (k0_pay46 x0 x1 x2 x3 x4 x5 x6 x7 x8 x9 x10 x11 x12) (k0_pay47 x0 x1 x2 x3 x4 x5 x6 x7 x8 x9 x10 x11 x12) (View.ld x7 r0_5))⟩,
    ⟨r0_8, k0_pay10 (k0_pay43 x0 x1 x2 x3 x4 x5 x6 x7 x8 x9 x10 x11 x12) (k0_pay44 x0 x1 x2 x3 x4 x5 x6 x7 x8 x9 x10 x11 x12) (k0_pay45 x0 x1 x2 x3 x4 x5 x6 x7 x8 x9 x10 x11 x12) (k0_pay46 x0 x1 x2 x3 x4 x5 x6 x7 x8 x9 x10 x11 x12) (k0_pay47 x0 x1 x2 x3 x4 x5 x6 x7 x8 x9 x10 x11 x12) (View.ld x7 r0_5)⟩,
    ⟨r0_7, k0_pay9 (k0_pay43 x0 x1 x2 x3 x4 x5 x6 x7 x8 x9 x10 x11 x12) (k0_pay44 x0 x1 x2 x3 x4 x5 x6 x7 x8 x9 x10 x11 x12) (k0_pay45 x0 x1 x2 x3 x4 x5 x6 x7 x8 x9 x10 x11 x12) (k0_pay46 x0 x1 x2 x3 x4 x5 x6 x7 x8 x9 x10 x11 x12) (k0_pay47 x0 x1 x2 x3 x4 x5 x6 x7 x8 x9 x10 x11 x12) (View.ld x7 r0_5)⟩,
    ⟨r0_6, k0_pay8 (k0_pay43 x0 x1 x2 x3 x4 x5 x6 x7 x8 x9 x10 x11 x12) (k0_pay44 x0 x1 x2 x3 x4 x5 x6 x7 x8 x9 x10 x11 x12) (k0_pay45 x0 x1 x2 x3 x4 x5 x6 x7 x8 x9 x10 x11 x12) (k0_pay46 x0 x1 x2 x3 x4 x5 x6 x7 x8 x9 x10 x11 x12) (k0_pay47 x0 x1 x2 x3 x4 x5 x6 x7 x8 x9 x10 x11 x12) (View.ld x7 r0_5)⟩]

/-- Its stores tile the buffer (checked by evaluation), so they cover it. -/
theorem cover0_13 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S256x1024.Idx) :
    ∃ pc ∈ ([⟨r0_13, p0⟩, ⟨r0_12, p1⟩, ⟨r0_11, p2⟩, ⟨r0_10, p3⟩, ⟨r0_9, p4⟩, ⟨r0_8, p5⟩, ⟨r0_7, p6⟩, ⟨r0_6, p7⟩] : List (View.Piece (Elt F) S256x1024 .bf16)), y ∈ pc.1.set :=
  View.cover_of_tiled [⟨r0_13, p0⟩, ⟨r0_12, p1⟩, ⟨r0_11, p2⟩, ⟨r0_10, p3⟩, ⟨r0_9, p4⟩, ⟨r0_8, p5⟩, ⟨r0_7, p6⟩, ⟨r0_6, p7⟩] S256x128.size (by rfl) y

/-- Window 14's staging buffer after the body, from the input windows' blocks: its 8 stores as pieces, LAST
    FIRST (Lib/Pipeline/FrameBody.lean `View.canon`; the payloads are the skeleton's and the values stated above). -/
def out0_14 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : Vec F S256x1024 .bf16 :=
  View.canon [⟨r0_13, k0_pay30 (k0_pay49 x0 x1 x2 x3 x4 x5 x6 x7 x8 x9 x10 x11 x12) (k0_pay50 x0 x1 x2 x3 x4 x5 x6 x7 x8 x9 x10 x11 x12)⟩,
    ⟨r0_12, k0_pay29 (k0_pay49 x0 x1 x2 x3 x4 x5 x6 x7 x8 x9 x10 x11 x12) (k0_pay50 x0 x1 x2 x3 x4 x5 x6 x7 x8 x9 x10 x11 x12)⟩,
    ⟨r0_11, k0_pay28 (k0_pay49 x0 x1 x2 x3 x4 x5 x6 x7 x8 x9 x10 x11 x12) (k0_pay50 x0 x1 x2 x3 x4 x5 x6 x7 x8 x9 x10 x11 x12)⟩,
    ⟨r0_10, k0_pay27 (k0_pay49 x0 x1 x2 x3 x4 x5 x6 x7 x8 x9 x10 x11 x12) (k0_pay50 x0 x1 x2 x3 x4 x5 x6 x7 x8 x9 x10 x11 x12)⟩,
    ⟨r0_9, k0_pay26 (k0_pay49 x0 x1 x2 x3 x4 x5 x6 x7 x8 x9 x10 x11 x12) (k0_pay50 x0 x1 x2 x3 x4 x5 x6 x7 x8 x9 x10 x11 x12)⟩,
    ⟨r0_8, k0_pay25 (k0_pay49 x0 x1 x2 x3 x4 x5 x6 x7 x8 x9 x10 x11 x12) (k0_pay50 x0 x1 x2 x3 x4 x5 x6 x7 x8 x9 x10 x11 x12)⟩,
    ⟨r0_7, k0_pay24 (k0_pay49 x0 x1 x2 x3 x4 x5 x6 x7 x8 x9 x10 x11 x12) (k0_pay50 x0 x1 x2 x3 x4 x5 x6 x7 x8 x9 x10 x11 x12)⟩,
    ⟨r0_6, k0_pay23 (k0_pay42 x0 x1 x2 x3 x4 x5 x6 x7 x8 x9 x10 x11 x12) (k0_pay43 x0 x1 x2 x3 x4 x5 x6 x7 x8 x9 x10 x11 x12) (k0_pay44 x0 x1 x2 x3 x4 x5 x6 x7 x8 x9 x10 x11 x12) (k0_pay45 x0 x1 x2 x3 x4 x5 x6 x7 x8 x9 x10 x11 x12) (View.ld x5 r0_14) (View.ld x8 r0_15) (View.ld x9 r0_0) (View.ld x5 r0_16)⟩]

/-- Its stores tile the buffer (checked by evaluation), so they cover it. -/
theorem cover0_14 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S256x1024.Idx) :
    ∃ pc ∈ ([⟨r0_13, p0⟩, ⟨r0_12, p1⟩, ⟨r0_11, p2⟩, ⟨r0_10, p3⟩, ⟨r0_9, p4⟩, ⟨r0_8, p5⟩, ⟨r0_7, p6⟩, ⟨r0_6, p7⟩] : List (View.Piece (Elt F) S256x1024 .bf16)), y ∈ pc.1.set :=
  View.cover_of_tiled [⟨r0_13, p0⟩, ⟨r0_12, p1⟩, ⟨r0_11, p2⟩, ⟨r0_10, p3⟩, ⟨r0_9, p4⟩, ⟨r0_8, p5⟩, ⟨r0_7, p6⟩, ⟨r0_6, p7⟩] S256x128.size (by rfl) y

/-- Window 15's staging buffer after the body, from the input windows' blocks: its 1 store as pieces, LAST
    FIRST (Lib/Pipeline/FrameBody.lean `View.canon`; the payloads are the skeleton's and the values stated above). -/
def out0_15 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : Vec F S256x512 .bf16 :=
  View.canon [⟨r0_17, k0_pay31 (k0_pay20 (k0_pay42 x0 x1 x2 x3 x4 x5 x6 x7 x8 x9 x10 x11 x12) (View.ld x5 r0_14) (View.ld x8 r0_15)) (View.ld x10 r0_17)⟩]

/-- Its stores tile the buffer (checked by evaluation), so they cover it. -/
theorem cover0_15 (p0 : Vec F S256x512 .bf16) (y : S256x512.Idx) :
    ∃ pc ∈ ([⟨r0_17, p0⟩] : List (View.Piece (Elt F) S256x512 .bf16)), y ∈ pc.1.set :=
  View.cover_of_tiled [⟨r0_17, p0⟩] S256x512.size (by rfl) y

/-- Window 16's staging buffer after the body, from the input windows' blocks: its 1 store as pieces, LAST
    FIRST (Lib/Pipeline/FrameBody.lean `View.canon`; the payloads are the skeleton's and the values stated above). -/
def out0_16 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : Vec F S256x512 .bf16 :=
  View.canon [⟨r0_17, k0_pay32 (k0_pay42 x0 x1 x2 x3 x4 x5 x6 x7 x8 x9 x10 x11 x12) (View.ld x5 r0_18)⟩]

/-- Its stores tile the buffer (checked by evaluation), so they cover it. -/
theorem cover0_16 (p0 : Vec F S256x512 .bf16) (y : S256x512.Idx) :
    ∃ pc ∈ ([⟨r0_17, p0⟩] : List (View.Piece (Elt F) S256x512 .bf16)), y ∈ pc.1.set :=
  View.cover_of_tiled [⟨r0_17, p0⟩] S256x512.size (by rfl) y

/-- Window 17's staging buffer after the body, from the input windows' blocks: its 1 store as pieces, LAST
    FIRST (Lib/Pipeline/FrameBody.lean `View.canon`; the payloads are the skeleton's and the values stated above). -/
def out0_17 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : Vec F S256x512 .bf16 :=
  View.canon [⟨r0_17, k0_pay33 (k0_pay42 x0 x1 x2 x3 x4 x5 x6 x7 x8 x9 x10 x11 x12) (View.ld x5 r0_19)⟩]

/-- Its stores tile the buffer (checked by evaluation), so they cover it. -/
theorem cover0_17 (p0 : Vec F S256x512 .bf16) (y : S256x512.Idx) :
    ∃ pc ∈ ([⟨r0_17, p0⟩] : List (View.Piece (Elt F) S256x512 .bf16)), y ∈ pc.1.set :=
  View.cover_of_tiled [⟨r0_17, p0⟩] S256x512.size (by rfl) y

/-- Window 18's staging buffer after the body, from the input windows' blocks: its 1 store as pieces, LAST
    FIRST (Lib/Pipeline/FrameBody.lean `View.canon`; the payloads are the skeleton's and the values stated above). -/
def out0_18 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : Vec F S256x512 .bf16 :=
  View.canon [⟨r0_17, k0_pay34 (k0_pay42 x0 x1 x2 x3 x4 x5 x6 x7 x8 x9 x10 x11 x12) (View.ld x5 r0_20)⟩]

/-- Its stores tile the buffer (checked by evaluation), so they cover it. -/
theorem cover0_18 (p0 : Vec F S256x512 .bf16) (y : S256x512.Idx) :
    ∃ pc ∈ ([⟨r0_17, p0⟩] : List (View.Piece (Elt F) S256x512 .bf16)), y ∈ pc.1.set :=
  View.cover_of_tiled [⟨r0_17, p0⟩] S256x512.size (by rfl) y

/-- Window 19's staging buffer after the body, from the input windows' blocks: its 1 store as pieces, LAST
    FIRST (Lib/Pipeline/FrameBody.lean `View.canon`; the payloads are the skeleton's and the values stated above). -/
def out0_19 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : Vec F S256x1024 .bf16 :=
  View.canon [⟨r0_0, k0_pay35 (k0_pay42 x0 x1 x2 x3 x4 x5 x6 x7 x8 x9 x10 x11 x12) (View.ld x5 r0_21)⟩]

/-- Its stores tile the buffer (checked by evaluation), so they cover it. -/
theorem cover0_19 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-- Window 20's staging buffer after the body, from the input windows' blocks: its 1 store as pieces, LAST
    FIRST (Lib/Pipeline/FrameBody.lean `View.canon`; the payloads are the skeleton's and the values stated above). -/
def out0_20 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : Vec F S256x512 .f32 :=
  View.canon [⟨r0_17, k0_pay38 (k0_pay36 (k0_pay42 x0 x1 x2 x3 x4 x5 x6 x7 x8 x9 x10 x11 x12) (View.ld x5 r0_22)) (k0_pay37 (View.ld x11 r0_23)) (View.ld x12 r0_24)⟩]

/-- Its stores tile the buffer (checked by evaluation), so they cover it. -/
theorem cover0_20 (p0 : Vec F S256x512 .f32) (y : S256x512.Idx) :
    ∃ pc ∈ ([⟨r0_17, p0⟩] : List (View.Piece (Elt F) S256x512 .f32)), y ∈ pc.1.set :=
  View.cover_of_tiled [⟨r0_17, p0⟩] S256x512.size (by rfl) y

/-- Window 21's staging buffer after the body, from the input windows' blocks: its 1 store as pieces, LAST
    FIRST (Lib/Pipeline/FrameBody.lean `View.canon`; the payloads are the skeleton's and the values stated above). -/
def out0_21 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : Vec F S256x1024 .bf16 :=
  View.canon [⟨r0_0, k0_pay39 (k0_pay42 x0 x1 x2 x3 x4 x5 x6 x7 x8 x9 x10 x11 x12) (View.ld x5 r0_25)⟩]

/-- Its stores tile the buffer (checked by evaluation), so they cover it. -/
theorem cover0_21 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-- Window 22's staging buffer after the body, from the input windows' blocks: its 1 store as pieces, LAST
    FIRST (Lib/Pipeline/FrameBody.lean `View.canon`; the payloads are the skeleton's and the values stated above). -/
def out0_22 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : Vec F S256x1024 .bf16 :=
  View.canon [⟨r0_0, k0_pay40 (k0_pay42 x0 x1 x2 x3 x4 x5 x6 x7 x8 x9 x10 x11 x12) (View.ld x5 r0_26)⟩]

/-- Its stores tile the buffer (checked by evaluation), so they cover it. -/
theorem cover0_22 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-- Window 23's staging buffer after the body, from the input windows' blocks: its 1 store as pieces, LAST
    FIRST (Lib/Pipeline/FrameBody.lean `View.canon`; the payloads are the skeleton's and the values stated above). -/
def out0_23 (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) : Vec F S256x1024 .bf16 :=
  View.canon [⟨r0_0, k0_pay41 (k0_pay42 x0 x1 x2 x3 x4 x5 x6 x7 x8 x9 x10 x11 x12) (View.ld x5 r0_27)⟩]

/-- Its stores tile the buffer (checked by evaluation), so they cover it. -/
theorem cover0_23 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S1x1024 .f32) (harg5 : arg5.IsWhole) (arg6 : Memref sig .tc .vmem S1024x6528 .bf16) (harg6 : arg6.IsWhole) (arg7 : Memref sig .tc .vmem S1x384 .f32) (harg7 : arg7.IsWhole) (arg8 : Memref sig .tc .vmem S384x1024 .bf16) (harg8 : arg8.IsWhole) (arg9 : Memref sig .tc .vmem S1x256 .f32) (harg9 : arg9.IsWhole) (arg10 : Memref sig .tc .vmem S256x1024 .bf16) (harg10 : arg10.IsWhole) (arg11 : Memref sig .tc .vmem S256x512 .bf16) (harg11 : arg11.IsWhole) (arg12 : Memref sig .tc .vmem S128x512 .bf16) (harg12 : arg12.IsWhole) (arg13 : Memref sig .tc .vmem S1x512 .f32) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x512 .bf16) (harg16 : arg16.IsWhole) (arg17 : Memref sig .tc .vmem S256x512 .bf16) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x1024 .bf16) (harg20 : arg20.IsWhole) (arg21 : Memref sig .tc .vmem S256x512 .f32) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole)
    (x0 : Vec F S256x1024 .f32) (x1 : Vec F S256x128 .f32) (x2 : Vec F S256x128 .f32) (x3 : Vec F S256x128 .f32) (x4 : Vec F S1x1024 .f32) (x5 : Vec F S1024x6528 .bf16) (x6 : Vec F S1x384 .f32) (x7 : Vec F S384x1024 .bf16) (x8 : Vec F S1x256 .f32) (x9 : Vec F S256x1024 .bf16) (x10 : Vec F S256x512 .bf16) (x11 : Vec F S128x512 .bf16) (x12 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12) ∗ owns (c : Thread nD τ) arg17 fullShare (out0_16 x0 x1 x2 x3 x4 x5 x6 x7 x8 x9 x10 x11 x12) ∗ owns (c : Thread nD τ) arg18 fullShare (out0_17 x0 x1 x2 x3 x4 x5 x6 x7 x8 x9 x10 x11 x12) ∗ owns (c : Thread nD τ) arg19 fullShare (out0_18 x0 x1 x2 x3 x4 x5 x6 x7 x8 x9 x10 x11 x12) ∗ owns (c : Thread nD τ) arg20 fullShare (out0_19 x0 x1 x2 x3 x4 x5 x6 x7 x8 x9 x10 x11 x12) ∗ owns (c : Thread nD τ) arg21 fullShare (out0_20 x0 x1 x2 x3 x4 x5 x6 x7 x8 x9 x10 x11 x12) ∗ owns (c : Thread nD τ) arg22 fullShare (out0_21 x0 x1 x2 x3 x4 x5 x6 x7 x8 x9 x10 x11 x12) ∗ owns (c : Thread nD τ) arg23 fullShare (out0_22 x0 x1 x2 x3 x4 x5 x6 x7 x8 x9 x10 x11 x12) ∗ owns (c : Thread nD τ) arg24 fullShare (out0_23 x0 x1 x2 x3 x4 x5 x6 x7 x8 x9 x10 x11 x12)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _ _ _ _ _ _ _ _)).trans ?_
    rfl
  isplitl [H14]
  · iexists _; isplitr
    swap; · iexact H14
    ipureintro
    refine (View.read_writes_eq_canon _ _ _ (cover0_14 _ _ _ _ _ _ _ _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  iexists _; isplitr
  swap; · iexact H23
  ipureintro
  refine (View.read_writes_eq_canon _ _ _ (cover0_23 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 20000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 8000000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_InIdeal`'s statement (Defs.lean) at any `F` — Proof.lean cites it at `Bits`:
    `theorem Cert.Proof.claim : Cert.Claim := ⟨Cert.InIdeal.Gen.facts, fun m ρ _ => Cert.InIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.InIdeal.Launched

end
-- ==== Proof.InHost.lean ====
/-
  The arrays that the input projection's launch finds: the rotation tables, the input weights with their columns regrouped
  and padded, and the head weights laid in lanes of 128, each read down to the arguments.
-/
module

public import proofs.«01_k».proof.Proof.InRow
public import proofs.«01_k».proof.Proof.InIdealLaunch
public import proofs.«01_k».proof.Proof.OutArray
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.KernelVsHost
public import Idealize.ShloMosaic.Lib.StableHlo.ReadAt

@[expose] public section

set_option maxRecDepth 16384

noncomputable section

namespace Cert.InIdeal.Host

open Cert.OutIdeal.Out (batch place flat_apply)
open Cert.InIdeal Cert.InIdeal.Gen Cert.InIdeal.Launched Cert.InRow
open Idealize.ShloMosaic hiding ix1 ix2 ix3 ix4 eq_ix2
open Idealize.ShloMosaic.TcCoe Idealize.ShloMosaic.ValueIdx Idealize.ShloMosaic.Tactic Idealize.SL.Sem
open scoped BigOperators

/-! ## Layout by index -/

/-- A column of matrices laid side by side lies in the piece that starts `pre` columns in. -/
theorem cols_apply {α : Type} {N M n : ℕ} (xs : List ((s : Shape) × (s.Idx → α)))
    (h : Shape.Concatenates (xs.map (·.1)) ⟨2, ![N, M]⟩ 1) (k : ℕ) (hk : k < xs.length) (x : (⟨2, ![N, n]⟩ : Shape).Idx → α)
    (hx : xs[k] = ⟨⟨2, ![N, n]⟩, x⟩) (pre : ℕ)
    (hpre : (((xs.take k).map (·.1)).map fun s => if h : s.rank = 2 then s.size ((1 : Fin 2).cast h.symm) else 0).sum = pre)
    (i : Fin N) (e : Fin n) (j : Fin M) (hj : pre + e.val = j.val) :
    concatenate ⟨2, ![N, M]⟩ 1 xs h (ix2 i j) = x (ix2 i e) := by
  refine concatenate_apply_piece (t := ⟨2, ![N, M]⟩) 1 xs h (ix2 i j) k hk _ x hx rfl pre hpre (ix2 i e) (fun b hb => ?_) hj
  match b with
  | ⟨0, _⟩ => rfl
  | ⟨1, _⟩ => exact absurd rfl hb

/-- Columns cut out of a matrix. -/
theorem cut_apply {α : Type} {N M n : ℕ} (o : ℕ) (x : (⟨2, ![N, M]⟩ : Shape).Idx → α)
    (h : (⟨2, ![N, M]⟩ : Shape).Slices ![0, o] ⟨2, ![N, n]⟩) (i : Fin N) (e : Fin n) (j : Fin M) (hj : j.val = o + e.val) :
    extractStridedSlice ⟨2, ![N, n]⟩ ![0, o] x h (ix2 i e) = x (ix2 i j) := by
  refine extractStridedSlice_apply _ x h _ _ fun a => ?_
  match a with
  | ⟨0, _⟩ => exact (Nat.zero_add _).symm
  | ⟨1, _⟩ => exact hj

/-- Lanes cut out of every head. -/
theorem cut_lanes_apply {α : Type} {N M n : ℕ} (o : ℕ) (x : (⟨3, ![N, 8, M]⟩ : Shape).Idx → α)
    (h : (⟨3, ![N, 8, M]⟩ : Shape).Slices ![0, 0, o] ⟨3, ![N, 8, n]⟩) (i : Fin N) (q : Fin 8) (e : Fin n) (j : Fin M) (hj : j.val = o + e.val) :
    extractStridedSlice ⟨3, ![N, 8, n]⟩ ![0, 0, o] x h (ix3 i q e) = x (ix3 i q j) := by
  refine extractStridedSlice_apply _ x h _ _ fun a => ?_
  match a with
  | ⟨0, _⟩ => exact (Nat.zero_add _).symm
  | ⟨1, _⟩ => exact (Nat.zero_add _).symm
  | ⟨2, _⟩ => exact hj

/-- Columns taken as eight heads. -/
theorem split_apply {α : Type} {N M n : ℕ} (hM : M = 8 * n) (x : (⟨2, ![N, M]⟩ : Shape).Idx → α)
    (h : (⟨2, ![N, M]⟩ : Shape).ShapeCasts ⟨3, ![N, 8, n]⟩) (i : Fin N) (q : Fin 8) (e : Fin n) (j : Fin M) (hj : j.val = n * q.val + e.val) :
    shapeCast ⟨3, ![N, 8, n]⟩ x h (ix3 i q e) = x (ix2 i j) := by
  refine shapeCast_apply x h _ _ ?_
  rw [Shape.rowMajor_val_two, Shape.rowMajor_val_three]
  show i.val * M + j.val = (i.val * 8 + q.val) * n + e.val
  rw [hj, hM]; ring

/-- Eight heads laid side by side. -/
theorem join_apply {α : Type} {N M n : ℕ} (hM : M = 8 * n) (x : (⟨3, ![N, 8, n]⟩ : Shape).Idx → α)
    (h : (⟨3, ![N, 8, n]⟩ : Shape).ShapeCasts ⟨2, ![N, M]⟩) (i : Fin N) (q : Fin 8) (e : Fin n) (j : Fin M) (hj : j.val = n * q.val + e.val) :
    shapeCast ⟨2, ![N, M]⟩ x h (ix2 i j) = x (ix3 i q e) := by
  refine shapeCast_apply x h _ _ ?_
  rw [Shape.rowMajor_val_two, Shape.rowMajor_val_three]
  show (i.val * 8 + q.val) * n + e.val = i.val * M + j.val
  rw [hj, hM]; ring

/-- The zeros between the pieces. -/
theorem zeros_apply {T : Shape} (h : (⟨0, ![]⟩ : Shape).BroadcastsInDim T ![]) (j : T.Idx) :
    broadcastInDim T ![] h (constant (F := Ideal) ⟨0, ![]⟩ .f32 0x00000000#32) j = (0 : EReal) :=
  (broadcastInDim_scalar_apply _ _ _).trans Ideal.ofBits_zero_f32

/-- The zero that fills up a head's lanes. -/
theorem fill_zero (i : (⟨0, ![]⟩ : Shape).Idx) : sitofp (F := Ideal) .f32 (constantI ⟨0, ![]⟩ 32 0#32) i = (0 : EReal) := by
  show (((0#32 : BitVec 32).toInt : ℝ) : EReal) = 0
  simp

variable (m : (ℓ : Loc nD τ sig) → Buf (Elt Ideal) ℓ) (c : Dev nD)

/-- The arguments, as arrays of their shapes. -/
abbrev cosA : Vec Ideal S16384x32 .f32 := m ((c : Thread nD τ).loc main_arg1)
abbrev sinA : Vec Ideal S16384x32 .f32 := m ((c : Thread nD τ).loc main_arg2)
abbrev winA : Vec Ideal S1x1024x6320 .f32 := m ((c : Thread nD τ).loc main_arg4)
abbrev uqA : Vec Ideal S1x384x768 .f32 := m ((c : Thread nD τ).loc main_arg6)
abbrev ukvA : Vec Ideal S1x256x1024 .f32 := m ((c : Thread nD τ).loc main_arg8)
abbrev wggA : Vec Ideal S1x16x512 .f32 := m ((c : Thread nD τ).loc main_arg9)

theorem rows_x (n : Fin 16384) (e : Fin 1024) :
    V m c main_v12 (ix2 n e) = m ((c : Thread nD τ).loc main_arg0) (ix3 (batch n) (place n) e) := by
  unfold V
  simp only [hostOps0, hostOps0_1, hostOps0_2, hostOps0_3, hostOps0_4, hostOps0_5, hostOps0_6, List.flatten_cons,
    List.flatten_nil, List.append_nil, List.cons_append, List.nil_append]
  after_reads_simp
  exact flat_apply _ _ n e

theorem gate_x (e : Fin 1024) : V m c main_v56 (ix2 0 e) = m ((c : Thread nD τ).loc main_arg3) (ix2 0 e) := by
  unfold V
  simp only [hostOps0, hostOps0_1, hostOps0_2, hostOps0_3, hostOps0_4, hostOps0_5, hostOps0_6, List.flatten_cons,
    List.flatten_nil, List.append_nil, List.cons_append, List.nil_append]
  after_reads_simp
  exact (shapeCast_a_1a_apply _ _ 0 e).trans (shapeCast_1a_a_apply _ _ e)

theorem gate_q (e : Fin 384) : V m c main_v58 (ix2 0 e) = m ((c : Thread nD τ).loc main_arg5) (ix2 0 e) := by
  unfold V
  simp only [hostOps0, hostOps0_1, hostOps0_2, hostOps0_3, hostOps0_4, hostOps0_5, hostOps0_6, List.flatten_cons,
    List.flatten_nil, List.append_nil, List.cons_append, List.nil_append]
  after_reads_simp
  exact (shapeCast_a_1a_apply _ _ 0 e).trans (shapeCast_1a_a_apply _ _ e)

theorem gate_kv (e : Fin 256) : V m c main_v60 (ix2 0 e) = m ((c : Thread nD τ).loc main_arg7) (ix2 0 e) := by
  unfold V
  simp only [hostOps0, hostOps0_1, hostOps0_2, hostOps0_3, hostOps0_4, hostOps0_5, hostOps0_6, List.flatten_cons,
    List.flatten_nil, List.append_nil, List.cons_append, List.nil_append]
  after_reads_simp
  exact (shapeCast_a_1a_apply _ _ 0 e).trans (shapeCast_1a_a_apply _ _ e)

theorem bias (e : Fin 512) : V m c main_v62 (ix2 0 e) = m ((c : Thread nD τ).loc main_arg10) (ix2 0 e) := by
  unfold V
  simp only [hostOps0, hostOps0_1, hostOps0_2, hostOps0_3, hostOps0_4, hostOps0_5, hostOps0_6, List.flatten_cons,
    List.flatten_nil, List.append_nil, List.cons_append, List.nil_append]
  after_reads_simp
  exact (shapeCast_a_1a_apply _ _ 0 e).trans (shapeCast_1a_a_apply _ _ e)

/-! ## The input weights, regrouped -/

theorem win_cq (i : Fin 1024) (e : Fin 384) :
    V m c main_v33 (ix2 i ⟨0 + e.val, by omega⟩) = winA m c (ix3 0 i ⟨0 + e.val, by omega⟩) := by
  unfold V
  simp only [hostOps0, hostOps0_1, hostOps0_2, hostOps0_3, hostOps0_4, hostOps0_5, hostOps0_6, List.flatten_cons,
    List.flatten_nil, List.append_nil, List.cons_append, List.nil_append]
  after_reads_simp
  rw [truncf_apply]
  refine Eq.trans (cols_apply _ _ 0 (by show 0 < 11; decide) _ rfl 0 rfl i e _ rfl) ?_
  show StableHlo.upto _ _ _ (Proc.devRef .tc main_v14) _ = _
  after_reads_simp
  exact (cut_apply 0 _ _ i e ⟨0 + e.val, by omega⟩ rfl).trans (shapeCast_1ab_ab_apply _ _ i _)

theorem win_ckv (i : Fin 1024) (e : Fin 256) :
    V m c main_v33 (ix2 i ⟨384 + e.val, by omega⟩) = winA m c (ix3 0 i ⟨384 + e.val, by omega⟩) := by
  unfold V
  simp only [hostOps0, hostOps0_1, hostOps0_2, hostOps0_3, hostOps0_4, hostOps0_5, hostOps0_6, List.flatten_cons,
    List.flatten_nil, List.append_nil, List.cons_append, List.nil_append]
  after_reads_simp
  rw [truncf_apply]
  refine Eq.trans (cols_apply _ _ 1 (by show 1 < 11; decide) _ rfl 384 rfl i e _ rfl) ?_
  show StableHlo.upto _ _ _ (Proc.devRef .tc main_v15) _ = _
  after_reads_simp
  exact (cut_apply 384 _ _ i e ⟨384 + e.val, by omega⟩ rfl).trans (shapeCast_1ab_ab_apply _ _ i _)

theorem win_zm (i : Fin 1024) (e : Fin 512) :
    V m c main_v33 (ix2 i ⟨896 + e.val, by omega⟩) = winA m c (ix3 0 i ⟨672 + e.val, by omega⟩) := by
  unfold V
  simp only [hostOps0, hostOps0_1, hostOps0_2, hostOps0_3, hostOps0_4, hostOps0_5, hostOps0_6, List.flatten_cons,
    List.flatten_nil, List.append_nil, List.cons_append, List.nil_append]
  after_reads_simp
  rw [truncf_apply]
  refine Eq.trans (cols_apply _ _ 4 (by show 4 < 11; decide) _ rfl 896 rfl i e _ rfl) ?_
  show StableHlo.upto _ _ _ (Proc.devRef .tc main_v17) _ = _
  after_reads_simp
  exact (cut_apply 672 _ _ i e ⟨672 + e.val, by omega⟩ rfl).trans (shapeCast_1ab_ab_apply _ _ i _)

theorem win_kg (i : Fin 1024) (e : Fin 512) :
    V m c main_v33 (ix2 i ⟨1920 + e.val, by omega⟩) = winA m c (ix3 0 i ⟨1696 + e.val, by omega⟩) := by
  unfold V
  simp only [hostOps0, hostOps0_1, hostOps0_2, hostOps0_3, hostOps0_4, hostOps0_5, hostOps0_6, List.flatten_cons,
    List.flatten_nil, List.append_nil, List.cons_append, List.nil_append]
  after_reads_simp
  rw [truncf_apply]
  refine Eq.trans (cols_apply _ _ 6 (by show 6 < 11; decide) _ rfl 1920 rfl i e _ rfl) ?_
  show StableHlo.upto _ _ _ (Proc.devRef .tc main_v19) _ = _
  after_reads_simp
  exact (cut_apply 1696 _ _ i e ⟨1696 + e.val, by omega⟩ rfl).trans (shapeCast_1ab_ab_apply _ _ i _)

theorem win_vg (i : Fin 1024) (e : Fin 1024) :
    V m c main_v33 (ix2 i ⟨2432 + e.val, by omega⟩) = winA m c (ix3 0 i ⟨2208 + e.val, by omega⟩) := by
  unfold V
  simp only [hostOps0, hostOps0_1, hostOps0_2, hostOps0_3, hostOps0_4, hostOps0_5, hostOps0_6, List.flatten_cons,
    List.flatten_nil, List.append_nil, List.cons_append, List.nil_append]
  after_reads_simp
  rw [truncf_apply]
  refine Eq.trans (cols_apply _ _ 7 (by show 7 < 11; decide) _ rfl 2432 rfl i e _ rfl) ?_
  show StableHlo.upto _ _ _ (Proc.devRef .tc main_v20) _ = _
  after_reads_simp
  exact (cut_apply 2208 _ _ i e ⟨2208 + e.val, by omega⟩ rfl).trans (shapeCast_1ab_ab_apply _ _ i _)

theorem win_zg (i : Fin 1024) (e : Fin 1024) :
    V m c main_v33 (ix2 i ⟨3456 + e.val, by omega⟩) = winA m c (ix3 0 i ⟨3248 + e.val, by omega⟩) := by
  unfold V
  simp only [hostOps0, hostOps0_1, hostOps0_2, hostOps0_3, hostOps0_4, hostOps0_5, hostOps0_6, List.flatten_cons,
    List.flatten_nil, List.append_nil, List.cons_append, List.nil_append]
  after_reads_simp
  rw [truncf_apply]
  refine Eq.trans (cols_apply _ _ 8 (by show 8 < 11; decide) _ rfl 3456 rfl i e _ rfl) ?_
  show StableHlo.upto _ _ _ (Proc.devRef .tc main_v22) _ = _
  after_reads_simp
  exact (cut_apply 3248 _ _ i e ⟨3248 + e.val, by omega⟩ rfl).trans (shapeCast_1ab_ab_apply _ _ i _)

theorem win_gm (i : Fin 1024) (e : Fin 1024) :
    V m c main_v33 (ix2 i ⟨4480 + e.val, by omega⟩) = winA m c (ix3 0 i ⟨4272 + e.val, by omega⟩) := by
  unfold V
  simp only [hostOps0, hostOps0_1, hostOps0_2, hostOps0_3, hostOps0_4, hostOps0_5, hostOps0_6, List.flatten_cons,
    List.flatten_nil, List.append_nil, List.cons_append, List.nil_append]
  after_reads_simp
  rw [truncf_apply]
  refine Eq.trans (cols_apply _ _ 9 (by show 9 < 11; decide) _ rfl 4480 rfl i e _ rfl) ?_
  show StableHlo.upto _ _ _ (Proc.devRef .tc main_v23) _ = _
  after_reads_simp
  exact (cut_apply 4272 _ _ i e ⟨4272 + e.val, by omega⟩ rfl).trans (shapeCast_1ab_ab_apply _ _ i _)

set_option maxHeartbeats 1000000 in
theorem win_gg (i : Fin 1024) (e : Fin 1024) :
    V m c main_v33 (ix2 i ⟨5504 + e.val, by omega⟩) = winA m c (ix3 0 i ⟨5296 + e.val, by omega⟩) := by
  unfold V
  simp only [hostOps0, hostOps0_1, hostOps0_2, hostOps0_3, hostOps0_4, hostOps0_5, hostOps0_6, List.flatten_cons,
    List.flatten_nil, List.append_nil, List.cons_append, List.nil_append]
  after_reads_simp
  rw [truncf_apply]
  refine Eq.trans (cols_apply _ _ 10 (by show 10 < 11; decide) _ rfl 5504 rfl i e _ rfl) ?_
  show StableHlo.upto _ _ _ (Proc.devRef .tc main_v24) _ = _
  after_reads_simp
  exact (cut_apply 5296 _ _ i e ⟨5296 + e.val, by omega⟩ rfl).trans (shapeCast_1ab_ab_apply _ _ i _)

theorem win_qg (i : Fin 1024) (e : Fin 512) :
    V m c main_v33 (ix2 i ⟨1408 + e.val, by omega⟩)
      = winA m c (ix3 0 i ⟨1184 + e.val, by omega⟩) * Ideal.ofBits .f32 0x3DB504F3#32 := by
  unfold V
  simp only [hostOps0, hostOps0_1, hostOps0_2, hostOps0_3, hostOps0_4, hostOps0_5, hostOps0_6, List.flatten_cons,
    List.flatten_nil, List.append_nil, List.cons_append, List.nil_append]
  after_reads_simp
  rw [truncf_apply]
  refine Eq.trans (cols_apply _ _ 5 (by show 5 < 11; decide) _ rfl 1408 rfl i e _ rfl) ?_
  show StableHlo.upto _ _ _ (Proc.devRef .tc main_v31) _ = _
  after_reads_simp
  rw [mulf_apply]
  refine congrArg₂ (· * ·) ?_ (broadcastInDim_scalar_apply _ _ _)
  exact (cut_apply 1184 _ _ i e ⟨1184 + e.val, by omega⟩ rfl).trans (shapeCast_1ab_ab_apply _ _ i _)

/-- The position columns lie on lanes 64 to 96. -/
theorem win_kr (i : Fin 1024) (l : Fin 128) :
    V m c main_v33 (ix2 i ⟨640 + l.val, by omega⟩)
      = lanes (fun _ => 0) (fun j => winA m c (ix3 0 i ⟨640 + j.val, by omega⟩)) l := by
  unfold V
  simp only [hostOps0, hostOps0_1, hostOps0_2, hostOps0_3, hostOps0_4, hostOps0_5, hostOps0_6, List.flatten_cons,
    List.flatten_nil, List.append_nil, List.cons_append, List.nil_append]
  after_reads_simp
  rw [truncf_apply]
  refine Eq.trans (cols_apply _ _ 2 (by show 2 < 11; decide) _ rfl 640 rfl i l _ rfl) ?_
  show StableHlo.upto _ _ _ (Proc.devRef .tc main_v27) _ = _
  after_reads_simp
  rcases lt_or_ge l.val 64 with h | h
  · rw [lanes_low _ _ h]
    refine Eq.trans (cols_apply _ _ 0 (by show 0 < 3; decide) _ rfl 0 rfl i (⟨l.val, h⟩ : Fin 64) _ (Nat.zero_add _)) ?_
    show HloOp.result _ _ (Proc.devRef .tc main_v25) _ = _
    after_reads_simp
    exact zeros_apply _ _
  rcases lt_or_ge l.val 96 with h' | h'
  · rw [lanes_mid _ _ h h']
    refine Eq.trans (cols_apply _ _ 1 (by show 1 < 3; decide) _ rfl 64 rfl i (⟨l.val - 64, by omega⟩ : Fin 32) _ (by show 64 + (l.val - 64) = l.val; omega)) ?_
    show HloOp.result _ _ (Proc.devRef .tc main_v16) _ = _
    after_reads_simp
    exact (cut_apply 640 _ _ i _ ⟨640 + (l.val - 64), by omega⟩ rfl).trans (shapeCast_1ab_ab_apply _ _ i _)
  · rw [lanes_high _ _ h']
    refine Eq.trans (cols_apply _ _ 2 (by show 2 < 3; decide) _ rfl 96 rfl i (⟨l.val - 96, by omega⟩ : Fin 32) _ (by show 96 + (l.val - 96) = l.val; omega)) ?_
    show HloOp.result _ _ (Proc.devRef .tc main_v26) _ = _
    after_reads_simp
    exact zeros_apply _ _

/-- The decay's columns, with zeros behind. -/
theorem win_al (i : Fin 1024) (j : Fin 16) :
    V m c main_v33 (ix2 i ⟨768 + j.val, by omega⟩) = winA m c (ix3 0 i ⟨3232 + j.val, by omega⟩) := by
  unfold V
  simp only [hostOps0, hostOps0_1, hostOps0_2, hostOps0_3, hostOps0_4, hostOps0_5, hostOps0_6, List.flatten_cons,
    List.flatten_nil, List.append_nil, List.cons_append, List.nil_append]
  after_reads_simp
  rw [truncf_apply]
  refine Eq.trans (cols_apply _ _ 3 (by show 3 < 11; decide) _ rfl 768 rfl i (⟨j.val, by omega⟩ : Fin 128) _ rfl) ?_
  show StableHlo.upto _ _ _ (Proc.devRef .tc main_v29) _ = _
  after_reads_simp
  refine Eq.trans (cols_apply _ _ 0 (by show 0 < 2; decide) _ rfl 0 rfl i j _ (Nat.zero_add _)) ?_
  exact (cut_apply 3232 _ _ i j ⟨3232 + j.val, by omega⟩ rfl).trans (shapeCast_1ab_ab_apply _ _ i _)

/-! ## The head weights -/

/-- The query weights: a head's 96 columns, scaled, in 128 lanes. -/
theorem wuq (i : Fin 384) (q : Fin 8) (l : Fin 128) :
    V m c main_v40 (ix2 i ⟨128 * q.val + l.val, by omega⟩)
      = lanes (fun j => uqA m c (ix3 0 i ⟨96 * q.val + j.val, by omega⟩) * Ideal.ofBits .f32 0x3DD105EC#32)
          (fun j => uqA m c (ix3 0 i ⟨96 * q.val + (64 + j.val), by omega⟩) * Ideal.ofBits .f32 0x3DD105EC#32) l := by
  unfold V
  simp only [hostOps0, hostOps0_1, hostOps0_2, hostOps0_3, hostOps0_4, hostOps0_5, hostOps0_6, List.flatten_cons,
    List.flatten_nil, List.append_nil, List.cons_append, List.nil_append]
  after_reads_simp
  simp -implicitDefEqProofs only [StableHlo.TRef.toBuf, StableHlo.TRef.ofBuf, cast_cast, cast_eq]
  rw [truncf_apply]
  refine Eq.trans (join_apply (n := 128) rfl _ _ i q l _ rfl) ?_
  have inner : ∀ (h : S384x768.ShapeCasts S384x8x96) (k : Fin 96), shapeCast S384x8x96
      (mulf (F := Ideal) (φ := .f32) (shapeCast S384x768 (uqA m c) shapeCasts_S1x384x768_S384x768)
        (broadcastInDim S384x768 ![] bcast_S_S384x768 (constant S_ .f32 0x3DD105EC#32))) h (ix3 i q k)
      = uqA m c (ix3 0 i ⟨96 * q.val + k.val, by omega⟩) * Ideal.ofBits .f32 0x3DD105EC#32 := fun h k => by
    refine (split_apply (n := 96) rfl _ _ i q k ⟨96 * q.val + k.val, by omega⟩ rfl).trans ?_
    rw [mulf_apply]
    exact congrArg₂ (· * ·) (shapeCast_1ab_ab_apply _ _ i _) (broadcastInDim_scalar_apply _ _ _)
  rcases lt_or_ge l.val 96 with h | h
  · refine Eq.trans (pad_apply_of_inside ![0, 0, 0] ![0, 0, 32] ![0, 0, 0] _ _ pads_S384x8x96_S384x8x128_000_000_0320 h_S_
      (ix3 i q l) (ix3 i q (⟨l.val, h⟩ : Fin 96)) fun a => ?_) ((inner _ _).trans ?_)
    · fin_cases a <;> simp <;> rfl
    · unfold lanes
      rcases lt_or_ge l.val 64 with h' | h'
      · rw [dif_pos h']
      · rw [dif_neg (by omega), dif_pos h]
        exact congrArg (fun k => uqA m c (ix3 0 i k) * _) (Fin.ext (by show 96 * q.val + l.val = 96 * q.val + (64 + (l.val - 64)); omega))
  · rw [lanes_high _ _ h]
    refine Eq.trans (pad_apply_of_not_inside (s := S384x8x96) (t := S384x8x128) ![0, 0, 0] ![0, 0, 32] ![0, 0, 0] _ _ pads_S384x8x96_S384x8x128_000_000_0320 h_S_
      (ix3 i q l) (2 : Fin 3) ?_) (fill_zero _)
    rintro ⟨-, -, h3⟩
    have h4 : (l.val - 0) / (0 + 1) < 96 := h3
    omega

/-- The key weights: a head's first 64 columns in 128 lanes. -/
theorem wuk (i : Fin 256) (q : Fin 8) (l : Fin 128) :
    V m c main_v48 (ix2 i ⟨128 * q.val + l.val, by omega⟩)
      = lanes (fun j => ukvA m c (ix3 0 i ⟨128 * q.val + j.val, by omega⟩)) (fun _ => 0) l := by
  unfold V
  simp only [hostOps0, hostOps0_1, hostOps0_2, hostOps0_3, hostOps0_4, hostOps0_5, hostOps0_6, List.flatten_cons,
    List.flatten_nil, List.append_nil, List.cons_append, List.nil_append]
  after_reads_simp
  simp -implicitDefEqProofs only [StableHlo.TRef.toBuf, StableHlo.TRef.ofBuf, cast_cast, cast_eq]
  rw [truncf_apply]
  refine Eq.trans (join_apply (n := 128) rfl _ _ i q l _ rfl) ?_
  rcases lt_or_ge l.val 64 with h | h
  · rw [lanes_low _ _ h]
    refine Eq.trans (pad_apply_of_inside ![0, 0, 0] ![0, 0, 64] ![0, 0, 0] _ _ pads_S256x8x64_S256x8x128_000_000_0640 h_S_
      (ix3 i q l) (ix3 i q (⟨l.val, h⟩ : Fin 64)) fun a => ?_) ?_
    · fin_cases a <;> simp <;> rfl
    refine Eq.trans (split_apply (n := 64) rfl _ _ i q _ ⟨64 * q.val + l.val, by omega⟩ rfl) ?_
    refine Eq.trans (join_apply (n := 64) rfl _ _ i q ⟨l.val, h⟩ _ rfl) ?_
    refine Eq.trans (cut_lanes_apply 0 _ _ i q _ (⟨l.val, by omega⟩ : Fin 128) (Nat.zero_add _).symm) ?_
    exact (split_apply (n := 128) rfl _ _ i q _ ⟨128 * q.val + l.val, by omega⟩ rfl).trans (shapeCast_1ab_ab_apply _ _ i _)
  · have e0 : lanes (fun j => ukvA m c (ix3 0 i ⟨128 * q.val + j.val, by omega⟩)) (fun _ => 0) l = 0 := by
      unfold lanes; rw [dif_neg (by omega)]; split_ifs <;> rfl
    rw [e0]
    refine Eq.trans (pad_apply_of_not_inside (s := S256x8x64) (t := S256x8x128) ![0, 0, 0] ![0, 0, 64] ![0, 0, 0] _ _ pads_S256x8x64_S256x8x128_000_000_0640 h_S_
      (ix3 i q l) (2 : Fin 3) ?_) (fill_zero _)
    rintro ⟨-, -, h3⟩
    have h4 : (l.val - 0) / (0 + 1) < 64 := h3
    omega

/-- The value weights: a head's last 64 columns. -/
theorem wuv (i : Fin 256) (q : Fin 8) (e : Fin 64) :
    V m c main_v51 (ix2 i ⟨64 * q.val + e.val, by omega⟩) = ukvA m c (ix3 0 i ⟨128 * q.val + (64 + e.val), by omega⟩) := by
  unfold V
  simp only [hostOps0, hostOps0_1, hostOps0_2, hostOps0_3, hostOps0_4, hostOps0_5, hostOps0_6, List.flatten_cons,
    List.flatten_nil, List.append_nil, List.cons_append, List.nil_append]
  after_reads_simp
  rw [truncf_apply]
  refine Eq.trans (join_apply (n := 64) rfl _ _ i q e _ rfl) ?_
  refine Eq.trans (cut_lanes_apply 64 _ _ i q _ (⟨64 + e.val, by omega⟩ : Fin 128) rfl) ?_
  exact (split_apply (n := 128) rfl _ _ i q _ ⟨128 * q.val + (64 + e.val), by omega⟩ rfl).trans (shapeCast_1ab_ab_apply _ _ i _)

/-- The decay's weights, with rows of zeros below. -/
theorem wgg_low (i : Fin 16) (e : Fin 512) : V m c main_v54 (ix2 ⟨i.val, by omega⟩ e) = wggA m c (ix3 0 i e) := by
  unfold V
  simp only [hostOps0, hostOps0_1, hostOps0_2, hostOps0_3, hostOps0_4, hostOps0_5, hostOps0_6, List.flatten_cons,
    List.flatten_nil, List.append_nil, List.cons_append, List.nil_append]
  after_reads_simp
  simp -implicitDefEqProofs only [StableHlo.TRef.toBuf, StableHlo.TRef.ofBuf, cast_cast, cast_eq]
  rw [truncf_apply]
  refine Eq.trans (pad_apply_of_inside ![0, 0] ![112, 0] ![0, 0] _ _ pads_S16x512_S128x512_01120_000 h_S_
    (ix2 (⟨i.val, by omega⟩ : Fin 128) e) (ix2 i e) fun a => ?_) (shapeCast_1ab_ab_apply _ _ i e)
  fin_cases a <;> simp <;> rfl

theorem wgg_high (i : Fin 128) (e : Fin 512) (h : 16 ≤ i.val) : V m c main_v54 (ix2 i e) = (0 : EReal) := by
  unfold V
  simp only [hostOps0, hostOps0_1, hostOps0_2, hostOps0_3, hostOps0_4, hostOps0_5, hostOps0_6, List.flatten_cons,
    List.flatten_nil, List.append_nil, List.cons_append, List.nil_append]
  after_reads_simp
  simp -implicitDefEqProofs only [StableHlo.TRef.toBuf, StableHlo.TRef.ofBuf, cast_cast, cast_eq]
  rw [truncf_apply]
  refine Eq.trans (pad_apply_of_not_inside (s := S16x512) (t := S128x512) ![0, 0] ![112, 0] ![0, 0] _ _ pads_S16x512_S128x512_01120_000 h_S_
      (ix2 i e) (0 : Fin 2) ?_) (fill_zero _)
  rintro ⟨-, -, h3⟩
  have h4 : (i.val - 0) / (0 + 1) < 16 := h3
  omega

/-! ## The rotation's tables -/

theorem table_c (n : Fin 16384) (l : Fin 128) : V m c main_v2 (ix2 n l) = tableC (fun j => cosA m c (ix2 n j)) l := by
  unfold V
  simp only [hostOps0, hostOps0_1, hostOps0_2, hostOps0_3, hostOps0_4, hostOps0_5, hostOps0_6, List.flatten_cons,
    List.flatten_nil, List.append_nil, List.cons_append, List.nil_append]
  after_reads_simp
  unfold tableC
  rcases lt_or_ge l.val 64 with h | h
  · rw [lanes_low _ _ h]
    refine Eq.trans (cols_apply _ _ 0 (by show 0 < 3; decide) _ rfl 0 rfl n (⟨l.val, h⟩ : Fin 64) _ (Nat.zero_add _)) ?_
    show HloOp.result _ _ (Proc.devRef .tc main_v0) _ = _
    after_reads_simp
    exact (broadcastInDim_scalar_apply _ _ _).trans Ideal.ofBits_one_f32
  rcases lt_or_ge l.val 96 with h' | h'
  · rw [lanes_mid _ _ h h']
    exact cols_apply _ _ 1 (by show 1 < 3; decide) _ rfl 64 rfl n (⟨l.val - 64, by omega⟩ : Fin 32) _
      (by show 64 + (l.val - 64) = l.val; omega)
  · rw [lanes_high _ _ h']
    refine Eq.trans (cols_apply _ _ 2 (by show 2 < 3; decide) _ rfl 96 rfl n (⟨l.val - 96, by omega⟩ : Fin 32) _ (by show 96 + (l.val - 96) = l.val; omega)) ?_
    show HloOp.result _ _ (Proc.devRef .tc main_v1) _ = _
    after_reads_simp
    exact zeros_apply _ _

theorem table_a (n : Fin 16384) (l : Fin 128) : V m c main_v7 (ix2 n l) = tableA (fun j => sinA m c (ix2 n j)) l := by
  unfold V
  simp only [hostOps0, hostOps0_1, hostOps0_2, hostOps0_3, hostOps0_4, hostOps0_5, hostOps0_6, List.flatten_cons,
    List.flatten_nil, List.append_nil, List.cons_append, List.nil_append]
  after_reads_simp
  unfold tableA
  rcases lt_or_ge l.val 64 with h | h
  · rw [dif_neg (by omega)]
    refine Eq.trans (cols_apply _ _ 0 (by show 0 < 3; decide) _ rfl 0 rfl n (⟨l.val, h⟩ : Fin 64) _ (Nat.zero_add _)) ?_
    show HloOp.result _ _ (Proc.devRef .tc main_v3) _ = _
    after_reads_simp
    exact zeros_apply _ _
  rcases lt_or_ge l.val 80 with h' | h'
  · rw [dif_pos ⟨h, h'⟩]
    refine Eq.trans (cols_apply _ _ 1 (by show 1 < 3; decide) _ rfl 64 rfl n (⟨l.val - 64, by omega⟩ : Fin 16) _ (by show 64 + (l.val - 64) = l.val; omega)) ?_
    show HloOp.result _ _ (Proc.devRef .tc main_v5) _ = _
    after_reads_simp
    exact congrArg (fun z : EReal => -z) (cut_apply 0 _ _ n _ (⟨l.val - 64, by omega⟩ : Fin 32) (Nat.zero_add _).symm)
  · rw [dif_neg (by omega)]
    refine Eq.trans (cols_apply _ _ 2 (by show 2 < 3; decide) _ rfl 80 rfl n (⟨l.val - 80, by omega⟩ : Fin 48) _ (by show 80 + (l.val - 80) = l.val; omega)) ?_
    show HloOp.result _ _ (Proc.devRef .tc main_v6) _ = _
    after_reads_simp
    exact zeros_apply _ _

theorem table_b (n : Fin 16384) (l : Fin 128) : V m c main_v11 (ix2 n l) = tableB (fun j => sinA m c (ix2 n j)) l := by
  unfold V
  simp only [hostOps0, hostOps0_1, hostOps0_2, hostOps0_3, hostOps0_4, hostOps0_5, hostOps0_6, List.flatten_cons,
    List.flatten_nil, List.append_nil, List.cons_append, List.nil_append]
  after_reads_simp
  unfold tableB
  rcases lt_or_ge l.val 80 with h | h
  · rw [dif_neg (by omega)]
    refine Eq.trans (cols_apply _ _ 0 (by show 0 < 3; decide) _ rfl 0 rfl n (⟨l.val, h⟩ : Fin 80) _ (Nat.zero_add _)) ?_
    show HloOp.result _ _ (Proc.devRef .tc main_v8) _ = _
    after_reads_simp
    exact zeros_apply _ _
  rcases lt_or_ge l.val 96 with h' | h'
  · rw [dif_pos ⟨h, h'⟩]
    refine Eq.trans (cols_apply _ _ 1 (by show 1 < 3; decide) _ rfl 80 rfl n (⟨l.val - 80, by omega⟩ : Fin 16) _ (by show 80 + (l.val - 80) = l.val; omega)) ?_
    show HloOp.result _ _ (Proc.devRef .tc main_v9) _ = _
    after_reads_simp
    exact cut_apply 16 _ _ n _ (⟨l.val - 64, by omega⟩ : Fin 32) (by show l.val - 64 = 16 + (l.val - 80); omega)
  · rw [dif_neg (by omega)]
    refine Eq.trans (cols_apply _ _ 2 (by show 2 < 3; decide) _ rfl 96 rfl n (⟨l.val - 96, by omega⟩ : Fin 32) _ (by show 96 + (l.val - 96) = l.val; omega)) ?_
    show HloOp.result _ _ (Proc.devRef .tc main_v10) _ = _
    after_reads_simp
    exact zeros_apply _ _

end Cert.InIdeal.Host

end
-- ==== Proof.InBlock.lean ====
/-
  What the input projection's body computes of a block, by rows.
-/
module

public import proofs.«01_k».proof.Proof.InTarget
public import proofs.«01_k».proof.Proof.InHost
public import Idealize.ShloMosaic.Lib.MatmulPlain
public import Idealize.ShloMosaic.Lib.Pipeline.ValueKit.Tiles

@[expose] public section

set_option maxRecDepth 16384

noncomputable section

namespace Cert.InIdeal.In

open Cert.InIdeal Cert.InIdeal.Gen Cert.InIdeal.Launched Cert.InIdeal.Host Cert.InRow
open Idealize.ShloMosaic hiding ix1 ix2 ix3 ix4 eq_ix2
open Idealize.ShloMosaic.TcCoe Idealize.ShloMosaic.ValueIdx Idealize.ShloMosaic.Tactic Idealize.SL.Sem
open scoped BigOperators

/-- A matrix by rows and columns. -/
abbrev ent {a b : ℕ} (w : Mat a b) (i : Fin a) (j : Fin b) : EReal := w (ix2 i j)

/-! ## The norm and the rotation of a block -/

/-- A block over the root of its rows' mean squares. -/
theorem norm_row {n : ℕ} (N : BitVec 32) (y : FVec Ideal ⟨2, ![256, n]⟩ .f32) (hr : (⟨2, ![256, n]⟩ : Shape).Reduces [1] ⟨1, ![256]⟩)
    (hc : (⟨1, ![256]⟩ : Shape).ShapeCasts ⟨2, ![256, 1]⟩) (hb : (⟨2, ![256, 1]⟩ : Shape).Broadcasts ⟨2, ![256, n]⟩) (r : Fin 256) (d : Fin n) :
    mulf y (broadcastTo ⟨2, ![256, n]⟩ (rsqrt (addf (divf (shapeCast ⟨2, ![256, 1]⟩
      (multiReduction .add [1] ⟨1, ![256]⟩ (mulf y y) 0x00000000#32 hr (.inl rfl) rfl) hc)
        (broadcast ⟨2, ![256, 1]⟩ (Scalar.ofBits .f32 N))) (broadcast ⟨2, ![256, 1]⟩ (Scalar.ofBits .f32 0x358637BD#32)))) hb) (ix2 r d)
      = ent y r d * Ideal.rsqrt (Ideal.div (∑ e, ent y r e * ent y r e) (Ideal.ofBits .f32 N) + Ideal.ofBits .f32 0x358637BD#32) := by
  have hl : ∀ e : Fin n, hr.lift (ix1 r) e = ix2 r e := fun e => by
    funext a; match a with | ⟨0, _⟩ => rfl | ⟨1, _⟩ => rfl
  have hcol : ∀ X : FVec Ideal ⟨2, ![256, 1]⟩ .f32, broadcastTo ⟨2, ![256, n]⟩ X hb (ix2 r d) = X (ix2 r 0) := fun X => by
    refine broadcastTo_apply X _ _ _ fun a => ?_
    match a with
    | ⟨0, _⟩ => rfl
    | ⟨1, _⟩ => rfl
  rw [mulf_apply, hcol]
  refine congrArg (fun z => ent y r d * Ideal.rsqrt (Ideal.div z _ + _)) ?_
  rw [shapeCast_a_a1_apply]
  refine (Ideal.multiReduction_add_single (mulf y y) _ hr (.inl rfl) rfl (ix1 r)).trans (Finset.sum_congr rfl fun e _ => ?_)
  exact (congrArg (mulf y y) (hl e)).trans rfl

/-- A row vector over a block. -/
theorem over_rows {n : ℕ} (g : FVec Ideal ⟨2, ![1, n]⟩ .f32) (hb : (⟨2, ![1, n]⟩ : Shape).Broadcasts ⟨2, ![256, n]⟩) (hn : n ≠ 1)
    (r : Fin 256) (d : Fin n) : broadcastTo ⟨2, ![256, n]⟩ g hb (ix2 r d) = g (ix2 0 d) := by
  refine broadcastTo_apply g _ _ _ fun a => ?_
  match a with
  | ⟨0, _⟩ => rfl
  | ⟨1, _⟩ => exact (if_neg hn).symm

/-- Two lane rolls against the tables. -/
theorem roll_apply (t c a b : FVec Ideal S256x128 .f32) (r : Fin 256) (l : Fin 128) :
    addf (addf (mulf t c) (mulf (dynamicRotate 1 112#32 none t rotates_S256x128_d1) a))
      (mulf (dynamicRotate 1 16#32 none t rotates_S256x128_d1) b) (ix2 r l) = rolled (ent t r) (ent c r) (ent a r) (ent b r) l := by
  rw [addf_apply, addf_apply, mulf_apply, mulf_apply, mulf_apply]
  refine congrArg₂ (fun p q => t (ix2 r l) * c (ix2 r l) + p * a (ix2 r l) + q * b (ix2 r l)) ?_ ?_
  · refine dynamicRotate_apply 1 112#32 t _ _ (ix2 r ⟨(l.val + 16) % 128, Nat.mod_lt _ (by decide)⟩) fun x => ?_
    match x with
    | ⟨0, _⟩ => rfl
    | ⟨1, _⟩ => show (l.val + 16) % 128 = (l.val + 128 - 112) % 128; omega
  · refine dynamicRotate_apply 1 16#32 t _ _ (ix2 r ⟨(l.val + 112) % 128, Nat.mod_lt _ (by decide)⟩) fun x => ?_
    match x with
    | ⟨0, _⟩ => rfl
    | ⟨1, _⟩ => show (l.val + 112) % 128 = (l.val + 128 - 16) % 128; omega

/-- A head of a block, rolled. -/
theorem head_apply (o : ℕ) (y : FVec Ideal S256x1024 .f32) (hs : S256x1024.Slices ![0, o] S256x128) (c a b : FVec Ideal S256x128 .f32)
    (r : Fin 256) (l : Fin 128) (ho : o + 128 ≤ 1024) :
    addf (addf (mulf (extractStridedSlice S256x128 ![0, o] y hs) c)
        (mulf (dynamicRotate 1 112#32 none (extractStridedSlice S256x128 ![0, o] y hs) rotates_S256x128_d1) a))
      (mulf (dynamicRotate 1 16#32 none (extractStridedSlice S256x128 ![0, o] y hs) rotates_S256x128_d1) b) (ix2 r l)
      = rolled (fun l => ent y r ⟨o + l.val, by omega⟩) (ent c r) (ent a r) (ent b r) l := by
  rw [roll_apply]
  exact congrArg (fun f => rolled f _ _ _ l) (funext fun k => cut_apply o y hs r k ⟨o + k.val, by omega⟩ rfl)

/-! ## The payloads -/

theorem hidden_apply (x : Vec Ideal S256x1024 .f32) (g : Vec Ideal S1x1024 .f32) (r : Fin 256) (d : Fin 1024) :
    k0_pay1 x g (ix2 r d) = rms (Ideal.ofBits .f32 0x44800000#32) (ent x r) (ent g 0) d := by
  unfold k0_pay1 rms
  dsimp only
  simp only [shapeCast_self]
  rw [truncf_apply, mulf_apply, over_rows _ _ (by decide)]
  exact congrArg (· * _) (norm_row 0x44800000#32 x reduces_S256x1024_S256 _ _ r d)

theorem cq_apply (x : Vec Ideal S256x1024 .f32) (g : Vec Ideal S1x1024 .f32) (w : Vec Ideal S1024x384 .bf16) (gq : Vec Ideal S1x384 .f32)
    (u : Vec Ideal S384x1024 .bf16) (r : Fin 256) (d : Fin 1024) :
    k0_pay7 gq (k0_pay6 x g w) u (ix2 r d)
      = lin (rms (Ideal.ofBits .f32 0x43C00000#32) (lin (ent (k0_pay1 x g) r) (ent w)) (ent gq 0)) (ent u) d := by
  have hw : ∀ e : Fin 384, matmul dot_S256x1024_S1024x384_S256x384_1_0_0_1_n_n none (k0_pay1 x g) w (constant S256x384 .f32 0x00000000#32) (ix2 r e)
      = lin (ent (k0_pay1 x g) r) (ent w) e := fun e => by
    refine (Ideal.matmul_plain_apply none _ (w : FVec Ideal S1024x384 .bf16) _ r e).trans ?_
    rw [constant_apply, Ideal.ofBits_zero_f32, zero_add]
    rfl
  unfold k0_pay7 k0_pay6
  dsimp only
  simp only [shapeCast_self]
  refine (Ideal.matmul_plain_apply none _ (u : FVec Ideal S384x1024 .bf16) _ r d).trans ?_
  rw [constant_apply, Ideal.ofBits_zero_f32, zero_add]
  refine Finset.sum_congr rfl fun e _ => congrArg (· * u (ix2 e d)) ?_
  rw [truncf_apply, mulf_apply, over_rows _ _ (by decide)]
  refine (congrArg (· * _) (norm_row 0x43C00000#32 _ reduces_S256x384_S256 _ _ r e)).trans ?_
  unfold rms
  simp only [ent, hw]

theorem ckv_apply (v : FVec Ideal S256x1024 .bf16) (w : Vec Ideal S1024x256 .bf16) (g : Vec Ideal S1x256 .f32) (r : Fin 256) (d : Fin 256) :
    k0_pay20 v w g (ix2 r d) = rms (Ideal.ofBits .f32 0x43800000#32) (lin (ent v r) (ent w)) (ent g 0) d := by
  have hw : ∀ e : Fin 256, matmul dot_S256x1024_S1024x256_S256x256_1_0_0_1_n_n none v w (constant S256x256 .f32 0x00000000#32) (ix2 r e)
      = lin (ent v r) (ent w) e := fun e => by
    refine (Ideal.matmul_plain_apply none _ (w : FVec Ideal S1024x256 .bf16) _ r e).trans ?_
    rw [constant_apply, Ideal.ofBits_zero_f32, zero_add]
    rfl
  unfold k0_pay20
  dsimp only
  simp only [shapeCast_self]
  rw [truncf_apply, mulf_apply, over_rows _ _ (by decide)]
  refine (congrArg (· * _) (norm_row 0x43800000#32 _ reduces_S256x256_S256 _ _ r d)).trans ?_
  unfold rms
  simp only [ent, hw]

theorem keys_apply (v : FVec Ideal S256x1024 .bf16) (w : Vec Ideal S1024x256 .bf16) (g : Vec Ideal S1x256 .f32) (u : Vec Ideal S256x1024 .bf16)
    (r : Fin 256) (d : Fin 1024) :
    k0_pay21 v w g u (ix2 r d) = lin (rms (Ideal.ofBits .f32 0x43800000#32) (lin (ent v r) (ent w)) (ent g 0)) (ent u) d := by
  unfold k0_pay21
  simp only [shapeCast_self]
  refine (Ideal.matmul_plain_apply none _ (u : FVec Ideal S256x1024 .bf16) _ r d).trans ?_
  rw [constant_apply, Ideal.ofBits_zero_f32, zero_add]
  exact Finset.sum_congr rfl fun e _ => congrArg (· * u (ix2 e d)) (ckv_apply v w g r e)

theorem position_apply (v : FVec Ideal S256x1024 .bf16) (c a b : FVec Ideal S256x128 .f32) (w : Vec Ideal S1024x128 .bf16) (r : Fin 256) (l : Fin 128) :
    k0_pay22 v c a b w (ix2 r l) = rolled (lin (ent v r) (ent w)) (ent c r) (ent a r) (ent b r) l := by
  have hw : ∀ e : Fin 128, matmul dot_S256x1024_S1024x128_S256x128_1_0_0_1_n_n none v w (constant S256x128 .f32 0x00000000#32) (ix2 r e)
      = lin (ent v r) (ent w) e := fun e => by
    refine (Ideal.matmul_plain_apply none _ (w : FVec Ideal S1024x128 .bf16) _ r e).trans ?_
    rw [constant_apply, Ideal.ofBits_zero_f32, zero_add]
    rfl
  unfold k0_pay22
  dsimp only
  simp only [shapeCast_self]
  refine (roll_apply _ c a b r l).trans ?_
  exact congrArg (fun f => rolled f _ _ _ l) (funext hw)

theorem values_apply (v : FVec Ideal S256x256 .bf16) (u : Vec Ideal S256x512 .bf16) (r : Fin 256) (d : Fin 512) :
    k0_pay31 v u (ix2 r d) = lin (ent v r) (ent u) d := by
  unfold k0_pay31
  simp only [shapeCast_self]
  rw [truncf_apply]
  refine (Ideal.matmul_plain_apply none _ (u : FVec Ideal S256x512 .bf16) _ r d).trans ?_
  rw [constant_apply, Ideal.ofBits_zero_f32, zero_add]
  rfl

theorem plain_apply (v : FVec Ideal S256x1024 .bf16) (w : Vec Ideal S1024x512 .bf16) (r : Fin 256) (d : Fin 512) :
    k0_pay33 v w (ix2 r d) = lin (ent v r) (ent w) d := by
  unfold k0_pay33
  simp only [shapeCast_self]
  rw [truncf_apply]
  refine (Ideal.matmul_plain_apply none _ (w : FVec Ideal S1024x512 .bf16) _ r d).trans ?_
  rw [constant_apply, Ideal.ofBits_zero_f32, zero_add]
  rfl

theorem wide_apply (v : FVec Ideal S256x1024 .bf16) (w : Vec Ideal S1024x1024 .bf16) (r : Fin 256) (d : Fin 1024) :
    k0_pay35 v w (ix2 r d) = lin (ent v r) (ent w) d := by
  unfold k0_pay35
  simp only [shapeCast_self]
  rw [truncf_apply]
  refine (Ideal.matmul_plain_apply none _ (w : FVec Ideal S1024x1024 .bf16) _ r d).trans ?_
  rw [constant_apply, Ideal.ofBits_zero_f32, zero_add]
  rfl

theorem silu_apply (v : FVec Ideal S256x1024 .bf16) (w : Vec Ideal S1024x512 .bf16) (r : Fin 256) (d : Fin 512) :
    k0_pay32 v w (ix2 r d) = silu (lin (ent v r) (ent w) d) :=
  congrArg silu (plain_apply v w r d)

theorem silu_wide_apply (v : FVec Ideal S256x1024 .bf16) (w : Vec Ideal S1024x1024 .bf16) (r : Fin 256) (d : Fin 1024) :
    k0_pay39 v w (ix2 r d) = silu (lin (ent v r) (ent w) d) :=
  congrArg silu (wide_apply v w r d)

theorem sigmoid_apply (v : FVec Ideal S256x1024 .bf16) (w : Vec Ideal S1024x1024 .bf16) (r : Fin 256) (d : Fin 1024) :
    k0_pay40 v w (ix2 r d) = sigmoid (lin (ent v r) (ent w) d) :=
  congrArg sigmoid (wide_apply v w r d)

theorem decay_apply (v : FVec Ideal S256x1024 .bf16) (w : Vec Ideal S1024x128 .bf16) (u : Vec Ideal S128x512 .bf16) (b : Vec Ideal S1x512 .f32)
    (r : Fin 256) (d : Fin 512) :
    k0_pay38 (k0_pay36 v w) (k0_pay37 u) b (ix2 r d) = decay (lin (lin (ent v r) (ent w)) (ent u) d + ent b 0 d) := by
  have h2 : ∀ e : Fin 128, k0_pay36 v w (ix2 r e) = lin (ent v r) (ent w) e := fun e => by
    unfold k0_pay36
    simp only [shapeCast_self]
    rw [truncf_apply]
    refine (Ideal.matmul_plain_apply none _ (w : FVec Ideal S1024x128 .bf16) _ r e).trans ?_
    rw [constant_apply, Ideal.ofBits_zero_f32, zero_add]
    rfl
  have hz : addf (matmul (φ₂ := .bf16) dot_S256x128_S128x512_S256x512_1_0_0_1_n_n none (k0_pay36 v w) (u : FVec Ideal S128x512 .bf16) (constant S256x512 .f32 0x00000000#32))
      (broadcastTo S256x512 b broadcasts_S1x512_S256x512) (ix2 r d) = lin (lin (ent v r) (ent w)) (ent u) d + ent b 0 d := by
    rw [addf_apply, over_rows b _ (by decide)]
    refine congrArg (· + _) ?_
    refine (Ideal.matmul_plain_apply none _ (u : FVec Ideal S128x512 .bf16) _ r d).trans ?_
    rw [constant_apply, Ideal.ofBits_zero_f32, zero_add]
    exact Finset.sum_congr rfl fun e _ => congrArg (· * u (ix2 e d)) (h2 e)
  unfold k0_pay38 k0_pay37
  dsimp only
  simp only [shapeCast_self]
  refine Eq.trans ?_ (congrArg decay hz)
  unfold decay
  rw [← Ideal.ofBits_zero_f32]
  rfl

end Cert.InIdeal.In

end
-- ==== Proof.InArray.lean ====
/-
  The input projection's eleven result arrays: the blocks of the grid's points cover each of them, and each block is the
  body's value of the arrays' rows.
-/
module

public import proofs.«01_k».proof.Proof.InBlock
public import Idealize.ShloMosaic.Lib.Pipeline.ValueKit.Geometry

@[expose] public section

set_option maxRecDepth 16384

noncomputable section

namespace Cert.InIdeal.In

open Cert.OutIdeal.Out (batch place place_whole)
open Cert.InIdeal Cert.InIdeal.Gen Cert.InIdeal.Launched Cert.InIdeal.Host Cert.InRow
open Idealize.ShloMosaic hiding ix1 ix2 ix3 ix4 eq_ix2
open Idealize.ShloMosaic.TcCoe Idealize.ShloMosaic.ValueIdx Idealize.ShloMosaic.Tactic Idealize.SL.Sem
open Idealize.ShloMosaic.Pipeline (Dat)
open scoped BigOperators

variable (m : (ℓ : Loc nD τ sig) → Buf (Elt Ideal) ℓ)

/-! ## The heads' pieces -/

/-- The place of a piece's entry in the block. -/
theorem emb_piece (k : Fin 8) (o : ℕ) (ho : o = 128 * k.val) (inb) (r : Fin 256) (l : Fin 128) :
    (Rect.unit (s := S256x1024) ![0, o] S256x128.size inb).emb (ix2 r l) = ix2 r ⟨128 * k.val + l.val, by omega⟩ := by
  subst ho
  funext a
  refine Fin.ext ((Rect.idx_unit_val _ _ inb (ix2 r l) a).trans ?_)
  match a with
  | ⟨0, _⟩ => exact Nat.zero_add _
  | ⟨1, _⟩ => rfl

/-- A block of eight heads from a function of the head and the lane. -/
def headsOf (f : Fin 256 → Fin 8 → Fin 128 → EReal) : Mat 256 1024 := fun y => f (y 0) (headOf (y 1)) (laneOf (y 1))

theorem headsOf_at (f : Fin 256 → Fin 8 → Fin 128 → EReal) (r : Fin 256) (k : Fin 8) (l : Fin 128) :
    headsOf f (ix2 r ⟨128 * k.val + l.val, by omega⟩) = f r k l := by
  unfold headsOf
  exact congrArg₂ (f r) (Fin.ext (by show (128 * k.val + l.val) / 128 = k.val; omega))
    (Fin.ext (by show (128 * k.val + l.val) % 128 = l.val; omega))

/-- Eight pieces, each a head's lanes, make the block. -/
theorem heads_canon (f : Fin 256 → Fin 8 → Fin 128 → EReal) (p0 p1 p2 p3 p4 p5 p6 p7 : Vec Ideal S256x128 .bf16)
    (h0 : ∀ r l, p0 (ix2 r l) = f r 7 l) (h1 : ∀ r l, p1 (ix2 r l) = f r 6 l) (h2 : ∀ r l, p2 (ix2 r l) = f r 5 l)
    (h3 : ∀ r l, p3 (ix2 r l) = f r 4 l) (h4 : ∀ r l, p4 (ix2 r l) = f r 3 l) (h5 : ∀ r l, p5 (ix2 r l) = f r 2 l)
    (h6 : ∀ r l, p6 (ix2 r l) = f r 1 l) (h7 : ∀ r l, p7 (ix2 r l) = f r 0 l) (y : S256x1024.Idx) :
    View.canon ([⟨r0_13, p0⟩, ⟨r0_12, p1⟩, ⟨r0_11, p2⟩, ⟨r0_10, p3⟩, ⟨r0_9, p4⟩, ⟨r0_8, p5⟩, ⟨r0_7, p6⟩, ⟨r0_6, p7⟩] : List (View.Piece (Elt Ideal) S256x1024 .bf16)) y
      = headsOf f y := by
  have piece : ∀ (k : Fin 8) (o : ℕ) (ho : o = 128 * k.val) (inb) (p : Vec Ideal S256x128 .bf16) (hp : ∀ r l, p (ix2 r l) = f r k l)
      (x : S256x128.Idx), p x = headsOf f ((Rect.unit (s := S256x1024) ![0, o] S256x128.size inb).emb x) := fun k o ho inb p hp x => by
    obtain ⟨r, l, rfl⟩ : ∃ (r : Fin 256) (l : Fin 128), x = ix2 r l := ⟨x 0, x 1, eq_ix2 x⟩
    rw [hp, emb_piece k o ho, headsOf_at]
  refine View.canon_apply_of_pieces (headsOf f) _ (fun p hp => ?_) y (cover0_13 p0 p1 p2 p3 p4 p5 p6 p7 y)
  simp only [List.mem_cons, List.not_mem_nil, or_false] at hp
  rcases hp with rfl | rfl | rfl | rfl | rfl | rfl | rfl | rfl
  · exact piece 7 896 rfl inb_S256x1024_S256x128_0_896 p0 h0
  · exact piece 6 768 rfl inb_S256x1024_S256x128_0_768 p1 h1
  · exact piece 5 640 rfl inb_S256x1024_S256x128_0_640 p2 h2
  · exact piece 4 512 rfl inb_S256x1024_S256x128_0_512 p3 h3
  · exact piece 3 384 rfl inb_S256x1024_S256x128_0_384 p4 h4
  · exact piece 2 256 rfl inb_S256x1024_S256x128_0_256 p5 h5
  · exact piece 1 128 rfl inb_S256x1024_S256x128_0_128 p6 h6
  · exact piece 0 0 rfl inb_S256x1024_S256x128_0_0 p7 h7

/-- The query block from the products `y` and the tables. -/
def rolledHeads (y : FVec Ideal S256x1024 .f32) (cb ab bb : FVec Ideal S256x128 .f32) (r : Fin 256) (k : Fin 8) (l : Fin 128) : EReal :=
  rolled (fun l => ent y r ⟨128 * k.val + l.val, by omega⟩) (ent cb r) (ent ab r) (ent bb r) l

/-- The key block from the products `y` and the rotated position lanes `p`. -/
def addedHeads (y : FVec Ideal S256x1024 .f32) (p : FVec Ideal S256x128 .f32) (r : Fin 256) (k : Fin 8) (l : Fin 128) : EReal :=
  ent y r ⟨128 * k.val + l.val, by omega⟩ + ent p r l

theorem added_apply (k : Fin 8) (o : ℕ) (ho : o = 128 * k.val) (y : FVec Ideal S256x1024 .f32) (p : FVec Ideal S256x128 .f32)
    (hs : S256x1024.Slices ![0, o] S256x128) (r : Fin 256) (l : Fin 128) :
    addf (extractStridedSlice S256x128 ![0, o] y hs) p (ix2 r l) = addedHeads y p r k l := by
  rw [addf_apply]
  exact congrArg (· + p (ix2 r l)) (cut_apply o y hs r l ⟨128 * k.val + l.val, by omega⟩ (by show 128 * k.val + l.val = o + l.val; omega))

theorem rolledHeads_of (k : Fin 8) (o : ℕ) (ho : o = 128 * k.val) (y : FVec Ideal S256x1024 .f32) (hs : S256x1024.Slices ![0, o] S256x128)
    (cb ab bb : FVec Ideal S256x128 .f32) (r : Fin 256) (l : Fin 128) :
    addf (addf (mulf (extractStridedSlice S256x128 ![0, o] y hs) cb)
        (mulf (dynamicRotate 1 112#32 none (extractStridedSlice S256x128 ![0, o] y hs) rotates_S256x128_d1) ab))
      (mulf (dynamicRotate 1 16#32 none (extractStridedSlice S256x128 ![0, o] y hs) rotates_S256x128_d1) bb) (ix2 r l)
      = rolledHeads y cb ab bb r k l := by
  subst ho
  exact head_apply _ y hs cb ab bb r l (by omega)

/-! ## The blocks -/

/-- Row `r` of the block of point `t`. -/
abbrev row (t : Fin cfg0.N) (r : Fin 256) : Fin 16384 :=
  ⟨256 * (grid0.coords t 0).val + r.val, by have := (grid0.coords t 0).isLt; have := r.isLt; show _ < 16384; have h : grid0.bound 0 = 64 := rfl; omega⟩

/-- The windows of rows move by one block a point. -/
theorem idx_rows : ∀ t : Fin cfg0.N, win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_13.index t = ![(grid0.coords t 0).val, 0]
    ∧ win0_14.index t = ![(grid0.coords t 0).val, 0]
    ∧ win0_15.index t = ![(grid0.coords t 0).val, 0]
    ∧ win0_16.index t = ![(grid0.coords t 0).val, 0]
    ∧ win0_17.index t = ![(grid0.coords t 0).val, 0]
    ∧ win0_18.index t = ![(grid0.coords t 0).val, 0]
    ∧ win0_19.index t = ![(grid0.coords t 0).val, 0]
    ∧ win0_20.index t = ![(grid0.coords t 0).val, 0]
    ∧ win0_21.index t = ![(grid0.coords t 0).val, 0]
    ∧ win0_22.index t = ![(grid0.coords t 0).val, 0]
    ∧ win0_23.index t = ![(grid0.coords t 0).val, 0] :=
  (by decide +kernel : ∀ t : Fin grid0.N, _)

/-- The weights' windows stay. -/
theorem idx_whole : ∀ t : Fin cfg0.N, win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0] :=
  (by decide +kernel : ∀ t : Fin grid0.N, _)

/-- The place in the array of a block's entry, the block being 256 whole rows. -/
theorem place_rows {n : ℕ} (z : (⟨2, ![16384, n]⟩ : Shape).Idx) (t : Fin cfg0.N) (r : Fin 256) (e : Fin n)
    (h0 : (z 0).val = (grid0.coords t 0).val * 256 + r.val) (h1 : (z 1).val = e.val) : z = ix2 (row t r) e := by
  funext a
  refine Fin.ext ?_
  match a with
  | ⟨0, _⟩ => exact h0.trans (by show _ = 256 * (grid0.coords t 0).val + r.val; omega)
  | ⟨1, _⟩ => exact h1

/-- The arguments that the values read. -/
abbrev xA (c : Dev nD) : Vec Ideal S8x2048x1024 .f32 := m ((c : Thread nD τ).loc main_arg0)
abbrev ginA (c : Dev nD) : Vec Ideal S1x1024 .f32 := m ((c : Thread nD τ).loc main_arg3)
abbrev gqA (c : Dev nD) : Vec Ideal S1x384 .f32 := m ((c : Thread nD τ).loc main_arg5)
abbrev gkvA (c : Dev nD) : Vec Ideal S1x256 .f32 := m ((c : Thread nD τ).loc main_arg7)
abbrev bggA (c : Dev nD) : Vec Ideal S1x512 .f32 := m ((c : Thread nD τ).loc main_arg10)

theorem block_x (c : Dev nD) (t : Fin cfg0.N) (r : Fin 256) (e : Fin 1024) :
    iblk m c 0 t (ix2 r e) = xA m c (ix3 (batch (row t r)) (place (row t r)) e) := by
  blk_simp [iblk]
  exact (congrArg _ (place_rows _ t r e (by blk_simp [idx_rows t]) (by blk_simp [idx_rows t]))).trans (rows_x m c _ e)

theorem block_table_c (c : Dev nD) (t : Fin cfg0.N) (r : Fin 256) (l : Fin 128) :
    iblk m c 1 t (ix2 r l) = tableC (fun j => cosA m c (ix2 (row t r) j)) l := by
  blk_simp [iblk]
  exact (congrArg _ (place_rows _ t r l (by blk_simp [idx_rows t]) (by blk_simp [idx_rows t]))).trans (table_c m c _ l)

theorem block_table_a (c : Dev nD) (t : Fin cfg0.N) (r : Fin 256) (l : Fin 128) :
    iblk m c 2 t (ix2 r l) = tableA (fun j => sinA m c (ix2 (row t r) j)) l := by
  blk_simp [iblk]
  exact (congrArg _ (place_rows _ t r l (by blk_simp [idx_rows t]) (by blk_simp [idx_rows t]))).trans (table_a m c _ l)

theorem block_table_b (c : Dev nD) (t : Fin cfg0.N) (r : Fin 256) (l : Fin 128) :
    iblk m c 3 t (ix2 r l) = tableB (fun j => sinA m c (ix2 (row t r) j)) l := by
  blk_simp [iblk]
  exact (congrArg _ (place_rows _ t r l (by blk_simp [idx_rows t]) (by blk_simp [idx_rows t]))).trans (table_b m c _ l)

theorem block_gate_x (c : Dev nD) (t : Fin cfg0.N) (e : Fin 1024) : iblk m c 4 t (ix2 0 e) = ginA m c (ix2 0 e) := by
  blk_simp [iblk]
  exact (congrArg _ (place_whole _ 0 e (by blk_simp [idx_whole t]; rfl) (by blk_simp [idx_whole t]))).trans (gate_x m c e)

theorem block_gate_q (c : Dev nD) (t : Fin cfg0.N) (e : Fin 384) : iblk m c 6 t (ix2 0 e) = gqA m c (ix2 0 e) := by
  blk_simp [iblk]
  exact (congrArg _ (place_whole _ 0 e (by blk_simp [idx_whole t]; rfl) (by blk_simp [idx_whole t]))).trans (gate_q m c e)

theorem block_gate_kv (c : Dev nD) (t : Fin cfg0.N) (e : Fin 256) : iblk m c 8 t (ix2 0 e) = gkvA m c (ix2 0 e) := by
  blk_simp [iblk]
  exact (congrArg _ (place_whole _ 0 e (by blk_simp [idx_whole t]; rfl) (by blk_simp [idx_whole t]))).trans (gate_kv m c e)

theorem block_bias (c : Dev nD) (t : Fin cfg0.N) (e : Fin 512) : iblk m c 12 t (ix2 0 e) = bggA m c (ix2 0 e) := by
  blk_simp [iblk]
  exact (congrArg _ (place_whole _ 0 e (by blk_simp [idx_whole t]; rfl) (by blk_simp [idx_whole t]))).trans (bias m c e)

theorem block_win (c : Dev nD) (t : Fin cfg0.N) (i : Fin 1024) (e : Fin 6528) : iblk m c 5 t (ix2 i e) = V m c main_v33 (ix2 i e) := by
  blk_simp [iblk]
  exact congrArg _ (place_whole _ i e (by blk_simp [idx_whole t]) (by blk_simp [idx_whole t]))

theorem block_wuq (c : Dev nD) (t : Fin cfg0.N) (i : Fin 384) (e : Fin 1024) : iblk m c 7 t (ix2 i e) = V m c main_v40 (ix2 i e) := by
  blk_simp [iblk]
  exact congrArg _ (place_whole _ i e (by blk_simp [idx_whole t]) (by blk_simp [idx_whole t]))

theorem block_wuk (c : Dev nD) (t : Fin cfg0.N) (i : Fin 256) (e : Fin 1024) : iblk m c 9 t (ix2 i e) = V m c main_v48 (ix2 i e) := by
  blk_simp [iblk]
  exact congrArg _ (place_whole _ i e (by blk_simp [idx_whole t]) (by blk_simp [idx_whole t]))

theorem block_wuv (c : Dev nD) (t : Fin cfg0.N) (i : Fin 256) (e : Fin 512) : iblk m c 10 t (ix2 i e) = V m c main_v51 (ix2 i e) := by
  blk_simp [iblk]
  exact congrArg _ (place_whole _ i e (by blk_simp [idx_whole t]) (by blk_simp [idx_whole t]))

theorem block_wgg (c : Dev nD) (t : Fin cfg0.N) (i : Fin 128) (e : Fin 512) : iblk m c 11 t (ix2 i e) = V m c main_v54 (ix2 i e) := by
  blk_simp [iblk]
  exact congrArg _ (place_whole _ i e (by blk_simp [idx_whole t]) (by blk_simp [idx_whole t]))

/-- Columns of a block read from `o` on. -/
theorem ld_cols {n : ℕ} (X : Vec Ideal S1024x6528 .bf16) (o : ℕ) (inb) (i : Fin 1024) (e : Fin n) (j : Fin 6528) (hj : j.val = o + e.val) :
    View.ld X (Rect.unit (s := S1024x6528) ![0, o] (⟨2, ![1024, n]⟩ : Shape).size inb) (ix2 i e) = X (ix2 i j) := by
  refine View.ld_unit_apply_of X _ _ inb _ _ fun a => ?_
  match a with
  | ⟨0, _⟩ => exact (Nat.zero_add _).symm
  | ⟨1, _⟩ => exact hj

/-! ## A row of a point -/

/-- The normed rows of a block. -/
abbrev norms (c : Dev nD) (t : Fin cfg0.N) : FVec Ideal S256x1024 .bf16 := k0_pay1 (iblk m c 0 t) (iblk m c 4 t)

theorem norms_row (c : Dev nD) (t : Fin cfg0.N) (r : Fin 256) : ent (norms m c t) r = InRow.hidden (xA m c) (ginA m c) (row t r) := by
  funext e
  refine (hidden_apply _ _ r e).trans ?_
  unfold InRow.hidden
  exact congrArg₂ (fun y g => rms _ y g e) (funext fun e => block_x m c t r e) (funext fun e => block_gate_x m c t e)

/-- The block's products with the columns from `o` on, which hold the input weights from `s` on. -/
theorem cols_row {n : ℕ} (c : Dev nD) (t : Fin cfg0.N) (r : Fin 256) (o s : ℕ) (ho : o + n ≤ 6528) (hs : s + n ≤ 6320) (inb)
    (hw : ∀ (i : Fin 1024) (e : Fin n), V m c main_v33 (ix2 i ⟨o + e.val, by omega⟩) = winA m c (ix3 0 i ⟨s + e.val, by omega⟩)) (e : Fin n) :
    lin (ent (norms m c t) r) (ent (View.ld (iblk m c 5 t) (Rect.unit (s := S1024x6528) ![0, o] (⟨2, ![1024, n]⟩ : Shape).size inb))) e
      = proj (xA m c) (ginA m c) (winA m c) (row t r) ⟨s + e.val, by omega⟩ := by
  rw [norms_row]
  refine lin_congr _ fun i => ?_
  exact (ld_cols _ o inb i e ⟨o + e.val, by omega⟩ rfl).trans ((block_win m c t i _).trans (hw i e))

end Cert.InIdeal.In

end
-- ==== Proof.InFinal.lean ====
/-
  The input projection's eleven result arrays, each from the arguments.
-/
module

public import proofs.«01_k».proof.Proof.InArray

@[expose] public section

set_option maxRecDepth 16384

noncomputable section

namespace Cert.InIdeal.In

open Cert.OutIdeal.Out (batch place place_whole)
open Cert.InIdeal Cert.InIdeal.Gen Cert.InIdeal.Launched Cert.InIdeal.Host Cert.InRow
open Idealize.ShloMosaic hiding ix1 ix2 ix3 ix4 eq_ix2
open Idealize.ShloMosaic.TcCoe Idealize.ShloMosaic.ValueIdx Idealize.ShloMosaic.Tactic Idealize.SL.Sem
open Idealize.ShloMosaic.Pipeline (Dat)
open scoped BigOperators

variable (m : (ℓ : Loc nD τ sig) → Buf (Elt Ideal) ℓ)

/-- A load of a whole buffer. -/
theorem ld_whole {a b : ℕ} {ε : EltTy} (X : Vec Ideal ⟨2, ![a, b]⟩ ε) (inb) :
    View.ld X (Rect.unit (s := ⟨2, ![a, b]⟩) ![0, 0] (⟨2, ![a, b]⟩ : Shape).size inb) = X :=
  View.ld_unit_zero (funext fun a => by fin_cases a <;> rfl) _ X

/-! ## The heads -/

section
variable (x0 : Vec Ideal S256x1024 .f32) (x1 x2 x3 : Vec Ideal S256x128 .f32) (x4 : Vec Ideal S1x1024 .f32) (x5 : Vec Ideal S1024x6528 .bf16)
    (x6 : Vec Ideal S1x384 .f32) (x7 : Vec Ideal S384x1024 .bf16) (x8 : Vec Ideal S1x256 .f32) (x9 : Vec Ideal S256x1024 .bf16)
    (x10 : Vec Ideal S256x512 .bf16) (x11 : Vec Ideal S128x512 .bf16) (x12 : Vec Ideal S1x512 .f32)

theorem out13_apply (y : S256x1024.Idx) :
    out0_13 x0 x1 x2 x3 x4 x5 x6 x7 x8 x9 x10 x11 x12 y
      = headsOf (rolledHeads (k0_pay48 x0 x1 x2 x3 x4 x5 x6 x7 x8 x9 x10 x11 x12) (k0_pay43 x0 x1 x2 x3 x4 x5 x6 x7 x8 x9 x10 x11 x12)
          (k0_pay44 x0 x1 x2 x3 x4 x5 x6 x7 x8 x9 x10 x11 x12) (k0_pay45 x0 x1 x2 x3 x4 x5 x6 x7 x8 x9 x10 x11 x12)) y := by
  unfold out0_13
  exact heads_canon _ _ _ _ _ _ _ _ _
    (fun r l => rolledHeads_of 7 896 rfl _ slices_S256x1024_o0_896_S256x128 _ _ _ r l)
    (fun r l => rolledHeads_of 6 768 rfl _ slices_S256x1024_o0_768_S256x128 _ _ _ r l)
    (fun r l => rolledHeads_of 5 640 rfl _ slices_S256x1024_o0_640_S256x128 _ _ _ r l)
    (fun r l => rolledHeads_of 4 512 rfl _ slices_S256x1024_o0_512_S256x128 _ _ _ r l)
    (fun r l => rolledHeads_of 3 384 rfl _ slices_S256x1024_o0_384_S256x128 _ _ _ r l)
    (fun r l => rolledHeads_of 2 256 rfl _ slices_S256x1024_o0_256_S256x128 _ _ _ r l)
    (fun r l => rolledHeads_of 1 128 rfl _ slices_S256x1024_o0_128_S256x128 _ _ _ r l)
    (fun r l => rolledHeads_of 0 0 rfl _ slices_S256x1024_o0_0_S256x128 _ _ _ r l) y

theorem out14_apply (y : S256x1024.Idx) :
    out0_14 x0 x1 x2 x3 x4 x5 x6 x7 x8 x9 x10 x11 x12 y
      = headsOf (addedHeads (k0_pay49 x0 x1 x2 x3 x4 x5 x6 x7 x8 x9 x10 x11 x12) (k0_pay50 x0 x1 x2 x3 x4 x5 x6 x7 x8 x9 x10 x11 x12)) y := by
  unfold out0_14
  exact heads_canon _ _ _ _ _ _ _ _ _
    (fun r l => added_apply 7 896 rfl _ _ slices_S256x1024_o0_896_S256x128 r l)
    (fun r l => added_apply 6 768 rfl _ _ slices_S256x1024_o0_768_S256x128 r l)
    (fun r l => added_apply 5 640 rfl _ _ slices_S256x1024_o0_640_S256x128 r l)
    (fun r l => added_apply 4 512 rfl _ _ slices_S256x1024_o0_512_S256x128 r l)
    (fun r l => added_apply 3 384 rfl _ _ slices_S256x1024_o0_384_S256x128 r l)
    (fun r l => added_apply 2 256 rfl _ _ slices_S256x1024_o0_256_S256x128 r l)
    (fun r l => added_apply 1 128 rfl _ _ slices_S256x1024_o0_128_S256x128 r l)
    (fun r l => added_apply 0 0 rfl _ _ slices_S256x1024_o0_0_S256x128 r l) y

/-! ## The values that several stores read -/

theorem pay42_eq : k0_pay42 x0 x1 x2 x3 x4 x5 x6 x7 x8 x9 x10 x11 x12 = k0_pay1 x0 x4 := by
  unfold k0_pay42
  exact congrArg₂ k0_pay1 (ld_whole x0 _) (ld_whole x4 _)

theorem pay43_eq : k0_pay43 x0 x1 x2 x3 x4 x5 x6 x7 x8 x9 x10 x11 x12 = x1 := by
  unfold k0_pay43 k0_pay2
  exact (shapeCast_self _ _).trans (ld_whole x1 _)
theorem pay44_eq : k0_pay44 x0 x1 x2 x3 x4 x5 x6 x7 x8 x9 x10 x11 x12 = x2 := by
  unfold k0_pay44 k0_pay3
  exact (shapeCast_self _ _).trans (ld_whole x2 _)
theorem pay45_eq : k0_pay45 x0 x1 x2 x3 x4 x5 x6 x7 x8 x9 x10 x11 x12 = x3 := by
  unfold k0_pay45 k0_pay4
  exact (shapeCast_self _ _).trans (ld_whole x3 _)

theorem pay48_eq : k0_pay48 x0 x1 x2 x3 x4 x5 x6 x7 x8 x9 x10 x11 x12 = k0_pay7 x6 (k0_pay6 x0 x4 (View.ld x5 r0_3)) x7 := by
  have h0 : View.ld x0 r0_0 = x0 := ld_whole x0 _
  have h4 : View.ld x4 r0_1 = x4 := ld_whole x4 _
  have h6 : k0_pay5 (View.ld x6 r0_4) = x6 := (shapeCast_self _ _).trans (ld_whole x6 _)
  have h7 : View.ld x7 r0_5 = x7 := ld_whole x7 _
  unfold k0_pay48 k0_pay46 k0_pay47
  rw [h0, h4, h6, h7]

theorem pay49_eq : k0_pay49 x0 x1 x2 x3 x4 x5 x6 x7 x8 x9 x10 x11 x12 = k0_pay21 (k0_pay1 x0 x4) (View.ld x5 r0_14) x8 x9 := by
  have h8 : View.ld x8 r0_15 = x8 := ld_whole x8 _
  have h9 : View.ld x9 r0_0 = x9 := ld_whole x9 _
  unfold k0_pay49
  rw [pay42_eq, h8, h9]

theorem pay50_eq : k0_pay50 x0 x1 x2 x3 x4 x5 x6 x7 x8 x9 x10 x11 x12 = k0_pay22 (k0_pay1 x0 x4) x1 x2 x3 (View.ld x5 r0_16) := by
  unfold k0_pay50
  rw [pay42_eq, pay43_eq, pay44_eq, pay45_eq]

end

/-! ## The results' arrays -/

/-- The queries of a block's row, before the rotation, by lanes. -/
theorem query_row (c : Dev nD) (t : Fin cfg0.N) (r : Fin 256) (k : Fin 8) (l : Fin 128) :
    k0_pay7 (iblk m c 6 t) (k0_pay6 (iblk m c 0 t) (iblk m c 4 t) (View.ld (iblk m c 5 t) r0_3)) (iblk m c 7 t) (ix2 r ⟨128 * k.val + l.val, by omega⟩)
      = lanes (fun j => queries (xA m c) (ginA m c) (winA m c) (gqA m c) (uqA m c) (row t r) ⟨96 * k.val + j.val, by omega⟩ * qScale)
          (fun j => queries (xA m c) (ginA m c) (winA m c) (gqA m c) (uqA m c) (row t r) ⟨96 * k.val + (64 + j.val), by omega⟩ * qScale) l := by
  refine (cq_apply _ _ _ _ _ r _).trans ?_
  have hq : rms (Ideal.ofBits .f32 0x43C00000#32) (lin (ent (norms m c t) r) (ent (View.ld (iblk m c 5 t) r0_3))) (ent (iblk m c 6 t) 0)
      = rms (Ideal.ofBits .f32 0x43C00000#32) (fun e : Fin 384 => proj (xA m c) (ginA m c) (winA m c) (row t r) ⟨e.val, by omega⟩)
          fun e => gqA m c (ix2 0 e) := by
    refine congrArg₂ (rms _) (funext fun e => ?_) (funext fun e => block_gate_q m c t e)
    refine (cols_row m c t r 0 0 (by decide) (by decide) _ (win_cq m c) e).trans ?_
    exact congrArg (proj _ _ _ _) (Fin.ext (Nat.zero_add _))
  refine (congrArg (fun h => lin h (ent (iblk m c 7 t)) _) hq).trans ?_
  refine Eq.trans (Finset.sum_congr rfl fun i _ => congrArg (_ * ·) ((block_wuq m c t i _).trans (wuq m c i k l))) ?_
  refine (sum_lanes _ _ _ l).trans (lanes_congr (fun j => ?_) (fun j => ?_) l)
  · exact lin_scale _ (fun i j => uqA m c (ix3 0 i ⟨96 * k.val + j.val, by omega⟩)) qScale_nonneg qScale_ne_top j
  · exact lin_scale _ (fun i j => uqA m c (ix3 0 i ⟨96 * k.val + (64 + j.val), by omega⟩)) qScale_nonneg qScale_ne_top j

/-- The compressed keys and values of a block's row, normed. -/
theorem ckv_row (c : Dev nD) (t : Fin cfg0.N) (r : Fin 256) :
    rms (Ideal.ofBits .f32 0x43800000#32) (lin (ent (norms m c t) r) (ent (View.ld (iblk m c 5 t) r0_14))) (ent (iblk m c 8 t) 0)
      = rms (Ideal.ofBits .f32 0x43800000#32) (fun e : Fin 256 => proj (xA m c) (ginA m c) (winA m c) (row t r) ⟨384 + e.val, by omega⟩)
          fun e => gkvA m c (ix2 0 e) :=
  congrArg₂ (rms _) (funext fun e => cols_row m c t r 384 384 (by decide) (by decide) _ (win_ckv m c) e)
    (funext fun e => block_gate_kv m c t e)

/-- The keys of a block's row, by lanes. -/
theorem key_row (c : Dev nD) (t : Fin cfg0.N) (r : Fin 256) (k : Fin 8) (l : Fin 128) :
    k0_pay21 (norms m c t) (View.ld (iblk m c 5 t) r0_14) (iblk m c 8 t) (iblk m c 9 t) (ix2 r ⟨128 * k.val + l.val, by omega⟩)
      = lanes (fun j => keyVals (xA m c) (ginA m c) (winA m c) (gkvA m c) (ukvA m c) (row t r) ⟨128 * k.val + j.val, by omega⟩) (fun _ => 0) l := by
  refine (keys_apply _ _ _ _ r _).trans ?_
  refine (congrArg (fun h => lin h (ent (iblk m c 9 t)) _) (ckv_row m c t r)).trans ?_
  refine Eq.trans (Finset.sum_congr rfl fun i _ => congrArg (_ * ·) ((block_wuk m c t i _).trans (wuk m c i k l))) ?_
  refine (sum_lanes _ _ _ l).trans (lanes_congr (fun j => rfl) (fun j => ?_) l)
  exact Finset.sum_eq_zero fun i _ => mul_zero _

/-- The rotated position lanes of a block's row. -/
theorem position_row (c : Dev nD) (t : Fin cfg0.N) (r : Fin 256) (l : Fin 128) :
    k0_pay22 (norms m c t) (iblk m c 1 t) (iblk m c 2 t) (iblk m c 3 t) (View.ld (iblk m c 5 t) r0_16) (ix2 r l)
      = lanes (fun _ => 0) (turned (fun j => proj (xA m c) (ginA m c) (winA m c) (row t r) ⟨640 + j.val, by omega⟩)
          (fun j => cosA m c (ix2 (row t r) j)) (fun j => sinA m c (ix2 (row t r) j))) l := by
  refine (position_apply _ _ _ _ _ r l).trans ?_
  have hp : lin (ent (norms m c t) r) (ent (View.ld (iblk m c 5 t) r0_16))
      = lanes (fun _ => 0) (fun j => proj (xA m c) (ginA m c) (winA m c) (row t r) ⟨640 + j.val, by omega⟩) := funext fun l => by
    rw [norms_row]
    refine Eq.trans (Finset.sum_congr rfl fun i _ => congrArg (_ * ·) ((ld_cols _ 640 _ i l ⟨640 + l.val, by omega⟩ rfl).trans
      ((block_win m c t i _).trans (win_kr m c i l)))) ?_
    refine (sum_lanes _ _ _ l).trans (lanes_congr (fun j => ?_) (fun j => rfl) l)
    exact Finset.sum_eq_zero fun i _ => mul_zero _
  have hc : ent (iblk m c 1 t) r = tableC fun j => cosA m c (ix2 (row t r) j) := funext fun l => block_table_c m c t r l
  have ha : ent (iblk m c 2 t) r = tableA fun j => sinA m c (ix2 (row t r) j) := funext fun l => block_table_a m c t r l
  have hb : ent (iblk m c 3 t) r = tableB fun j => sinA m c (ix2 (row t r) j) := funext fun l => block_table_b m c t r l
  rw [hp, hc, ha, hb]
  exact rolled_lanes _ _ _ _ l

/-- The values of a block's row. -/
theorem value_row (c : Dev nD) (t : Fin cfg0.N) (r : Fin 256) (d : Fin 512) :
    k0_pay31 (k0_pay20 (norms m c t) (View.ld (iblk m c 5 t) r0_14) (iblk m c 8 t)) (iblk m c 10 t) (ix2 r d)
      = keyVals (xA m c) (ginA m c) (winA m c) (gkvA m c) (ukvA m c) (row t r) ⟨128 * (d.val / 64) + (64 + d.val % 64), by omega⟩ := by
  refine (values_apply _ _ r d).trans ?_
  have hv : ent (k0_pay20 (norms m c t) (View.ld (iblk m c 5 t) r0_14) (iblk m c 8 t)) r
      = rms (Ideal.ofBits .f32 0x43800000#32) (fun e : Fin 256 => proj (xA m c) (ginA m c) (winA m c) (row t r) ⟨384 + e.val, by omega⟩)
          fun e => gkvA m c (ix2 0 e) := (funext fun e => ckv_apply _ _ _ r e).trans (ckv_row m c t r)
  refine (congrArg (fun h => lin h (ent (iblk m c 10 t)) d) hv).trans ?_
  have hd : ∀ i : Fin 256, ent (iblk m c 10 t) i d = ukvA m c (ix3 0 i ⟨128 * (d.val / 64) + (64 + d.val % 64), by omega⟩) := fun i =>
    ((block_wuv m c t i d).trans (congrArg (fun d => V m c main_v51 (ix2 i d))
      (Fin.ext (Nat.div_add_mod _ _).symm : d = ⟨64 * (d.val / 64) + d.val % 64, by omega⟩))).trans
      (wuv m c i ⟨d.val / 64, by omega⟩ ⟨d.val % 64, by omega⟩)
  unfold keyVals
  exact lin_congr _ hd

/-- The log-decays of a block's row. -/
theorem decay_row (c : Dev nD) (t : Fin cfg0.N) (r : Fin 256) (d : Fin 512) :
    k0_pay38 (k0_pay36 (norms m c t) (View.ld (iblk m c 5 t) r0_22)) (k0_pay37 (iblk m c 11 t)) (iblk m c 12 t) (ix2 r d)
      = decay (∑ j : Fin 16, proj (xA m c) (ginA m c) (winA m c) (row t r) ⟨3232 + j.val, by omega⟩ * wggA m c (ix3 0 j d) + bggA m c (ix2 0 d)) := by
  refine (decay_apply _ _ _ _ r d).trans ?_
  have hp : ∀ j : Fin 16, lin (ent (norms m c t) r) (ent (View.ld (iblk m c 5 t) r0_22)) ⟨j.val, by omega⟩
      = proj (xA m c) (ginA m c) (winA m c) (row t r) ⟨3232 + j.val, by omega⟩ := fun j => by
    rw [norms_row]
    unfold proj
    exact lin_congr _ fun i => (ld_cols (iblk m c 5 t) 768 inb_S1024x6528_S1024x128_0_768 i (⟨j.val, by omega⟩ : Fin 128) ⟨768 + j.val, by omega⟩ rfl).trans ((block_win m c t i _).trans (win_al m c i j))
  have hl : ∀ j : Fin 16, ent (iblk m c 11 t) ⟨j.val, by omega⟩ d = wggA m c (ix3 0 j d) := fun j =>
    (block_wgg m c t _ d).trans (wgg_low m c j d)
  have hh : ∀ j : Fin 128, 16 ≤ j.val → ent (iblk m c 11 t) j d = 0 := fun j hj => (block_wgg m c t j d).trans (wgg_high m c j d hj)
  have hs : lin (lin (ent (norms m c t) r) (ent (View.ld (iblk m c 5 t) r0_22))) (ent (iblk m c 11 t)) d
      = ∑ j : Fin 16, proj (xA m c) (ginA m c) (winA m c) (row t r) ⟨3232 + j.val, by omega⟩ * wggA m c (ix3 0 j d) := by
    generalize lin (ent (norms m c t) r) (ent (View.ld (iblk m c 5 t) r0_22)) = p at hp ⊢
    refine sum_sixteen (fun j => p j * ent (iblk m c 11 t) j d) _ (fun j => congrArg₂ (· * ·) (hp j) (hl j)) fun j hj => ?_
    exact (congrArg (p j * ·) (hh j hj)).trans (mul_zero _)
  have hb : ent (iblk m c 12 t) 0 d = bggA m c (ix2 0 d) := block_bias m c t d
  rw [hs, hb]

theorem final_q (c : Dev nD) :
    (dats m 0 c).arrAt 13 cfg0.N = outQ (xA m c) (ginA m c) (winA m c) (cosA m c) (sinA m c) (gqA m c) (uqA m c) := by
  refine (dats m 0 c).arrAt_eq_of_covers 13 _ (by decide +kernel) fun t hf y => ?_
  obtain ⟨r, d, rfl⟩ : ∃ (r : Fin 256) (d : Fin 1024), y = ix2 r d := ⟨y 0, y 1, eq_ix2 y⟩
  blk_simp
  rw [after0_13]
  have hz : (win0_13.blk t).view.emb (ix2 r d) = ix2 (row t r) d :=
    place_rows _ t r d (by blk_simp [idx_rows t]) (by blk_simp [idx_rows t])
  refine Eq.trans ?_ (congrArg _ hz).symm
  refine (out13_apply _ _ _ _ _ _ _ _ _ _ _ _ _ _).trans ?_
  rw [pay43_eq, pay44_eq, pay45_eq, pay48_eq]
  show rolledHeads _ _ _ _ r (headOf d) (laneOf d) = _
  unfold rolledHeads
  have hc : ent (iblk m c 1 t) r = tableC fun j => cosA m c (ix2 (row t r) j) := funext fun l => block_table_c m c t r l
  have ha : ent (iblk m c 2 t) r = tableA fun j => sinA m c (ix2 (row t r) j) := funext fun l => block_table_a m c t r l
  have hb : ent (iblk m c 3 t) r = tableB fun j => sinA m c (ix2 (row t r) j) := funext fun l => block_table_b m c t r l
  rw [hc, ha, hb]
  refine (congrArg (fun f => rolled f _ _ _ (laneOf d)) (funext fun l => query_row m c t r (headOf d) l)).trans ?_
  refine (rolled_lanes _ _ _ _ _).trans ?_
  exact lanes_congr (fun j => rfl) (fun j => turned_scale _ _ _ qScale_nonneg qScale_ne_top j) _

theorem final_k (c : Dev nD) :
    (dats m 0 c).arrAt 14 cfg0.N = outK (xA m c) (ginA m c) (winA m c) (cosA m c) (sinA m c) (gkvA m c) (ukvA m c) := by
  refine (dats m 0 c).arrAt_eq_of_covers 14 _ (by decide +kernel) fun t hf y => ?_
  obtain ⟨r, d, rfl⟩ : ∃ (r : Fin 256) (d : Fin 1024), y = ix2 r d := ⟨y 0, y 1, eq_ix2 y⟩
  blk_simp
  rw [after0_14]
  have hz : (win0_14.blk t).view.emb (ix2 r d) = ix2 (row t r) d :=
    place_rows _ t r d (by blk_simp [idx_rows t]) (by blk_simp [idx_rows t])
  refine Eq.trans ?_ (congrArg _ hz).symm
  refine (out14_apply _ _ _ _ _ _ _ _ _ _ _ _ _ _).trans ?_
  rw [pay49_eq, pay50_eq]
  show addedHeads _ _ r (headOf d) (laneOf d) = _
  unfold addedHeads
  refine (congrArg₂ (· + ·) (key_row m c t r (headOf d) (laneOf d)) (position_row m c t r (laneOf d))).trans ?_
  refine (lanes_add _ _ _ _ _).trans ?_
  exact lanes_congr (fun j => add_zero _) (fun j => zero_add _) _

theorem final_v (c : Dev nD) :
    (dats m 0 c).arrAt 15 cfg0.N = outV (xA m c) (ginA m c) (winA m c) (gkvA m c) (ukvA m c) := by
  refine (dats m 0 c).arrAt_eq_of_covers 15 _ (by decide +kernel) fun t hf y => ?_
  obtain ⟨r, d, rfl⟩ : ∃ (r : Fin 256) (d : Fin 512), y = ix2 r d := ⟨y 0, y 1, eq_ix2 y⟩
  blk_simp
  rw [after0_15]
  unfold out0_15
  rw [View.canon_unit_zero (funext fun a => by fin_cases a <;> rfl), pay42_eq]
  have hz : (win0_15.blk t).view.emb (ix2 r d) = ix2 (row t r) d :=
    place_rows _ t r d (by blk_simp [idx_rows t]) (by blk_simp [idx_rows t])
  refine Eq.trans ?_ (congrArg _ hz).symm
  have h8 : ∀ X : Vec Ideal S1x256 .f32, View.ld X r0_15 = X := fun X => ld_whole X _
  have h10 : ∀ X : Vec Ideal S256x512 .bf16, View.ld X r0_17 = X := fun X => ld_whole X _
  rw [h8, h10]
  exact value_row m c t r d

theorem final_l (c : Dev nD) :
    (dats m 0 c).arrAt 20 cfg0.N = outL (xA m c) (ginA m c) (winA m c) (wggA m c) (bggA m c) := by
  refine (dats m 0 c).arrAt_eq_of_covers 20 _ (by decide +kernel) fun t hf y => ?_
  obtain ⟨r, d, rfl⟩ : ∃ (r : Fin 256) (d : Fin 512), y = ix2 r d := ⟨y 0, y 1, eq_ix2 y⟩
  blk_simp
  rw [after0_20]
  unfold out0_20
  rw [View.canon_unit_zero (funext fun a => by fin_cases a <;> rfl), pay42_eq]
  have hz : (win0_20.blk t).view.emb (ix2 r d) = ix2 (row t r) d :=
    place_rows _ t r d (by blk_simp [idx_rows t]) (by blk_simp [idx_rows t])
  refine Eq.trans ?_ (congrArg _ hz).symm
  have h11 : ∀ X : Vec Ideal S128x512 .bf16, View.ld X r0_23 = X := fun X => ld_whole X _
  have h12 : ∀ X : Vec Ideal S1x512 .f32, View.ld X r0_24 = X := fun X => ld_whole X _
  rw [h11, h12]
  exact decay_row m c t r d

theorem final_zm (c : Dev nD) : (dats m 0 c).arrAt 16 cfg0.N = outCols (xA m c) (ginA m c) (winA m c) 672 (n := 512) (by decide) silu := by
  refine (dats m 0 c).arrAt_eq_of_covers 16 _ (by decide +kernel) fun t hf y => ?_
  obtain ⟨r, d, rfl⟩ : ∃ (r : Fin 256) (d : Fin 512), y = ix2 r d := ⟨y 0, y 1, eq_ix2 y⟩
  blk_simp
  rw [after0_16]
  unfold out0_16
  rw [View.canon_unit_zero (funext fun a => by fin_cases a <;> rfl), pay42_eq]
  have hz : (win0_16.blk t).view.emb (ix2 r d) = ix2 (row t r) d :=
    place_rows _ t r d (by blk_simp [idx_rows t]) (by blk_simp [idx_rows t])
  refine Eq.trans ?_ (congrArg _ hz).symm
  exact (silu_apply _ _ r d).trans (congrArg silu (cols_row m c t r 896 672 (by decide) (by decide) _ (win_zm m c) d))

theorem final_qg (c : Dev nD) :
    (dats m 0 c).arrAt 17 cfg0.N = outCols (xA m c) (ginA m c) (winA m c) 1184 (n := 512) (by decide) (· * lScale) := by
  refine (dats m 0 c).arrAt_eq_of_covers 17 _ (by decide +kernel) fun t hf y => ?_
  obtain ⟨r, d, rfl⟩ : ∃ (r : Fin 256) (d : Fin 512), y = ix2 r d := ⟨y 0, y 1, eq_ix2 y⟩
  blk_simp
  rw [after0_17]
  unfold out0_17
  rw [View.canon_unit_zero (funext fun a => by fin_cases a <;> rfl), pay42_eq]
  have hz : (win0_17.blk t).view.emb (ix2 r d) = ix2 (row t r) d :=
    place_rows _ t r d (by blk_simp [idx_rows t]) (by blk_simp [idx_rows t])
  refine Eq.trans ?_ (congrArg _ hz).symm
  refine (plain_apply _ _ r d).trans ?_
  show lin (ent (norms m c t) r) _ _ = _
  rw [norms_row]
  refine Eq.trans (Finset.sum_congr rfl fun i _ => congrArg (_ * ·) ((ld_cols _ 1408 _ i d ⟨1408 + d.val, by omega⟩ rfl).trans
    ((block_win m c t i _).trans (win_qg m c i d)))) ?_
  exact lin_scale _ (fun i (e : Fin 512) => winA m c (ix3 0 i ⟨1184 + e.val, by omega⟩)) lScale_nonneg lScale_ne_top d

theorem final_kg (c : Dev nD) : (dats m 0 c).arrAt 18 cfg0.N = outCols (xA m c) (ginA m c) (winA m c) 1696 (n := 512) (by decide) id := by
  refine (dats m 0 c).arrAt_eq_of_covers 18 _ (by decide +kernel) fun t hf y => ?_
  obtain ⟨r, d, rfl⟩ : ∃ (r : Fin 256) (d : Fin 512), y = ix2 r d := ⟨y 0, y 1, eq_ix2 y⟩
  blk_simp
  rw [after0_18]
  unfold out0_18
  rw [View.canon_unit_zero (funext fun a => by fin_cases a <;> rfl), pay42_eq]
  have hz : (win0_18.blk t).view.emb (ix2 r d) = ix2 (row t r) d :=
    place_rows _ t r d (by blk_simp [idx_rows t]) (by blk_simp [idx_rows t])
  refine Eq.trans ?_ (congrArg _ hz).symm
  exact (plain_apply _ _ r d).trans (cols_row m c t r 1920 1696 (by decide) (by decide) _ (win_kg m c) d)

theorem final_vg (c : Dev nD) : (dats m 0 c).arrAt 19 cfg0.N = outCols (xA m c) (ginA m c) (winA m c) 2208 (n := 1024) (by decide) id := by
  refine (dats m 0 c).arrAt_eq_of_covers 19 _ (by decide +kernel) fun t hf y => ?_
  obtain ⟨r, d, rfl⟩ : ∃ (r : Fin 256) (d : Fin 1024), y = ix2 r d := ⟨y 0, y 1, eq_ix2 y⟩
  blk_simp
  rw [after0_19]
  unfold out0_19
  rw [View.canon_unit_zero (funext fun a => by fin_cases a <;> rfl), pay42_eq]
  have hz : (win0_19.blk t).view.emb (ix2 r d) = ix2 (row t r) d :=
    place_rows _ t r d (by blk_simp [idx_rows t]) (by blk_simp [idx_rows t])
  refine Eq.trans ?_ (congrArg _ hz).symm
  exact (wide_apply _ _ r d).trans (cols_row m c t r 2432 2208 (by decide) (by decide) _ (win_vg m c) d)

theorem final_zg (c : Dev nD) : (dats m 0 c).arrAt 21 cfg0.N = outCols (xA m c) (ginA m c) (winA m c) 3248 (n := 1024) (by decide) silu := by
  refine (dats m 0 c).arrAt_eq_of_covers 21 _ (by decide +kernel) fun t hf y => ?_
  obtain ⟨r, d, rfl⟩ : ∃ (r : Fin 256) (d : Fin 1024), y = ix2 r d := ⟨y 0, y 1, eq_ix2 y⟩
  blk_simp
  rw [after0_21]
  unfold out0_21
  rw [View.canon_unit_zero (funext fun a => by fin_cases a <;> rfl), pay42_eq]
  have hz : (win0_21.blk t).view.emb (ix2 r d) = ix2 (row t r) d :=
    place_rows _ t r d (by blk_simp [idx_rows t]) (by blk_simp [idx_rows t])
  refine Eq.trans ?_ (congrArg _ hz).symm
  exact (silu_wide_apply _ _ r d).trans (congrArg silu (cols_row m c t r 3456 3248 (by decide) (by decide) _ (win_zg m c) d))

theorem final_gm (c : Dev nD) : (dats m 0 c).arrAt 22 cfg0.N = outCols (xA m c) (ginA m c) (winA m c) 4272 (n := 1024) (by decide) sigmoid := by
  refine (dats m 0 c).arrAt_eq_of_covers 22 _ (by decide +kernel) fun t hf y => ?_
  obtain ⟨r, d, rfl⟩ : ∃ (r : Fin 256) (d : Fin 1024), y = ix2 r d := ⟨y 0, y 1, eq_ix2 y⟩
  blk_simp
  rw [after0_22]
  unfold out0_22
  rw [View.canon_unit_zero (funext fun a => by fin_cases a <;> rfl), pay42_eq]
  have hz : (win0_22.blk t).view.emb (ix2 r d) = ix2 (row t r) d :=
    place_rows _ t r d (by blk_simp [idx_rows t]) (by blk_simp [idx_rows t])
  refine Eq.trans ?_ (congrArg _ hz).symm
  exact (sigmoid_apply _ _ r d).trans (congrArg sigmoid (cols_row m c t r 4480 4272 (by decide) (by decide) _ (win_gm m c) d))

theorem final_gg (c : Dev nD) : (dats m 0 c).arrAt 23 cfg0.N = outCols (xA m c) (ginA m c) (winA m c) 5296 (n := 1024) (by decide) sigmoid := by
  refine (dats m 0 c).arrAt_eq_of_covers 23 _ (by decide +kernel) fun t hf y => ?_
  obtain ⟨r, d, rfl⟩ : ∃ (r : Fin 256) (d : Fin 1024), y = ix2 r d := ⟨y 0, y 1, eq_ix2 y⟩
  blk_simp
  rw [after0_23]
  unfold out0_23
  rw [View.canon_unit_zero (funext fun a => by fin_cases a <;> rfl), pay42_eq]
  have hz : (win0_23.blk t).view.emb (ix2 r d) = ix2 (row t r) d :=
    place_rows _ t r d (by blk_simp [idx_rows t]) (by blk_simp [idx_rows t])
  refine Eq.trans ?_ (congrArg _ hz).symm
  exact (sigmoid_apply _ _ r d).trans (congrArg sigmoid (cols_row m c t r 5504 5296 (by decide) (by decide) _ (win_gg m c) d))

end Cert.InIdeal.In

end
-- ==== Proof.InRefRead.lean ====
/-
  The reference's input projection at an index: the projected columns, and the eleven results read from them.
-/
module

public import proofs.«01_k».proof.Proof.InTarget
public import proofs.«01_k».proof.Proof.OutRefRead
public import proofs.«01_k».proof.Proof.Gen.InRefIdeal.Read
public import Idealize.ShloMosaic.Lib.ValueLayout
public import Idealize.ShloMosaic.Lib.ValueLayoutCasts
public import Idealize.ShloMosaic.Lib.KernelVsHost
public import Idealize.ShloMosaic.Lib.StableHlo.ReadAt

@[expose] public section

set_option maxRecDepth 16384

noncomputable section

namespace Cert.InRefIdeal.In

open Cert.InRefIdeal Cert.InRefIdeal.Gen Cert.InRefIdeal.Read Cert.InRow
open Cert.OutIdeal.Out (batch place)
open Cert.OutRefIdeal.Out (at_row)
open Idealize.ShloMosaic hiding ix1 ix2 ix3 ix4 eq_ix2
open Idealize.ShloMosaic.ValueIdx
open scoped BigOperators

/-! ## Joining and padding the last axis -/

theorem join_low {a b c p q s : ℕ} (x : Vec Ideal ⟨4, ![a, b, c, p]⟩ .f32) (y : Vec Ideal ⟨4, ![a, b, c, q]⟩ .f32)
    (h : Shape.Concatenates [⟨4, ![a, b, c, p]⟩, ⟨4, ![a, b, c, q]⟩] ⟨4, ![a, b, c, s]⟩ 3) (i : Fin a) (j : Fin b) (k : Fin c) (l : Fin s) (hl : l.val < p) :
    concatenate ⟨4, ![a, b, c, s]⟩ 3 [⟨⟨4, ![a, b, c, p]⟩, x⟩, ⟨⟨4, ![a, b, c, q]⟩, y⟩] h (ix4 i j k l) = x (ix4 i j k ⟨l.val, hl⟩) := by
  refine concatenate_apply_piece (t := ⟨4, ![a, b, c, s]⟩) 3 [⟨⟨4, ![a, b, c, p]⟩, x⟩, ⟨⟨4, ![a, b, c, q]⟩, y⟩] h (ix4 i j k l) 0 (by show 0 < 2; decide) _ x rfl rfl 0 rfl
    (ix4 i j k ⟨l.val, hl⟩) (fun d hd => ?_) (Nat.zero_add _)
  match d with
  | ⟨0, _⟩ => rfl
  | ⟨1, _⟩ => rfl
  | ⟨2, _⟩ => rfl
  | ⟨3, _⟩ => exact absurd rfl hd

theorem join_high {a b c p q s : ℕ} (x : Vec Ideal ⟨4, ![a, b, c, p]⟩ .f32) (y : Vec Ideal ⟨4, ![a, b, c, q]⟩ .f32)
    (h : Shape.Concatenates [⟨4, ![a, b, c, p]⟩, ⟨4, ![a, b, c, q]⟩] ⟨4, ![a, b, c, s]⟩ 3) (i : Fin a) (j : Fin b) (k : Fin c) (l : Fin s) (e : Fin q)
    (hl : p + e.val = l.val) :
    concatenate ⟨4, ![a, b, c, s]⟩ 3 [⟨⟨4, ![a, b, c, p]⟩, x⟩, ⟨⟨4, ![a, b, c, q]⟩, y⟩] h (ix4 i j k l) = y (ix4 i j k e) := by
  refine concatenate_apply_piece (t := ⟨4, ![a, b, c, s]⟩) 3 [⟨⟨4, ![a, b, c, p]⟩, x⟩, ⟨⟨4, ![a, b, c, q]⟩, y⟩] h (ix4 i j k l) 1 (by show 1 < 2; decide) _ y rfl rfl p (Nat.add_zero p)
    (ix4 i j k e) (fun d hd => ?_) hl
  match d with
  | ⟨0, _⟩ => rfl
  | ⟨1, _⟩ => rfl
  | ⟨2, _⟩ => rfl
  | ⟨3, _⟩ => exact absurd rfl hd

/-- Two rotated halves joined. -/
theorem rotated {b c d : ℕ} (u v : Vec Ideal ⟨4, ![b, c, d, 16]⟩ .f32)
    (w : Shape.Concatenates [⟨4, ![b, c, d, 16]⟩, ⟨4, ![b, c, d, 16]⟩] ⟨4, ![b, c, d, 32]⟩ 3) (i : Fin b) (j : Fin c) (k : Fin d) (l : Fin 32)
    (a cs sn : Fin 32 → EReal)
    (hu : ∀ e : Fin 16, u (ix4 i j k e) = a ⟨e.val, by omega⟩ * cs ⟨e.val, by omega⟩ - a ⟨16 + e.val, by omega⟩ * sn ⟨e.val, by omega⟩)
    (hv : ∀ e : Fin 16, v (ix4 i j k e) = a ⟨16 + e.val, by omega⟩ * cs ⟨16 + e.val, by omega⟩ + a ⟨e.val, by omega⟩ * sn ⟨16 + e.val, by omega⟩) :
    concatenate ⟨4, ![b, c, d, 32]⟩ 3 [⟨⟨4, ![b, c, d, 16]⟩, u⟩, ⟨⟨4, ![b, c, d, 16]⟩, v⟩] w (ix4 i j k l) = turned a cs sn l := by
  unfold turned
  split_ifs with h
  · rw [join_low u v w i j k l h, hu ⟨l.val, h⟩]
    exact congrArg (fun z => _ - a z * _) (Fin.ext (Nat.add_comm _ _))
  · rw [join_high u v w i j k l ⟨l.val - 16, by omega⟩ (by show 16 + (l.val - 16) = l.val; omega), hv ⟨l.val - 16, by omega⟩]
    have e : (⟨16 + (l.val - 16), by omega⟩ : Fin 32) = l := Fin.ext (by show 16 + (l.val - 16) = l.val; omega)
    show a ⟨16 + (l.val - 16), _⟩ * cs ⟨16 + (l.val - 16), _⟩ + _ * sn ⟨16 + (l.val - 16), _⟩ = _
    rw [e]

/-- Heads of 96 lanes padded to 128. -/
theorem padded (x : Vec Ideal S8x2048x8x96 .f32) (v : Vec Ideal S_ .f32) (hv : v (Shape.Idx.first h_S_) = (0 : EReal)) (p : Fin 64 → EReal) (q : Fin 32 → EReal)
    (i : Fin 8) (j : Fin 2048) (k : Fin 8) (l : Fin 128) (hp : ∀ e : Fin 64, x (ix4 i j k ⟨e.val, by omega⟩) = p e)
    (hq : ∀ e : Fin 32, x (ix4 i j k ⟨64 + e.val, by omega⟩) = q e) :
    pad S8x2048x8x128 ![0, 0, 0, 0] ![0, 0, 0, 32] ![0, 0, 0, 0] x v pads_S8x2048x8x96_S8x2048x8x128_000_000_000_0320 h_S_ (ix4 i j k l) = lanes p q l := by
  rcases lt_or_ge l.val 96 with h | h
  · refine Eq.trans (pad_apply_of_inside ![0, 0, 0, 0] ![0, 0, 0, 32] ![0, 0, 0, 0] x v pads_S8x2048x8x96_S8x2048x8x128_000_000_000_0320 h_S_
      (ix4 i j k l) (ix4 i j k (⟨l.val, h⟩ : Fin 96)) fun a => ?_) ?_
    · fin_cases a <;> simp <;> rfl
    · rcases lt_or_ge l.val 64 with h' | h'
      · rw [lanes_low _ _ h']
        exact hp ⟨l.val, h'⟩
      · rw [lanes_mid _ _ h' h]
        exact (congrArg (fun e => x (ix4 i j k e)) (Fin.ext (by show l.val = 64 + (l.val - 64); omega))).trans (hq ⟨l.val - 64, by omega⟩)
  · rw [lanes_high _ _ h]
    refine Eq.trans (pad_apply_of_not_inside (s := S8x2048x8x96) (t := S8x2048x8x128) ![0, 0, 0, 0] ![0, 0, 0, 32] ![0, 0, 0, 0] x v
      pads_S8x2048x8x96_S8x2048x8x128_000_000_000_0320 h_S_ (ix4 i j k l) (3 : Fin 4) ?_) hv
    rintro ⟨-, -, h3⟩
    have h4 : (l.val - 0) / (0 + 1) < 96 := h3
    omega

theorem zero_word : FloatOps.sitofp (F := Ideal) .f32 (0#32 : BitVec 32) = (0 : EReal) := by
  show ((((0#32 : BitVec 32).toInt : ℤ) : ℝ) : EReal) = 0
  norm_num

/-! ## The index maps -/

theorem flat (n : Fin 16384) (d : Fin 1024) : idx_main_v129 (ix2 n d) = ix3 (batch n) (place n) d := by
  have := n.isLt; have := d.isLt
  funext a; refine Fin.ext ?_
  match a with
  | ⟨0, _⟩ => show (n.val * 1024 + d.val) / 2097152 = n.val / 2048; omega
  | ⟨1, _⟩ => show (n.val * 1024 + d.val) / 1024 % 2048 = n.val % 2048; omega
  | ⟨2, _⟩ => show (n.val * 1024 + d.val) % 1024 = d.val; omega
theorem flat_half (n : Fin 16384) (d : Fin 512) : idx_main_v121 (ix2 n d) = ix3 (batch n) (place n) d := by
  have := n.isLt; have := d.isLt
  funext a; refine Fin.ext ?_
  match a with
  | ⟨0, _⟩ => show (n.val * 512 + d.val) / 1048576 = n.val / 2048; omega
  | ⟨1, _⟩ => show (n.val * 512 + d.val) / 512 % 2048 = n.val % 2048; omega
  | ⟨2, _⟩ => show (n.val * 512 + d.val) % 512 = d.val; omega

theorem flat_heads (n : Fin 16384) (d : Fin 1024) : idx_main_v112 (ix2 n d) = ix4 (batch n) (place n) (headOf d) (laneOf d) := by
  have := n.isLt; have := d.isLt
  funext a; refine Fin.ext ?_
  match a with
  | ⟨0, _⟩ => show (n.val * 1024 + d.val) / 2097152 = n.val / 2048; omega
  | ⟨1, _⟩ => show (n.val * 1024 + d.val) / 1024 % 2048 = n.val % 2048; omega
  | ⟨2, _⟩ => show (n.val * 1024 + d.val) / 128 % 8 = d.val / 128; omega
  | ⟨3, _⟩ => show (n.val * 1024 + d.val) % 128 = d.val % 128; omega
theorem flat_values (n : Fin 16384) (d : Fin 512) :
    idx_main_v118 (ix2 n d) = ix4 (batch n) (place n) (⟨d.val / 64, by omega⟩ : Fin 8) (⟨d.val % 64, by omega⟩ : Fin 64) := by
  have := n.isLt; have := d.isLt
  funext a; refine Fin.ext ?_
  match a with
  | ⟨0, _⟩ => show (n.val * 512 + d.val) / 1048576 = n.val / 2048; omega
  | ⟨1, _⟩ => show (n.val * 512 + d.val) / 512 % 2048 = n.val % 2048; omega
  | ⟨2, _⟩ => show (n.val * 512 + d.val) / 64 % 8 = d.val / 64; omega
  | ⟨3, _⟩ => show (n.val * 512 + d.val) % 64 = d.val % 64; omega

/-- A table's row at a batch and a place. -/
theorem table_row (n : Fin 16384) (j : Fin 32) : idx_main_v0 (ix4 (batch n) (place n) (0 : Fin 1) j) = ix2 n j := by
  have := n.isLt; have := j.isLt
  funext a; refine Fin.ext ?_
  match a with
  | ⟨0, _⟩ => show (((n.val / 2048 * 2048 + n.val % 2048) * 1 + 0) * 32 + j.val) / 32 = n.val; omega
  | ⟨1, _⟩ => show (((n.val / 2048 * 2048 + n.val % 2048) * 1 + 0) * 32 + j.val) % 32 = j.val; omega

section
variable (b : Fin 8) (t : Fin 2048)

theorem split_q (h : Fin 8) (e : Fin 96) : idx_main_v45 (ix4 b t h e) = ix3 b t ⟨96 * h.val + e.val, by omega⟩ := by
  have := b.isLt; have := t.isLt; have := h.isLt; have := e.isLt
  funext a; refine Fin.ext ?_
  match a with
  | ⟨0, _⟩ => show (((b.val * 2048 + t.val) * 8 + h.val) * 96 + e.val) / 1572864 = b.val; omega
  | ⟨1, _⟩ => show (((b.val * 2048 + t.val) * 8 + h.val) * 96 + e.val) / 768 % 2048 = t.val; omega
  | ⟨2, _⟩ => show (((b.val * 2048 + t.val) * 8 + h.val) * 96 + e.val) % 768 = 96 * h.val + e.val; omega
theorem split_kv (h : Fin 8) (e : Fin 128) : idx_main_v84 (ix4 b t h e) = ix3 b t ⟨128 * h.val + e.val, by omega⟩ := by
  have := b.isLt; have := t.isLt; have := h.isLt; have := e.isLt
  funext a; refine Fin.ext ?_
  match a with
  | ⟨0, _⟩ => show (((b.val * 2048 + t.val) * 8 + h.val) * 128 + e.val) / 2097152 = b.val; omega
  | ⟨1, _⟩ => show (((b.val * 2048 + t.val) * 8 + h.val) * 128 + e.val) / 1024 % 2048 = t.val; omega
  | ⟨2, _⟩ => show (((b.val * 2048 + t.val) * 8 + h.val) * 128 + e.val) % 1024 = 128 * h.val + e.val; omega

theorem idx5 (d : Fin 1024) : idx_main_v5 (idx_main_v11 (ix3 b t d)) = ix2 b t := by
  funext a; match a with | ⟨0, _⟩ => rfl | ⟨1, _⟩ => rfl
theorem idx4 (k : Fin 1024) : idx_main_v4 (ix2 b t) k = ix3 b t k := by
  funext a; match a with | ⟨0, _⟩ => rfl | ⟨1, _⟩ => rfl | ⟨2, _⟩ => rfl
theorem idx2 (d : Fin 1024) : idx_main_v2 (idx_main_v13 (idx_main_v14 (ix3 b t d))) = ix2 0 d := by
  funext a; refine Fin.ext ?_
  match a with
  | ⟨0, _⟩ => rfl
  | ⟨1, _⟩ => exact Nat.mod_eq_of_lt d.isLt
theorem idx16 (i : Fin 1024) (j : Fin 6320) : idx_main_v16 (ix2 i j) = ix3 0 i j := by
  have := i.isLt; have := j.isLt
  funext a; refine Fin.ext ?_
  match a with
  | ⟨0, _⟩ => rfl
  | ⟨1, _⟩ => show (i.val * 6320 + j.val) / 6320 % 1024 = i.val; omega
  | ⟨2, _⟩ => show (i.val * 6320 + j.val) % 6320 = j.val; omega
theorem lidx17 (j : Fin 6320) (k : Fin 1024) : lidx_main_v17 (ix3 b t j) k = ix3 b t k := by
  funext a; match a with | ⟨0, _⟩ => rfl | ⟨1, _⟩ => rfl | ⟨2, _⟩ => rfl
theorem ridx17 (j : Fin 6320) (k : Fin 1024) : ridx_main_v17 (ix3 b t j) k = ix2 k j := by
  funext a; match a with | ⟨0, _⟩ => rfl | ⟨1, _⟩ => rfl

theorem idx32 (d : Fin 384) : idx_main_v32 (idx_main_v38 (ix3 b t d)) = ix2 b t := by
  funext a; match a with | ⟨0, _⟩ => rfl | ⟨1, _⟩ => rfl
theorem idx31 (k : Fin 384) : idx_main_v31 (ix2 b t) k = ix3 b t k := by
  funext a; match a with | ⟨0, _⟩ => rfl | ⟨1, _⟩ => rfl | ⟨2, _⟩ => rfl
theorem idx29 (d : Fin 384) : idx_main_v29 (idx_main_v40 (idx_main_v41 (ix3 b t d))) = ix2 0 d := by
  funext a; refine Fin.ext ?_
  match a with
  | ⟨0, _⟩ => rfl
  | ⟨1, _⟩ => exact Nat.mod_eq_of_lt d.isLt
theorem idx43 (i : Fin 384) (j : Fin 768) : idx_main_v43 (ix2 i j) = ix3 0 i j := by
  have := i.isLt; have := j.isLt
  funext a; refine Fin.ext ?_
  match a with
  | ⟨0, _⟩ => rfl
  | ⟨1, _⟩ => show (i.val * 768 + j.val) / 768 % 384 = i.val; omega
  | ⟨2, _⟩ => show (i.val * 768 + j.val) % 768 = j.val; omega
theorem lidx44 (j : Fin 768) (k : Fin 384) : lidx_main_v44 (ix3 b t j) k = ix3 b t k := by
  funext a; match a with | ⟨0, _⟩ => rfl | ⟨1, _⟩ => rfl | ⟨2, _⟩ => rfl
theorem ridx44 (j : Fin 768) (k : Fin 384) : ridx_main_v44 (ix3 b t j) k = ix2 k j := by
  funext a; match a with | ⟨0, _⟩ => rfl | ⟨1, _⟩ => rfl

theorem idx71 (d : Fin 256) : idx_main_v71 (idx_main_v77 (ix3 b t d)) = ix2 b t := by
  funext a; match a with | ⟨0, _⟩ => rfl | ⟨1, _⟩ => rfl
theorem idx70 (k : Fin 256) : idx_main_v70 (ix2 b t) k = ix3 b t k := by
  funext a; match a with | ⟨0, _⟩ => rfl | ⟨1, _⟩ => rfl | ⟨2, _⟩ => rfl
theorem idx68 (d : Fin 256) : idx_main_v68 (idx_main_v79 (idx_main_v80 (ix3 b t d))) = ix2 0 d := by
  funext a; refine Fin.ext ?_
  match a with
  | ⟨0, _⟩ => rfl
  | ⟨1, _⟩ => exact Nat.mod_eq_of_lt d.isLt
theorem idx82 (i : Fin 256) (j : Fin 1024) : idx_main_v82 (ix2 i j) = ix3 0 i j := by
  have := i.isLt; have := j.isLt
  funext a; refine Fin.ext ?_
  match a with
  | ⟨0, _⟩ => rfl
  | ⟨1, _⟩ => show (i.val * 1024 + j.val) / 1024 % 256 = i.val; omega
  | ⟨2, _⟩ => show (i.val * 1024 + j.val) % 1024 = j.val; omega
theorem lidx83 (j : Fin 1024) (k : Fin 256) : lidx_main_v83 (ix3 b t j) k = ix3 b t k := by
  funext a; match a with | ⟨0, _⟩ => rfl | ⟨1, _⟩ => rfl | ⟨2, _⟩ => rfl
theorem ridx83 (j : Fin 1024) (k : Fin 256) : ridx_main_v83 (ix3 b t j) k = ix2 k j := by
  funext a; match a with | ⟨0, _⟩ => rfl | ⟨1, _⟩ => rfl

theorem idx102 (i : Fin 16) (j : Fin 512) : idx_main_v102 (ix2 i j) = ix3 0 i j := by
  have := i.isLt; have := j.isLt
  funext a; refine Fin.ext ?_
  match a with
  | ⟨0, _⟩ => rfl
  | ⟨1, _⟩ => show (i.val * 512 + j.val) / 512 % 16 = i.val; omega
  | ⟨2, _⟩ => show (i.val * 512 + j.val) % 512 = j.val; omega
theorem lidx103 (j : Fin 512) (k : Fin 16) : lidx_main_v103 (ix3 b t j) k = ix3 b t k := by
  funext a; match a with | ⟨0, _⟩ => rfl | ⟨1, _⟩ => rfl | ⟨2, _⟩ => rfl
theorem ridx103 (j : Fin 512) (k : Fin 16) : ridx_main_v103 (ix3 b t j) k = ix2 k j := by
  funext a; match a with | ⟨0, _⟩ => rfl | ⟨1, _⟩ => rfl
theorem idx104 (d : Fin 512) : idx_main_v104 (idx_main_v105 (idx_main_v106 (ix3 b t d))) = ix2 0 d := by
  funext a; refine Fin.ext ?_
  match a with
  | ⟨0, _⟩ => rfl
  | ⟨1, _⟩ => exact Nat.mod_eq_of_lt d.isLt

/-- The cut of the projected columns from `o` on. -/
theorem cut_cols {p : ℕ} (o : ℕ) (z : S8x2048x6320.Idx) (d : Fin p) (j : Fin 6320) (h0 : (z 0).val = b.val) (h1 : (z 1).val = t.val) (h2 : (z 2).val = o + d.val)
    (hj : j.val = o + d.val) : z = ix3 b t j := by
  funext a; refine Fin.ext ?_
  match a with
  | ⟨0, _⟩ => exact h0
  | ⟨1, _⟩ => exact h1
  | ⟨2, _⟩ => exact h2.trans hj.symm

/-- An index of four axes from its entries. -/
theorem cut_lanes {a b c d : ℕ} (z : (⟨4, ![a, b, c, d]⟩ : Shape).Idx) (i : Fin a) (j : Fin b) (k : Fin c) (l : Fin d) (h0 : (z 0).val = i.val)
    (h1 : (z 1).val = j.val) (h2 : (z 2).val = k.val) (h3 : (z 3).val = l.val) : z = ix4 i j k l := by
  funext e; refine Fin.ext ?_
  match e with
  | ⟨0, _⟩ => exact h0
  | ⟨1, _⟩ => exact h1
  | ⟨2, _⟩ => exact h2
  | ⟨3, _⟩ => exact h3

end

/-! ## The projected columns -/

section
variable (x : Vec Ideal S8x2048x1024 .f32) (cs sn : Vec Ideal S16384x32 .f32) (gin : Vec Ideal S1x1024 .f32) (win : Vec Ideal S1x1024x6320 .f32)
    (gq : Vec Ideal S1x384 .f32) (uq : Vec Ideal S1x384x768 .f32) (gkv : Vec Ideal S1x256 .f32) (ukv : Vec Ideal S1x256x1024 .f32)
    (wgg : Vec Ideal S1x16x512 .f32) (bgg : Vec Ideal S1x512 .f32) (n : Fin 16384)

theorem hidden_at (e : Fin 1024) : val_main_v15 (F := Ideal) x gin (ix3 (batch n) (place n) e) = InRow.hidden x gin n e := by
  have hs : val_main_v4 (F := Ideal) x (ix2 (batch n) (place n))
      = ∑ e : Fin 1024, x (ix3 (batch n) (place n) e) * x (ix3 (batch n) (place n) e) := by
    rw [val_main_v4_apply]
    refine (congrArg (· + _) Ideal.ofBits_zero_f32).trans ((zero_add _).trans (Finset.sum_congr rfl fun e _ => ?_))
    rw [idx4, val_main_v3_apply]
    rfl
  rw [val_main_v15_apply, val_main_v12_apply, val_main_v11_apply, val_main_v10_apply, val_main_v9_apply, val_main_v7_apply,
    val_main_v5_apply, val_main_v6_apply, val_main_v8_apply, val_main_v14_apply, val_main_v13_apply, val_main_v2_apply, idx5, idx2, hs]
  rfl

theorem proj_at (j : Fin 6320) : val_main_v17 (F := Ideal) x gin win (ix3 (batch n) (place n) j) = proj x gin win n j := by
  rw [val_main_v17_apply]
  unfold proj lin
  refine Finset.sum_congr rfl fun i _ => ?_
  rw [lidx17, ridx17, val_main_v16_apply, idx16, hidden_at]

theorem cq_at (e : Fin 384) : val_main_v18 (F := Ideal) x gin win (ix3 (batch n) (place n) e) = proj x gin win n ⟨e.val, by omega⟩ := by
  rw [val_main_v18_apply, cut_cols (batch n) (place n) 0 (idx_main_v18 (ix3 (batch n) (place n) e)) e ⟨e.val, by omega⟩ rfl rfl (Nat.zero_add _).symm (Nat.zero_add _).symm, proj_at]

theorem ckv_at (e : Fin 256) : val_main_v19 (F := Ideal) x gin win (ix3 (batch n) (place n) e) = proj x gin win n ⟨384 + e.val, by omega⟩ := by
  rw [val_main_v19_apply, cut_cols (batch n) (place n) 384 (idx_main_v19 (ix3 (batch n) (place n) e)) e ⟨384 + e.val, by omega⟩ rfl rfl rfl rfl, proj_at]

theorem queries_at (j : Fin 768) : val_main_v44 (F := Ideal) x gin win gq uq (ix3 (batch n) (place n) j) = queries x gin win gq uq n j := by
  have hs : val_main_v31 (F := Ideal) x gin win (ix2 (batch n) (place n))
      = ∑ e : Fin 384, proj x gin win n ⟨e.val, by omega⟩ * proj x gin win n ⟨e.val, by omega⟩ := by
    rw [val_main_v31_apply]
    refine (congrArg (· + _) Ideal.ofBits_zero_f32).trans ((zero_add _).trans (Finset.sum_congr rfl fun e _ => ?_))
    rw [idx31, val_main_v30_apply, cq_at]
    rfl
  rw [val_main_v44_apply]
  unfold queries lin
  refine Finset.sum_congr rfl fun i _ => ?_
  rw [lidx44, ridx44, val_main_v43_apply, idx43, val_main_v42_apply, val_main_v39_apply, val_main_v38_apply, val_main_v37_apply,
    val_main_v36_apply, val_main_v34_apply, val_main_v32_apply, val_main_v33_apply, val_main_v35_apply, val_main_v41_apply,
    val_main_v40_apply, val_main_v29_apply, idx32, idx29, hs, cq_at]
  rfl

theorem keyVals_at (j : Fin 1024) : val_main_v83 (F := Ideal) x gin win gkv ukv (ix3 (batch n) (place n) j) = keyVals x gin win gkv ukv n j := by
  have hs : val_main_v70 (F := Ideal) x gin win (ix2 (batch n) (place n))
      = ∑ e : Fin 256, proj x gin win n ⟨384 + e.val, by omega⟩ * proj x gin win n ⟨384 + e.val, by omega⟩ := by
    rw [val_main_v70_apply]
    refine (congrArg (· + _) Ideal.ofBits_zero_f32).trans ((zero_add _).trans (Finset.sum_congr rfl fun e _ => ?_))
    rw [idx70, val_main_v69_apply, ckv_at]
    rfl
  rw [val_main_v83_apply]
  unfold keyVals lin
  refine Finset.sum_congr rfl fun i _ => ?_
  rw [lidx83, ridx83, val_main_v82_apply, idx82, val_main_v81_apply, val_main_v78_apply, val_main_v77_apply, val_main_v76_apply,
    val_main_v75_apply, val_main_v73_apply, val_main_v71_apply, val_main_v72_apply, val_main_v74_apply, val_main_v80_apply,
    val_main_v79_apply, val_main_v68_apply, idx71, idx68, hs, ckv_at]
  rfl

/-! ## The results that are columns of the projection -/

theorem result_kg : val_main_v128 (F := Ideal) x gin win = outCols x gin win 1696 (n := 512) (by decide) id := by
  funext z
  obtain ⟨n, d, rfl⟩ : ∃ (n : Fin 16384) (d : Fin 512), z = ix2 n d := ⟨z 0, z 1, eq_ix2 z⟩
  refine Eq.trans (val_main_v127_apply x gin win (ix2 n d)) ?_
  rw [show idx_main_v127 (ix2 n d) = ix3 (batch n) (place n) d from flat_half n d, val_main_v23_apply,
    cut_cols (batch n) (place n) 1696 (idx_main_v23 (ix3 (batch n) (place n) d)) d ⟨1696 + d.val, by omega⟩ rfl rfl rfl rfl, proj_at]
  rfl

theorem result_vg : val_main_v130 (F := Ideal) x gin win = outCols x gin win 2208 (n := 1024) (by decide) id := by
  funext z
  obtain ⟨n, d, rfl⟩ : ∃ (n : Fin 16384) (d : Fin 1024), z = ix2 n d := ⟨z 0, z 1, eq_ix2 z⟩
  refine Eq.trans (val_main_v129_apply x gin win (ix2 n d)) ?_
  rw [flat n d, val_main_v24_apply,
    cut_cols (batch n) (place n) 2208 (idx_main_v24 (ix3 (batch n) (place n) d)) d ⟨2208 + d.val, by omega⟩ rfl rfl rfl rfl, proj_at]
  rfl

theorem result_qg : val_main_v126 (F := Ideal) x gin win = outCols x gin win 1184 (n := 512) (by decide) (· * lScale) := by
  funext z
  obtain ⟨n, d, rfl⟩ : ∃ (n : Fin 16384) (d : Fin 512), z = ix2 n d := ⟨z 0, z 1, eq_ix2 z⟩
  refine Eq.trans (val_main_v125_apply x gin win (ix2 n d)) ?_
  rw [show idx_main_v125 (ix2 n d) = ix3 (batch n) (place n) d from flat_half n d, val_main_v124_apply, val_main_v123_apply, val_main_v22_apply,
    cut_cols (batch n) (place n) 1184 (idx_main_v22 (ix3 (batch n) (place n) d)) d ⟨1184 + d.val, by omega⟩ rfl rfl rfl rfl, proj_at]
  rfl

theorem one_word : FloatOps.ofBits (F := Ideal) .f32 0x3F800000#32 = (1 : EReal) := by
  show Ideal.ofBits .f32 0x3F800000#32 = 1
  simp [Ideal.ofBits, Ideal.ieee, -EReal.coe_mul]; norm_num

theorem result_zm : val_main_v122 (F := Ideal) x gin win = outCols x gin win 672 (n := 512) (by decide) silu := by
  funext z
  obtain ⟨n, d, rfl⟩ : ∃ (n : Fin 16384) (d : Fin 512), z = ix2 n d := ⟨z 0, z 1, eq_ix2 z⟩
  refine Eq.trans (val_main_v121_apply x gin win (ix2 n d)) ?_
  rw [flat_half n d, val_main_v120_apply, val_main_call3_v5_apply, val_main_call3_v4_apply, val_main_call3_v3_apply, val_main_call3_v2_apply,
    val_main_call3_v1_apply, val_main_call3_v0_apply, val_main_call3_cst_apply, val_main_call3_cst_0_apply, one_word, val_main_v21_apply,
    cut_cols (batch n) (place n) 672 (idx_main_v21 (ix3 (batch n) (place n) d)) d ⟨672 + d.val, by omega⟩ rfl rfl rfl rfl, proj_at]
  rfl

theorem result_zg : val_main_v134 (F := Ideal) x gin win = outCols x gin win 3248 (n := 1024) (by decide) silu := by
  funext z
  obtain ⟨n, d, rfl⟩ : ∃ (n : Fin 16384) (d : Fin 1024), z = ix2 n d := ⟨z 0, z 1, eq_ix2 z⟩
  refine Eq.trans (val_main_v133_apply x gin win (ix2 n d)) ?_
  rw [show idx_main_v133 (ix2 n d) = ix3 (batch n) (place n) d from flat n d, val_main_v132_apply, val_main_call4_v5_apply, val_main_call4_v4_apply, val_main_call4_v3_apply, val_main_call4_v2_apply,
    val_main_call4_v1_apply, val_main_call4_v0_apply, val_main_call4_cst_apply, val_main_call4_cst_0_apply, one_word, val_main_v26_apply,
    cut_cols (batch n) (place n) 3248 (idx_main_v26 (ix3 (batch n) (place n) d)) d ⟨3248 + d.val, by omega⟩ rfl rfl rfl rfl, proj_at]
  rfl

theorem result_gm : val_main_v142 (F := Ideal) x gin win = outCols x gin win 4272 (n := 1024) (by decide) sigmoid := by
  funext z
  obtain ⟨n, d, rfl⟩ : ∃ (n : Fin 16384) (d : Fin 1024), z = ix2 n d := ⟨z 0, z 1, eq_ix2 z⟩
  refine Eq.trans (val_main_v141_apply x gin win (ix2 n d)) ?_
  rw [show idx_main_v141 (ix2 n d) = ix3 (batch n) (place n) d from flat n d, val_main_v140_apply, val_main_v139_apply, val_main_v138_apply,
    val_main_v137_apply, val_main_v136_apply, val_main_v135_apply, val_main_cst_12_apply, val_main_cst_13_apply, one_word, val_main_v27_apply,
    cut_cols (batch n) (place n) 4272 (idx_main_v27 (ix3 (batch n) (place n) d)) d ⟨4272 + d.val, by omega⟩ rfl rfl rfl rfl, proj_at]
  rfl

theorem result_gg : val_main_v150 (F := Ideal) x gin win = outCols x gin win 5296 (n := 1024) (by decide) sigmoid := by
  funext z
  obtain ⟨n, d, rfl⟩ : ∃ (n : Fin 16384) (d : Fin 1024), z = ix2 n d := ⟨z 0, z 1, eq_ix2 z⟩
  refine Eq.trans (val_main_v149_apply x gin win (ix2 n d)) ?_
  rw [show idx_main_v149 (ix2 n d) = ix3 (batch n) (place n) d from flat n d, val_main_v148_apply, val_main_v147_apply, val_main_v146_apply,
    val_main_v145_apply, val_main_v144_apply, val_main_v143_apply, val_main_cst_14_apply, val_main_cst_15_apply, one_word, val_main_v28_apply,
    cut_cols (batch n) (place n) 5296 (idx_main_v28 (ix3 (batch n) (place n) d)) d ⟨5296 + d.val, by omega⟩ rfl rfl rfl rfl, proj_at]
  rfl

/-! ## The rotated heads -/

theorem cos_at (e : Fin 32) : val_main_v0 (F := Ideal) cs (ix4 (batch n) (place n) (0 : Fin 1) e) = cs (ix2 n e) := by
  rw [val_main_v0_apply, table_row]
theorem sin_at (e : Fin 32) : val_main_v1 (F := Ideal) sn (ix4 (batch n) (place n) (0 : Fin 1) e) = sn (ix2 n e) := by
  rw [val_main_v1_apply, show idx_main_v1 (ix4 (batch n) (place n) (0 : Fin 1) e) = ix2 n e from table_row n e]

theorem query_head (h : Fin 8) (e : Fin 96) : val_main_v45 (F := Ideal) x gin win gq uq (ix4 (batch n) (place n) h e)
    = queries x gin win gq uq n ⟨96 * h.val + e.val, by omega⟩ := by
  rw [val_main_v45_apply, split_q, queries_at]
theorem query_place (h : Fin 8) (e : Fin 32) : val_main_v47 (F := Ideal) x gin win gq uq (ix4 (batch n) (place n) h e)
    = queries x gin win gq uq n ⟨96 * h.val + (64 + e.val), by omega⟩ := by
  rw [val_main_v47_apply, cut_lanes (idx_main_v47 (ix4 (batch n) (place n) h e)) (batch n) (place n) h (⟨64 + e.val, by omega⟩ : Fin 96) rfl rfl rfl rfl,
    query_head]
theorem query_place_low (h : Fin 8) (e : Fin 16) : val_main_v48 (F := Ideal) x gin win gq uq (ix4 (batch n) (place n) h e)
    = queries x gin win gq uq n ⟨96 * h.val + (64 + e.val), by omega⟩ := by
  rw [val_main_v48_apply, cut_lanes (idx_main_v48 (ix4 (batch n) (place n) h e)) (batch n) (place n) h (⟨e.val, by omega⟩ : Fin 32) rfl rfl rfl rfl,
    query_place]
theorem query_place_high (h : Fin 8) (e : Fin 16) : val_main_v49 (F := Ideal) x gin win gq uq (ix4 (batch n) (place n) h e)
    = queries x gin win gq uq n ⟨96 * h.val + (64 + (16 + e.val)), by omega⟩ := by
  rw [val_main_v49_apply, cut_lanes (idx_main_v49 (ix4 (batch n) (place n) h e)) (batch n) (place n) h (⟨16 + e.val, by omega⟩ : Fin 32) rfl rfl rfl rfl,
    query_place]

theorem turned_q (h : Fin 8) (l : Fin 32) : val_main_v64 (F := Ideal) x cs sn gin win gq uq (ix4 (batch n) (place n) h l)
    = turned (fun j => queries x gin win gq uq n ⟨96 * h.val + (64 + j.val), by omega⟩) (fun j => cs (ix2 n j)) (fun j => sn (ix2 n j)) l := by
  unfold val_main_v64
  refine rotated _ _ _ (batch n) (place n) h l _ _ _ (fun e => ?_) (fun e => ?_)
  · rw [val_main_v56_apply, val_main_v52_apply, val_main_v55_apply, val_main_v51_apply, val_main_v54_apply, val_main_v50_apply, val_main_v53_apply,
      query_place_low, query_place_high,
      cut_lanes (idx_main_v50 (idx_main_v51 (ix4 (batch n) (place n) h e))) (batch n) (place n) (0 : Fin 1) (⟨e.val, by omega⟩ : Fin 32) rfl rfl rfl rfl,
      cut_lanes (idx_main_v53 (idx_main_v54 (ix4 (batch n) (place n) h e))) (batch n) (place n) (0 : Fin 1) (⟨e.val, by omega⟩ : Fin 32) rfl rfl rfl rfl,
      cos_at, sin_at]
    rfl
  · rw [val_main_v63_apply, val_main_v59_apply, val_main_v62_apply, val_main_v58_apply, val_main_v61_apply, val_main_v57_apply, val_main_v60_apply,
      query_place_low, query_place_high,
      cut_lanes (idx_main_v57 (idx_main_v58 (ix4 (batch n) (place n) h e))) (batch n) (place n) (0 : Fin 1) (⟨16 + e.val, by omega⟩ : Fin 32) rfl rfl rfl rfl,
      cut_lanes (idx_main_v60 (idx_main_v61 (ix4 (batch n) (place n) h e))) (batch n) (place n) (0 : Fin 1) (⟨16 + e.val, by omega⟩ : Fin 32) rfl rfl rfl rfl,
      cos_at, sin_at]
    rfl

theorem query_lanes_low (h : Fin 8) (e : Fin 64) : val_main_v67 (F := Ideal) x cs sn gin win gq uq (ix4 (batch n) (place n) h ⟨e.val, by omega⟩)
    = queries x gin win gq uq n ⟨96 * h.val + e.val, by omega⟩ * qScale := by
  rw [val_main_v67_apply, val_main_v66_apply]
  unfold val_main_v65
  rw [join_low _ _ _ (batch n) (place n) h (⟨e.val, by omega⟩ : Fin 96) e.isLt, val_main_v46_apply,
    cut_lanes (idx_main_v46 (ix4 (batch n) (place n) h ⟨e.val, e.isLt⟩)) (batch n) (place n) h (⟨e.val, by omega⟩ : Fin 96) rfl rfl rfl rfl, query_head]
  rfl
theorem query_lanes_high (h : Fin 8) (e : Fin 32) : val_main_v67 (F := Ideal) x cs sn gin win gq uq (ix4 (batch n) (place n) h ⟨64 + e.val, by omega⟩)
    = turned (fun j => queries x gin win gq uq n ⟨96 * h.val + (64 + j.val), by omega⟩) (fun j => cs (ix2 n j)) (fun j => sn (ix2 n j)) e * qScale := by
  rw [val_main_v67_apply, val_main_v66_apply]
  unfold val_main_v65
  rw [join_high _ _ _ (batch n) (place n) h (⟨64 + e.val, by omega⟩ : Fin 96) e rfl, turned_q]
  rfl

theorem result_q : val_main_v113 (F := Ideal) x cs sn gin win gq uq = outQ x gin win cs sn gq uq := by
  funext z
  obtain ⟨n, d, rfl⟩ : ∃ (n : Fin 16384) (d : Fin 1024), z = ix2 n d := ⟨z 0, z 1, eq_ix2 z⟩
  refine Eq.trans (val_main_v112_apply x cs sn gin win gq uq (ix2 n d)) ?_
  rw [flat_heads]
  unfold val_main_v111
  exact padded _ _ zero_word _ _ (batch n) (place n) (headOf d) (laneOf d) (query_lanes_low x cs sn gin win gq uq n (headOf d))
    (query_lanes_high x cs sn gin win gq uq n (headOf d))

theorem key_head (h : Fin 8) (e : Fin 128) : val_main_v84 (F := Ideal) x gin win gkv ukv (ix4 (batch n) (place n) h e)
    = keyVals x gin win gkv ukv n ⟨128 * h.val + e.val, by omega⟩ := by
  rw [val_main_v84_apply, split_kv, keyVals_at]
theorem key_place (e : Fin 32) : val_main_v86 (F := Ideal) x gin win (ix4 (batch n) (place n) (0 : Fin 1) e) = proj x gin win n ⟨640 + e.val, by omega⟩ := by
  rw [val_main_v86_apply, val_main_v20_apply,
    cut_cols (batch n) (place n) 640 (idx_main_v20 (idx_main_v86 (ix4 (batch n) (place n) (0 : Fin 1) e))) e ⟨640 + e.val, by omega⟩ rfl rfl rfl rfl, proj_at]
theorem key_place_low (e : Fin 16) : val_main_v87 (F := Ideal) x gin win (ix4 (batch n) (place n) (0 : Fin 1) e) = proj x gin win n ⟨640 + e.val, by omega⟩ := by
  rw [val_main_v87_apply, cut_lanes (idx_main_v87 (ix4 (batch n) (place n) (0 : Fin 1) e)) (batch n) (place n) (0 : Fin 1) (⟨e.val, by omega⟩ : Fin 32) rfl rfl rfl rfl,
    key_place]
theorem key_place_high (e : Fin 16) : val_main_v88 (F := Ideal) x gin win (ix4 (batch n) (place n) (0 : Fin 1) e)
    = proj x gin win n ⟨640 + (16 + e.val), by omega⟩ := by
  rw [val_main_v88_apply, cut_lanes (idx_main_v88 (ix4 (batch n) (place n) (0 : Fin 1) e)) (batch n) (place n) (0 : Fin 1) (⟨16 + e.val, by omega⟩ : Fin 32) rfl rfl rfl rfl,
    key_place]

theorem turned_k (l : Fin 32) : val_main_v99 (F := Ideal) x cs sn gin win (ix4 (batch n) (place n) (0 : Fin 1) l)
    = turned (fun j => proj x gin win n ⟨640 + j.val, by omega⟩) (fun j => cs (ix2 n j)) (fun j => sn (ix2 n j)) l := by
  unfold val_main_v99
  refine rotated _ _ _ (batch n) (place n) (0 : Fin 1) l _ _ _ (fun e => ?_) (fun e => ?_)
  · rw [val_main_v93_apply, val_main_v90_apply, val_main_v92_apply, val_main_v89_apply, val_main_v91_apply, key_place_low, key_place_high,
      cut_lanes (idx_main_v89 (ix4 (batch n) (place n) (0 : Fin 1) e)) (batch n) (place n) (0 : Fin 1) (⟨e.val, by omega⟩ : Fin 32) rfl rfl rfl rfl,
      cut_lanes (idx_main_v91 (ix4 (batch n) (place n) (0 : Fin 1) e)) (batch n) (place n) (0 : Fin 1) (⟨e.val, by omega⟩ : Fin 32) rfl rfl rfl rfl,
      cos_at, sin_at]
    rfl
  · rw [val_main_v98_apply, val_main_v95_apply, val_main_v97_apply, val_main_v94_apply, val_main_v96_apply, key_place_low, key_place_high,
      cut_lanes (idx_main_v94 (ix4 (batch n) (place n) (0 : Fin 1) e)) (batch n) (place n) (0 : Fin 1) (⟨16 + e.val, by omega⟩ : Fin 32) rfl rfl rfl rfl,
      cut_lanes (idx_main_v96 (ix4 (batch n) (place n) (0 : Fin 1) e)) (batch n) (place n) (0 : Fin 1) (⟨16 + e.val, by omega⟩ : Fin 32) rfl rfl rfl rfl,
      cos_at, sin_at]
    rfl

theorem key_lanes_low (h : Fin 8) (e : Fin 64) : val_main_v101 (F := Ideal) x cs sn gin win gkv ukv (ix4 (batch n) (place n) h ⟨e.val, by omega⟩)
    = keyVals x gin win gkv ukv n ⟨128 * h.val + e.val, by omega⟩ := by
  unfold val_main_v101
  rw [join_low _ _ _ (batch n) (place n) h (⟨e.val, by omega⟩ : Fin 96) e.isLt, val_main_v85_apply,
    cut_lanes (idx_main_v85 (ix4 (batch n) (place n) h ⟨e.val, e.isLt⟩)) (batch n) (place n) h (⟨e.val, by omega⟩ : Fin 128) rfl rfl rfl rfl, key_head]
theorem key_lanes_high (h : Fin 8) (e : Fin 32) : val_main_v101 (F := Ideal) x cs sn gin win gkv ukv (ix4 (batch n) (place n) h ⟨64 + e.val, by omega⟩)
    = turned (fun j => proj x gin win n ⟨640 + j.val, by omega⟩) (fun j => cs (ix2 n j)) (fun j => sn (ix2 n j)) e := by
  unfold val_main_v101
  rw [join_high _ _ _ (batch n) (place n) h (⟨64 + e.val, by omega⟩ : Fin 96) e rfl, val_main_v100_apply,
    cut_lanes (idx_main_v100 (ix4 (batch n) (place n) h e)) (batch n) (place n) (0 : Fin 1) e rfl rfl rfl rfl, turned_k]

theorem result_k : val_main_v116 (F := Ideal) x cs sn gin win gkv ukv = outK x gin win cs sn gkv ukv := by
  funext z
  obtain ⟨n, d, rfl⟩ : ∃ (n : Fin 16384) (d : Fin 1024), z = ix2 n d := ⟨z 0, z 1, eq_ix2 z⟩
  refine Eq.trans (val_main_v115_apply x cs sn gin win gkv ukv (ix2 n d)) ?_
  rw [show idx_main_v115 (ix2 n d) = ix4 (batch n) (place n) (headOf d) (laneOf d) from flat_heads n d]
  unfold val_main_v114
  exact padded _ _ zero_word _ _ (batch n) (place n) (headOf d) (laneOf d) (key_lanes_low x cs sn gin win gkv ukv n (headOf d))
    (key_lanes_high x cs sn gin win gkv ukv n (headOf d))

theorem result_v : val_main_v119 (F := Ideal) x gin win gkv ukv = outV x gin win gkv ukv := by
  funext z
  obtain ⟨n, d, rfl⟩ : ∃ (n : Fin 16384) (d : Fin 512), z = ix2 n d := ⟨z 0, z 1, eq_ix2 z⟩
  refine Eq.trans (val_main_v118_apply x gin win gkv ukv (ix2 n d)) ?_
  rw [flat_values, val_main_v117_apply,
    cut_lanes (idx_main_v117 (ix4 (batch n) (place n) (⟨d.val / 64, by omega⟩ : Fin 8) (⟨d.val % 64, by omega⟩ : Fin 64))) (batch n) (place n)
      (⟨d.val / 64, by omega⟩ : Fin 8) (⟨64 + d.val % 64, by omega⟩ : Fin 128) rfl rfl rfl rfl, key_head]
  rfl

/-! ## The log-decay -/

theorem gate_at (d : Fin 512) : val_main_v107 (F := Ideal) x gin win wgg bgg (ix3 (batch n) (place n) d)
    = ∑ j : Fin 16, proj x gin win n ⟨3232 + j.val, by omega⟩ * wgg (ix3 0 j d) + bgg (ix2 0 d) := by
  have hs : val_main_v103 (F := Ideal) x gin win wgg (ix3 (batch n) (place n) d)
      = ∑ j : Fin 16, proj x gin win n ⟨3232 + j.val, by omega⟩ * wgg (ix3 0 j d) := by
    rw [val_main_v103_apply]
    refine Finset.sum_congr rfl fun j _ => ?_
    rw [lidx103, ridx103, val_main_v102_apply, idx102, val_main_v25_apply,
      cut_cols (batch n) (place n) 3232 (idx_main_v25 (ix3 (batch n) (place n) j)) j ⟨3232 + j.val, by omega⟩ rfl rfl rfl rfl, proj_at]
  rw [val_main_v107_apply, hs, val_main_v106_apply, val_main_v105_apply, val_main_v104_apply, idx104]
  rfl

/-- No ideal value differs from itself. -/
theorem select_self (a p q : EReal) :
    Scalar.select (FloatOps.cmpf (F := Ideal) (φ := .f32) .une a a) p q = q := by
  have h : FloatOps.cmpf (F := Ideal) (φ := .f32) .une a a = 0#1 := by
    show BitVec.ofBool _ = 0#1
    simp
  rw [h]
  rfl

theorem result_l : val_main_v131 (F := Ideal) x gin win wgg bgg = outL x gin win wgg bgg := by
  funext z
  obtain ⟨n, d, rfl⟩ : ∃ (n : Fin 16384) (d : Fin 512), z = ix2 n d := ⟨z 0, z 1, eq_ix2 z⟩
  rw [val_main_v131_apply, show idx_main_v131 (ix2 n d) = ix3 (batch n) (place n) d from flat_half n d, val_main_v110_apply, val_main_v109_apply,
    val_main_v108_apply, val_main_call0_v1_apply, val_main_call0_call0_v4_apply, select_self, val_main_call0_call0_v11_apply,
    val_main_call0_call0_v10_apply, val_main_call0_call0_v9_apply, val_main_call0_call0_v8_apply, val_main_call0_call0_v7_apply,
    val_main_call0_call0_v3_apply, val_main_call0_call0_v2_apply, val_main_call0_call0_v1_apply, val_main_call0_call0_v0_apply,
    val_main_call0_v0_apply, val_main_call0_call0_cst_apply, gate_at,
    show FloatOps.ofBits (F := Ideal) .f32 0x00000000#32 = (0 : EReal) from Ideal.ofBits_zero_f32]
  refine Eq.trans ?_ (decay_eq _)
  generalize ∑ j : Fin 16, proj x gin win n ⟨3232 + j.val, by omega⟩ * wgg (ix3 0 j d) + bgg (ix2 0 d) = y
  have e : FloatOps.subf (F := Ideal) (φ := .f32) (FloatOps.hostNegf (F := Ideal) (φ := .f32) y) (0 : EReal) = -y := sub_zero (-y)
  rw [e]
  rfl

end

end Cert.InRefIdeal.In

end
-- ==== Proof.InRun.lean ====
/-
  The runs of the input projection and of its reference: each ends with the eleven arrays of its arguments, the arguments kept.
-/
module

public import proofs.«01_k».proof.Proof.InFinal
public import proofs.«01_k».proof.Proof.InRefRead
public import proofs.«01_k».proof.Proof.Gen.InRefIdeal.Run

@[expose] public section

set_option maxRecDepth 16384

noncomputable section

namespace Cert.InIdeal.In

open Cert.InIdeal Cert.InIdeal.Gen Cert.InIdeal.Launched Cert.InIdeal.Host Cert.InRow
open Idealize.ShloMosaic hiding ix1 ix2 ix3 ix4 eq_ix2
open Idealize.ShloMosaic.TcCoe Idealize.ShloMosaic.Tactic Idealize.SL.Sem

set_option maxHeartbeats 1600000 in
/-- The kernel's run. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v63_0) = outQ (xA m c) (ginA m c) (winA m c) (cosA m c) (sinA m c) (gqA m c) (uqA m c)
      ∧ r.2.mem ((c : Thread nD τ).loc main_v63_1) = outK (xA m c) (ginA m c) (winA m c) (cosA m c) (sinA m c) (gkvA m c) (ukvA m c)
      ∧ r.2.mem ((c : Thread nD τ).loc main_v63_2) = outV (xA m c) (ginA m c) (winA m c) (gkvA m c) (ukvA m c)
      ∧ r.2.mem ((c : Thread nD τ).loc main_v63_3) = outCols (xA m c) (ginA m c) (winA m c) 672 (n := 512) (by decide) silu
      ∧ r.2.mem ((c : Thread nD τ).loc main_v63_4) = outCols (xA m c) (ginA m c) (winA m c) 1184 (n := 512) (by decide) (· * lScale)
      ∧ r.2.mem ((c : Thread nD τ).loc main_v63_5) = outCols (xA m c) (ginA m c) (winA m c) 1696 (n := 512) (by decide) id
      ∧ r.2.mem ((c : Thread nD τ).loc main_v63_6) = outCols (xA m c) (ginA m c) (winA m c) 2208 (n := 1024) (by decide) id
      ∧ r.2.mem ((c : Thread nD τ).loc main_v63_7) = outL (xA m c) (ginA m c) (winA m c) (wggA m c) (bggA m c)
      ∧ r.2.mem ((c : Thread nD τ).loc main_v63_8) = outCols (xA m c) (ginA m c) (winA m c) 3248 (n := 1024) (by decide) silu
      ∧ r.2.mem ((c : Thread nD τ).loc main_v63_9) = outCols (xA m c) (ginA m c) (winA m c) 4272 (n := 1024) (by decide) sigmoid
      ∧ r.2.mem ((c : Thread nD τ).loc main_v63_10) = outCols (xA m c) (ginA m c) (winA m c) 5296 (n := 1024) (by decide) sigmoid
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) := by
  refine (θ_run defs _ _).mono (fun r h c => ?_) (θ_run_and (run_main m ρ) (unchanged m ρ))
  obtain ⟨hm, hk⟩ := h
  have hw := (hm c).1
  refine ⟨(hw 13).trans (final_q m c), ?_⟩
  refine ⟨(hw 14).trans (final_k m c), ?_⟩
  refine ⟨(hw 15).trans (final_v m c), ?_⟩
  refine ⟨(hw 16).trans (final_zm m c), ?_⟩
  refine ⟨(hw 17).trans (final_qg m c), ?_⟩
  refine ⟨(hw 18).trans (final_kg m c), ?_⟩
  refine ⟨(hw 19).trans (final_vg m c), ?_⟩
  refine ⟨(hw 20).trans (final_l m c), ?_⟩
  refine ⟨(hw 21).trans (final_zg m c), ?_⟩
  refine ⟨(hw 22).trans (final_gm m c), ?_⟩
  refine ⟨(hw 23).trans (final_gg m c), ?_⟩
  exact hk c

end Cert.InIdeal.In

namespace Cert.InRefIdeal.In

open Cert.InRefIdeal Cert.InRefIdeal.Gen Cert.InRow
open Idealize.ShloMosaic hiding ix1 ix2 ix3 ix4 eq_ix2
open Idealize.ShloMosaic.TcCoe Idealize.ShloMosaic.Tactic Idealize.SL.Sem

/-- The reference's run. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v113) = outQ (m ((c : Thread nD τ).loc main_arg0)) (m ((c : Thread nD τ).loc main_arg3)) (m ((c : Thread nD τ).loc main_arg4)) (m ((c : Thread nD τ).loc main_arg1)) (m ((c : Thread nD τ).loc main_arg2)) (m ((c : Thread nD τ).loc main_arg5)) (m ((c : Thread nD τ).loc main_arg6))
      ∧ r.2.mem ((c : Thread nD τ).loc main_v116) = outK (m ((c : Thread nD τ).loc main_arg0)) (m ((c : Thread nD τ).loc main_arg3)) (m ((c : Thread nD τ).loc main_arg4)) (m ((c : Thread nD τ).loc main_arg1)) (m ((c : Thread nD τ).loc main_arg2)) (m ((c : Thread nD τ).loc main_arg7)) (m ((c : Thread nD τ).loc main_arg8))
      ∧ r.2.mem ((c : Thread nD τ).loc main_v119) = outV (m ((c : Thread nD τ).loc main_arg0)) (m ((c : Thread nD τ).loc main_arg3)) (m ((c : Thread nD τ).loc main_arg4)) (m ((c : Thread nD τ).loc main_arg7)) (m ((c : Thread nD τ).loc main_arg8))
      ∧ r.2.mem ((c : Thread nD τ).loc main_v122) = outCols (m ((c : Thread nD τ).loc main_arg0)) (m ((c : Thread nD τ).loc main_arg3)) (m ((c : Thread nD τ).loc main_arg4)) 672 (n := 512) (by decide) silu
      ∧ r.2.mem ((c : Thread nD τ).loc main_v126) = outCols (m ((c : Thread nD τ).loc main_arg0)) (m ((c : Thread nD τ).loc main_arg3)) (m ((c : Thread nD τ).loc main_arg4)) 1184 (n := 512) (by decide) (· * lScale)
      ∧ r.2.mem ((c : Thread nD τ).loc main_v128) = outCols (m ((c : Thread nD τ).loc main_arg0)) (m ((c : Thread nD τ).loc main_arg3)) (m ((c : Thread nD τ).loc main_arg4)) 1696 (n := 512) (by decide) id
      ∧ r.2.mem ((c : Thread nD τ).loc main_v130) = outCols (m ((c : Thread nD τ).loc main_arg0)) (m ((c : Thread nD τ).loc main_arg3)) (m ((c : Thread nD τ).loc main_arg4)) 2208 (n := 1024) (by decide) id
      ∧ r.2.mem ((c : Thread nD τ).loc main_v131) = outL (m ((c : Thread nD τ).loc main_arg0)) (m ((c : Thread nD τ).loc main_arg3)) (m ((c : Thread nD τ).loc main_arg4)) (m ((c : Thread nD τ).loc main_arg9)) (m ((c : Thread nD τ).loc main_arg10))
      ∧ r.2.mem ((c : Thread nD τ).loc main_v134) = outCols (m ((c : Thread nD τ).loc main_arg0)) (m ((c : Thread nD τ).loc main_arg3)) (m ((c : Thread nD τ).loc main_arg4)) 3248 (n := 1024) (by decide) silu
      ∧ r.2.mem ((c : Thread nD τ).loc main_v142) = outCols (m ((c : Thread nD τ).loc main_arg0)) (m ((c : Thread nD τ).loc main_arg3)) (m ((c : Thread nD τ).loc main_arg4)) 4272 (n := 1024) (by decide) sigmoid
      ∧ r.2.mem ((c : Thread nD τ).loc main_v150) = outCols (m ((c : Thread nD τ).loc main_arg0)) (m ((c : Thread nD τ).loc main_arg3)) (m ((c : Thread nD τ).loc main_arg4)) 5296 (n := 1024) (by decide) sigmoid
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) := by
  refine (θ_run defs _ _).mono (fun _ h c => ?_) (Value.run (F := Ideal) m ρ)
  obtain ⟨h0, h1, h2, h3, h4, h5, h6, h7, h8, h9, h10, hk⟩ := h c
  exact ⟨h0.trans ((Read.val_main_v113_eq _).trans (result_q _ _ _ _ _ _ _)), h1.trans ((Read.val_main_v116_eq _).trans (result_k _ _ _ _ _ _ _)),
    h2.trans ((Read.val_main_v119_eq _).trans (result_v _ _ _ _ _)), h3.trans ((Read.val_main_v122_eq _).trans (result_zm _ _ _)),
    h4.trans ((Read.val_main_v126_eq _).trans (result_qg _ _ _)), h5.trans ((Read.val_main_v128_eq _).trans (result_kg _ _ _)),
    h6.trans ((Read.val_main_v130_eq _).trans (result_vg _ _ _)), h7.trans ((Read.val_main_v131_eq _).trans (result_l _ _ _ _ _)),
    h8.trans ((Read.val_main_v134_eq _).trans (result_zg _ _ _)), h9.trans ((Read.val_main_v142_eq _).trans (result_gm _ _ _)),
    h10.trans ((Read.val_main_v150_eq _).trans (result_gg _ _ _)), hk⟩

end Cert.InRefIdeal.In

end
-- ==== Proof.RopeRefRead.lean ====
/-
  The rotary tables: token `t` has the phase `position · 10000^(-e/16)` of each of 16 frequencies. A token takes 32 lanes, the
  phases twice, and a row of 128 lanes holds four tokens. The reference's two results are the cosines and sines of that table.
-/
module

public import proofs.«01_k».proof.Proof.Gen.RopeRefIdeal.Read
public import proofs.«01_k».proof.Proof.Gen.RopeRefIdeal.Run
public import Idealize.ShloMosaic.Lib.ValueLayout
public import Idealize.ShloMosaic.Lib.ValueLayoutCasts
public import Idealize.ShloMosaic.Lib.KernelVsHost
public import Idealize.ShloMosaic.Lib.StableHlo.ReadAt

@[expose] public section

set_option maxRecDepth 16384

noncomputable section

namespace Cert.RopeRefIdeal.Rope

open Cert.RopeRefIdeal Cert.RopeRefIdeal.Gen Cert.RopeRefIdeal.Read
open Idealize.ShloMosaic hiding ix1 ix2 ix3 ix4 eq_ix2
open Idealize.ShloMosaic.TcCoe Idealize.ShloMosaic.ValueIdx Idealize.ShloMosaic.Tactic Idealize.SL.Sem

/-- The positions of the tokens. -/
abbrev Positions := (⟨S8x2048, .i32⟩ : BufTy).Contents (Elt Ideal)

/-- The frequency of lane `e`: 10000 to the power `-e / 16`. -/
def frequency (e : Fin 16) : Ideal .f32 := Host.powf (F := Ideal) (constant S16 .f32 0x461C4000#32)
  (Host.divf (Host.negf (sitofp .f32 (iotaInDim S16 32 0))) (constant S16 .f32 0x41800000#32)) (ix1 e)

/-- The phase of token `t` of batch `b` at lane `e`. -/
def phase (pos : Positions) (b : Fin 8) (t : Fin 2048) (e : Fin 16) : Ideal .f32 :=
  FloatOps.mulf (FloatOps.sitofp .f32 (pos (ix2 b t))) (frequency e)

/-- The table's entry at row `r` and lane `l`: a row holds four tokens of 32 lanes. -/
def phaseAt (pos : Positions) (r : Fin 4096) (l : Fin 128) : Ideal .f32 :=
  phase pos ⟨(r.val * 128 + l.val) / 65536, by omega⟩ ⟨(r.val * 128 + l.val) / 32 % 2048, by omega⟩ ⟨l.val % 16, by omega⟩

/-- The two tables. -/
def cosTable (pos : Positions) : Vec Ideal S4096x128 .f32 := fun z => FloatOps.hostUnary (F := Ideal) .cos (phaseAt pos (z 0) (z 1))
def sinTable (pos : Positions) : Vec Ideal S4096x128 .f32 := fun z => FloatOps.hostUnary (F := Ideal) .sin (phaseAt pos (z 0) (z 1))

/-- The lanes of a token joined to themselves. -/
theorem twice (x : Vec Ideal S8x2048x16 .f32) (h : Shape.Concatenates [S8x2048x16, S8x2048x16] S8x2048x32 2) (b : Fin 8) (t : Fin 2048)
    (l : Fin 32) : concatenate S8x2048x32 2 [⟨S8x2048x16, x⟩, ⟨S8x2048x16, x⟩] h (ix3 b t l) = x (ix3 b t ⟨l.val % 16, by omega⟩) := by
  rcases lt_or_ge l.val 16 with hl | hl
  · refine concatenate_apply_piece (t := S8x2048x32) 2 [⟨S8x2048x16, x⟩, ⟨S8x2048x16, x⟩] h (ix3 b t l) 0 (by show 0 < 2; decide) _ x rfl rfl 0 rfl
      (ix3 b t ⟨l.val % 16, by omega⟩) (fun d hd => ?_) (by show 0 + l.val % 16 = l.val; omega)
    match d with
    | ⟨0, _⟩ => rfl
    | ⟨1, _⟩ => rfl
    | ⟨2, _⟩ => exact absurd rfl hd
  · refine concatenate_apply_piece (t := S8x2048x32) 2 [⟨S8x2048x16, x⟩, ⟨S8x2048x16, x⟩] h (ix3 b t l) 1 (by show 1 < 2; decide) _ x rfl rfl 16 rfl
      (ix3 b t ⟨l.val % 16, by omega⟩) (fun d hd => ?_) (by show 16 + l.val % 16 = l.val; omega)
    match d with
    | ⟨0, _⟩ => rfl
    | ⟨1, _⟩ => rfl
    | ⟨2, _⟩ => exact absurd rfl hd

variable (pos : Positions)

/-- The reference's frequencies. -/
theorem freq_at (i : S16.Idx) : val_main_v5 (F := Ideal) i = frequency (i 0) := by
  rw [val_main_v5_apply, val_main_v4_apply, val_main_v3_apply, val_main_v2_apply]
  exact congrArg (fun z => Host.powf (F := Ideal) (constant S16 .f32 0x461C4000#32)
    (Host.divf (Host.negf (sitofp .f32 (iotaInDim S16 32 0))) (constant S16 .f32 0x41800000#32)) z)
    (funext fun a => Fin.ext (by match a with | ⟨0, _⟩ => rfl) : i = ix1 (i 0))

/-- The reference's phases. -/
theorem phase_at (b : Fin 8) (t : Fin 2048) (e : Fin 16) : val_main_v11 (F := Ideal) pos (ix3 b t e) = phase pos b t e := by
  rw [val_main_v11_apply, val_main_v9_apply, val_main_v7_apply, val_main_v6_apply, val_main_v10_apply, val_main_v8_apply, freq_at]
  have h : idx_main_v7 (idx_main_v9 (ix3 b t e)) = ix2 b t := funext fun a => Fin.ext (by match a with | ⟨0, _⟩ => rfl | ⟨1, _⟩ => rfl)
  rw [h]
  rfl

/-- The place of a table's entry among the tokens' lanes. -/
theorem place_at (r : Fin 4096) (l : Fin 128) (z : S8x2048x32.Idx) (h0 : (z 0).val = (r.val * 128 + l.val) / 65536)
    (h1 : (z 1).val = (r.val * 128 + l.val) / 32 % 2048) (h2 : (z 2).val = (r.val * 128 + l.val) % 32) :
    z = ix3 (⟨(r.val * 128 + l.val) / 65536, by omega⟩ : Fin 8) (⟨(r.val * 128 + l.val) / 32 % 2048, by omega⟩ : Fin 2048)
      (⟨(r.val * 128 + l.val) % 32, by omega⟩ : Fin 32) := by
  funext a
  refine Fin.ext ?_
  match a with
  | ⟨0, _⟩ => exact h0
  | ⟨1, _⟩ => exact h1
  | ⟨2, _⟩ => exact h2

theorem lane_at (r : Fin 4096) (l : Fin 128) : (⟨(r.val * 128 + l.val) % 32 % 16, by omega⟩ : Fin 16) = ⟨l.val % 16, by omega⟩ :=
  Fin.ext (by show (r.val * 128 + l.val) % 32 % 16 = l.val % 16; omega)

theorem result_cos : val_main_v14 (F := Ideal) pos = cosTable pos := by
  funext z
  obtain ⟨r, l, rfl⟩ : ∃ (r : Fin 4096) (l : Fin 128), z = ix2 r l := ⟨z 0, z 1, eq_ix2 z⟩
  rw [val_main_v14_apply, place_at r l (idx_main_v14 (ix2 r l)) rfl rfl rfl]
  unfold val_main_v13
  rw [twice, val_main_v12_apply, phase_at]
  exact congrArg (fun e => FloatOps.hostUnary (F := Ideal) .cos (phase pos _ _ e)) (lane_at r l)

theorem result_sin : val_main_v17 (F := Ideal) pos = sinTable pos := by
  funext z
  obtain ⟨r, l, rfl⟩ : ∃ (r : Fin 4096) (l : Fin 128), z = ix2 r l := ⟨z 0, z 1, eq_ix2 z⟩
  rw [val_main_v17_apply, place_at r l (idx_main_v17 (ix2 r l)) rfl rfl rfl]
  unfold val_main_v16
  rw [twice, val_main_v15_apply, phase_at]
  exact congrArg (fun e => FloatOps.hostUnary (F := Ideal) .sin (phase pos _ _ e)) (lane_at r l)

/-- The reference's run. -/
theorem run_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v14) = cosTable (m ((c : Thread nD τ).loc main_arg0))
      ∧ r.2.mem ((c : Thread nD τ).loc main_v17) = sinTable (m ((c : Thread nD τ).loc main_arg0))
      ∧ r.2.mem ((c : Thread nD τ).loc main_arg0) = m ((c : Thread nD τ).loc main_arg0)) := by
  refine (θ_run defs _ _).mono (fun _ h c => ?_) (Value.run (F := Ideal) m ρ)
  obtain ⟨h0, h1, hk⟩ := h c
  exact ⟨h0.trans ((val_main_v14_eq _).trans (result_cos _)), h1.trans ((val_main_v17_eq _).trans (result_sin _)), hk⟩

end Cert.RopeRefIdeal.Rope

end
-- ==== Proof.RopeArray.lean ====
/-
  The kernel's rotary tables: the rows of positions and frequencies handed to the call, the call's blocks, and its two arrays.
-/
module

public import proofs.«01_k».proof.Proof.RopeRefRead
public import proofs.«01_k».proof.Proof.Gen.RopeIdeal.Value
public import Idealize.ShloMosaic.Lib.Pipeline.ValueKit.Geometry

@[expose] public section

set_option maxRecDepth 16384

noncomputable section

namespace Cert.RopeIdeal.Rope

open Cert.RopeIdeal Cert.RopeIdeal.Gen Cert.RopeRefIdeal.Rope
open Idealize.ShloMosaic hiding ix1 ix2 ix3 ix4 eq_ix2
open Idealize.ShloMosaic.TcCoe Idealize.ShloMosaic.ValueIdx Idealize.ShloMosaic.Tactic Idealize.SL.Sem
open Idealize.ShloMosaic.Pipeline (Dat)

variable (m : (ℓ : Loc nD τ sig) → Buf (Elt Ideal) ℓ) (c : Dev nD)

/-- The positions. -/
abbrev posA : Positions := m ((c : Thread nD τ).loc main_arg0)

/-- Each position stands on the 32 lanes of its token. -/
theorem rows_pos (r : Fin 4096) (l : Fin 128) : V m c main_v10 (ix2 r l)
    = FloatOps.sitofp (F := Ideal) .f32 (posA m c (ix2 ⟨(r.val * 128 + l.val) / 65536, by omega⟩ ⟨(r.val * 128 + l.val) / 32 % 2048, by omega⟩)) := by
  unfold V hostOps0
  after_reads_simp
  refine (shapeCast_apply _ _ (ix2 r l) (ix2 (⟨(r.val * 128 + l.val) / 32, by omega⟩ : Fin 16384) (⟨(r.val * 128 + l.val) % 32, by omega⟩ : Fin 32)) (by
    rw [Shape.rowMajor_val_two, Shape.rowMajor_val_two]
    show (r.val * 128 + l.val) / 32 * 32 + (r.val * 128 + l.val) % 32 = r.val * 128 + l.val
    omega)).trans ?_
  refine (shapeCast_apply (t := S16384x32) _ _ _ (ix3 (⟨(r.val * 128 + l.val) / 32, by omega⟩ : Fin 16384) (0 : Fin 1) (⟨(r.val * 128 + l.val) % 32, by omega⟩ : Fin 32)) (by
    rw [Shape.rowMajor_val_three, Shape.rowMajor_val_two]
    show ((r.val * 128 + l.val) / 32 * 1 + 0) * 32 + (r.val * 128 + l.val) % 32 = (r.val * 128 + l.val) / 32 * 32 + (r.val * 128 + l.val) % 32
    omega)).trans ?_
  refine (broadcastInDim_apply _ _ _ _ (ix2 (⟨(r.val * 128 + l.val) / 32, by omega⟩ : Fin 16384) (0 : Fin 1)) (fun a => by
    match a with
    | ⟨0, _⟩ => rfl
    | ⟨1, _⟩ => rfl)).trans ?_
  refine congrArg (FloatOps.sitofp (F := Ideal) .f32) ?_
  refine shapeCast_apply (t := S16384x1) _ _ _ (ix2 (⟨(r.val * 128 + l.val) / 65536, by omega⟩ : Fin 8) (⟨(r.val * 128 + l.val) / 32 % 2048, by omega⟩ : Fin 2048)) ?_
  rw [Shape.rowMajor_val_two, Shape.rowMajor_val_two]
  show (r.val * 128 + l.val) / 65536 * 2048 + (r.val * 128 + l.val) / 32 % 2048 = (r.val * 128 + l.val) / 32 * 1 + 0
  omega

/-- The row of frequencies repeats them eight times. -/
theorem row_freq (l : Fin 128) : V m c main_v14 (ix2 0 l) = frequency ⟨l.val % 16, by omega⟩ := by
  unfold V hostOps0
  after_reads_simp
  refine (shapeCast_a_1a_apply _ _ 0 l).trans ?_
  refine (shapeCast_apply _ _ (ix1 l) (ix2 (⟨l.val / 16, by omega⟩ : Fin 8) (⟨l.val % 16, by omega⟩ : Fin 16)) (by
    rw [Shape.rowMajor_val_one, Shape.rowMajor_val_two]
    show l.val / 16 * 16 + l.val % 16 = l.val
    omega)).trans ?_
  refine (broadcastInDim_apply _ _ _ _ (ix2 (0 : Fin 1) (⟨l.val % 16, by omega⟩ : Fin 16)) (fun a => by
    match a with
    | ⟨0, _⟩ => rfl
    | ⟨1, _⟩ => rfl)).trans ?_
  exact (shapeCast_a_1a_apply _ _ 0 (⟨l.val % 16, by omega⟩ : Fin 16)).trans rfl

/-! ## The blocks -/

/-- Row `r` of the block of point `t`. -/
abbrev row (t : Fin cfg0.N) (r : Fin 512) : Fin 4096 :=
  ⟨512 * (grid0.coords t 0).val + r.val, by have := (grid0.coords t 0).isLt; have := r.isLt; show _ < 4096; have h : grid0.bound 0 = 8 := rfl; omega⟩

/-- The windows of rows move by one block a point; the frequencies' window stays. -/
theorem idx_rows : ∀ t : Fin cfg0.N, win0_0.index t = ![(grid0.coords t 0).val, 0]
    ∧ win0_1.index t = ![0, 0]
    ∧ win0_2.index t = ![(grid0.coords t 0).val, 0]
    ∧ win0_3.index t = ![(grid0.coords t 0).val, 0] :=
  (by decide +kernel : ∀ t : Fin grid0.N, _)

/-- The place in the array of a block's entry. -/
theorem place_rows (z : S4096x128.Idx) (t : Fin cfg0.N) (r : Fin 512) (e : Fin 128)
    (h0 : (z 0).val = (grid0.coords t 0).val * 512 + r.val) (h1 : (z 1).val = e.val) : z = ix2 (row t r) e := by
  funext a
  refine Fin.ext ?_
  match a with
  | ⟨0, _⟩ => exact h0.trans (by show _ = 512 * (grid0.coords t 0).val + r.val; omega)
  | ⟨1, _⟩ => exact h1

theorem place_freq (z : S1x128.Idx) (e : Fin 128) (h1 : (z 1).val = e.val) : z = ix2 0 e := by
  funext a
  refine Fin.ext ?_
  match a with
  | ⟨0, _⟩ => exact Nat.lt_one_iff.mp (z 0).isLt
  | ⟨1, _⟩ => exact h1

theorem block_pos (t : Fin cfg0.N) (r : Fin 512) (l : Fin 128) : iblk m c 0 t (ix2 r l) = V m c main_v10 (ix2 (row t r) l) := by
  blk_simp [iblk]
  exact congrArg _ (place_rows _ t r l (by blk_simp [idx_rows t]) (by blk_simp [idx_rows t]))

theorem block_freq (t : Fin cfg0.N) (l : Fin 128) : iblk m c 1 t (ix2 0 l) = V m c main_v14 (ix2 0 l) := by
  blk_simp [iblk]
  exact congrArg _ (place_freq _ l (by blk_simp [idx_rows t]))

/-- The phase an entry of a block is taken at. -/
theorem block_phase (t : Fin cfg0.N) (r : Fin 512) (l : Fin 128) :
    FloatOps.mulf (F := Ideal) (φ := .f32) (iblk m c 0 t (ix2 r l)) (iblk m c 1 t (ix2 0 l)) = phaseAt (posA m c) (row t r) l := by
  rw [block_pos, block_freq, rows_pos, row_freq]
  rfl

theorem at_row (r : Fin 512) (l : Fin 128) : Value.ix2_0 (ix2 r l) = ix2 r l :=
  funext fun a => Fin.ext (by match a with | ⟨0, _⟩ => rfl | ⟨1, _⟩ => rfl)
theorem at_freq (r : Fin 512) (l : Fin 128) : Value.ix2_1 (ix2 r l) = ix2 0 l :=
  funext fun a => Fin.ext (by match a with | ⟨0, _⟩ => rfl | ⟨1, _⟩ => rfl)

/-- The cosines' array of the run. -/
theorem final_cos : (dats m 0 c).arrAt 2 cfg0.N = cosTable (posA m c) := by
  refine (dats m 0 c).arrAt_eq_of_covers 2 _ (by decide +kernel) fun t hf y => ?_
  obtain ⟨r, l, rfl⟩ : ∃ (r : Fin 512) (l : Fin 128), y = ix2 r l := ⟨y 0, y 1, eq_ix2 y⟩
  blk_simp
  rw [after0_2]
  unfold out0_2
  have hz2 : (![0, 0] : Fin 2 → ℕ) = fun _ => 0 := funext fun a => by fin_cases a <;> rfl
  have l0 : ∀ X : Vec Ideal S512x128 .f32, View.ld X r0_0 = X := fun X => View.ld_unit_zero hz2 _ X
  have l1 : ∀ X : Vec Ideal S1x128 .f32, View.ld X r0_1 = X := fun X => View.ld_unit_zero hz2 _ X
  rw [l0, l1]
  refine (Value.canon2_eq _ _ _).trans ?_
  have hz : (win0_2.blk t).view.emb (ix2 r l) = ix2 (row t r) l :=
    place_rows _ t r l (by blk_simp [idx_rows t]) (by blk_simp [idx_rows t])
  refine Eq.trans ?_ (congrArg _ hz).symm
  exact congrArg (FloatOps.hostUnary (F := Ideal) .cos) ((by rw [at_row, at_freq] : FloatOps.mulf (F := Ideal) (φ := .f32)
    (iblk m c 0 t (Value.ix2_0 (ix2 r l))) (iblk m c 1 t (Value.ix2_1 (ix2 r l))) = _).trans (block_phase m c t r l))

/-- The sines' array of the run. -/
theorem final_sin : (dats m 0 c).arrAt 3 cfg0.N = sinTable (posA m c) := by
  refine (dats m 0 c).arrAt_eq_of_covers 3 _ (by decide +kernel) fun t hf y => ?_
  obtain ⟨r, l, rfl⟩ : ∃ (r : Fin 512) (l : Fin 128), y = ix2 r l := ⟨y 0, y 1, eq_ix2 y⟩
  blk_simp
  rw [after0_3]
  unfold out0_3
  have hz2 : (![0, 0] : Fin 2 → ℕ) = fun _ => 0 := funext fun a => by fin_cases a <;> rfl
  have l0 : ∀ X : Vec Ideal S512x128 .f32, View.ld X r0_0 = X := fun X => View.ld_unit_zero hz2 _ X
  have l1 : ∀ X : Vec Ideal S1x128 .f32, View.ld X r0_1 = X := fun X => View.ld_unit_zero hz2 _ X
  rw [l0, l1]
  refine (Value.canon3_eq _ _ _).trans ?_
  have hz : (win0_3.blk t).view.emb (ix2 r l) = ix2 (row t r) l :=
    place_rows _ t r l (by blk_simp [idx_rows t]) (by blk_simp [idx_rows t])
  refine Eq.trans ?_ (congrArg _ hz).symm
  exact congrArg (FloatOps.hostUnary (F := Ideal) .sin) ((by rw [at_row, at_freq] : FloatOps.mulf (F := Ideal) (φ := .f32)
    (iblk m c 0 t (Value.ix2_0 (ix2 r l))) (iblk m c 1 t (Value.ix2_1 (ix2 r l))) = _).trans (block_phase m c t r l))

/-- The kernel's run. -/
theorem run_values (ρ : Dev nD → PrngReg) :
    θ_run defs (onTc (τ := τ) (main (F := Ideal))) ⟨m, fun _ => 0, ρ⟩ (fun r => ∀ c : Dev nD,
      r.2.mem ((c : Thread nD τ).loc main_v15_0) = cosTable (posA m c)
      ∧ r.2.mem ((c : Thread nD τ).loc main_v15_1) = sinTable (posA m c)
      ∧ r.2.mem ((c : Thread nD τ).loc main_arg0) = m ((c : Thread nD τ).loc main_arg0)) := by
  refine (θ_run defs _ _).mono (fun _ h c => ?_) (Value.run_blocks m ρ)
  obtain ⟨h0, h1, hk⟩ := h c
  exact ⟨h0.trans (final_cos m c), h1.trans (final_sin m c), hk⟩

end Cert.RopeIdeal.Rope

end
-- ==== Proof.GlaIdealRun.lean ====
/-
  The gated linear attention kernel's body on a point's blocks, for the idealized program: the state of a head goes from chunk to
  chunk, and the pieces the body stores are the chunks' rows in order. The state starts at zero, so nothing stored depends
  on what the scratch memory held.
-/
module

public import proofs.«01_k».proof.Proof.Gen.GlaIdeal.Frame.Runs
public import Idealize.ShloMosaic.Lib.Pipeline.Value
public import Idealize.ShloMosaic.Lib.VecWindow

@[expose] public section

set_option maxRecDepth 16384

noncomputable section

namespace Cert.GlaIdeal.Chunks

open Cert.GlaIdeal Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (x0 x1 : Vec F S1x2048x128 .bf16) (x2 : Vec F S1x2048x256 .bf16) (x3 : Vec F S1x2048x128 .f32) (x4 : Vec F S1x256 .f32)

/-- The rows of chunk `k` of the queries, of the keys, of the values, of the log decays. -/
def chunk (x : Vec F S1x2048x128 .bf16) (k : Fin k0_t1_loop.trips) : Vec F S1x64x128 .bf16 :=
  View.ld x (Rect.unit (s := S1x2048x128) (k0_off1 k) S1x64x128.size (k0_off1_inb k))
def chunkV (k : Fin k0_t1_loop.trips) : Vec F S1x64x256 .bf16 :=
  View.ld x2 (Rect.unit (s := S1x2048x256) (k0_off2 k) S1x64x256.size (k0_off2_inb k))
def chunkG (k : Fin k0_t1_loop.trips) : Vec F S1x64x128 .f32 :=
  View.ld x3 (Rect.unit (s := S1x2048x128) (k0_off1 k) S1x64x128.size (k0_off1_inb k))

/-- The state after chunk `k`, from the state before it. -/
def step (k : Fin k0_t1_loop.trips) (S : Vec F S256x128 .f32) : Vec F S256x128 .f32 :=
  k0_pay4 (k0_pay7 k0_pay3 (chunkG x3 k)) (k0_pay9 (chunkV x2 k)) (k0_pay11 k0_pay3 (chunkG x3 k) (chunk x1 k)) S

/-- The rows stored for chunk `k`, from the state before it. -/
def outRows (k : Fin k0_t1_loop.trips) (S : Vec F S256x128 .f32) : Vec F S1x64x256 .bf16 :=
  k0_pay5 x4 (k0_pay9 (chunkV x2 k)) (k0_pay10 k0_pay3 (chunkG x3 k) (chunk x0 k))
    (k0_pay12 k0_pay2 k0_pay3 (chunkG x3 k) (chunk x0 k) (chunk x1 k)) S (constant S64x256 .f32 0x00000000#32)

/-- The state before chunk `n`. -/
def state : ℕ → Vec F S256x128 .f32
  | 0 => k0_pay1
  | n + 1 => if h : n < k0_t1_loop.trips then step x1 x2 x3 ⟨n, h⟩ (state n) else state n

/-- The piece stored for chunk `k`. -/
def piece (k : Fin k0_t1_loop.trips) : View.Piece (Elt F) S1x2048x256 .bf16 :=
  ⟨Rect.unit (s := S1x2048x256) (k0_off2 k) S1x64x256.size (k0_off2_inb k), outRows x0 x1 x2 x3 x4 k (state x1 x2 x3 k.val)⟩

/-- The pieces of the chunks before `n`, last first. -/
def pieces : ℕ → List (View.Piece (Elt F) S1x2048x256 .bf16)
  | 0 => []
  | n + 1 => if h : n < k0_t1_loop.trips then piece x0 x1 x2 x3 x4 ⟨n, h⟩ :: pieces n else pieces n
end

section
variable (c : Dev nD) (i : grid0.Coords) (arg2 : Memref sig .tc .vmem S1x2048x128 .bf16) (harg2 : arg2.IsWhole) (arg3 : Memref sig .tc .vmem S1x2048x128 .bf16) (harg3 : arg3.IsWhole)
  (arg4 : Memref sig .tc .vmem S1x2048x256 .bf16) (harg4 : arg4.IsWhole) (arg5 : Memref sig .tc .vmem S1x2048x128 .f32) (harg5 : arg5.IsWhole)
  (arg6 : Memref sig .tc .vmem S1x256 .f32) (harg6 : arg6.IsWhole) (arg7 : Memref sig .tc .vmem S1x2048x256 .bf16) (harg7 : arg7.IsWhole) (arg8 : Memref sig .tc .vmem S256x128 .f32) (harg8 : arg8.IsWhole)
  (x0 x1 : Vec F S1x2048x128 .bf16) (x2 : Vec F S1x2048x256 .bf16) (x3 : Vec F S1x2048x128 .f32) (x4 : Vec F S1x256 .f32)

/-- What one chunk stores, at any contents of the memory it writes. -/
theorem trip_pieces (v11 : Vec F S1x256 .f32) (k : Fin k0_t1_loop.trips) (f7 : BufTy.Contents (Elt F) arg7.view.ty) (f8 : BufTy.Contents (Elt F) arg8.view.ty) :
    tripL_k0_t1 (F := F) Variants.none c none i arg2 harg2 arg3 harg3 arg4 harg4 arg5 harg5 arg6 harg6 arg7 harg7 arg8 harg8 v11 (harg2.unread x0) (harg3.unread x1) (harg4.unread x2) (harg5.unread x3) k f7 f8
      = ([⟨Rect.unit (s := S1x2048x256) (k0_off2 k) S1x64x256.size (k0_off2_inb k), outRows x0 x1 x2 x3 v11 k (arg8.view.read (Elt F) f8)⟩],
        [⟨Rect.unit (s := S256x128) ![0, 0] S256x128.size inb_S256x128_S256x128_0_0, step x1 x2 x3 k (arg8.view.read (Elt F) f8)⟩]) := by
  unfold tripL_k0_t1 trip_k0_t1
  dsimp only
  sl_unfold_run_names
  simp only [View.readAt_eq_ld, harg2.read_unread, harg3.read_unread, harg4.read_unread, harg5.read_unread]
  have e : View.ld (arg8.view.read (Elt F) f8) (Rect.unit (s := S256x128) ![0, 0] S256x128.size inb_S256x128_S256x128_0_0) = arg8.view.read (Elt F) f8 :=
    View.ld_unit_zero (by funext a; fin_cases a <;> rfl) _ _
  simp only [e]
  rfl

/-- The pieces of the chunks before `n` and the state they leave, when the state memory reads zero at entry. -/
theorem pieces_eq (v11 : Vec F S1x256 .f32) (G7 : BufTy.Contents (Elt F) arg7.view.ty) (G8 : BufTy.Contents (Elt F) arg8.view.ty)
    (h8 : arg8.view.read (Elt F) G8 = k0_pay1) : ∀ n : ℕ, n ≤ k0_t1_loop.trips →
    (pb_k0_t1 (F := F) Variants.none c none i arg2 harg2 arg3 harg3 arg4 harg4 arg5 harg5 arg6 harg6 arg7 harg7 arg8 harg8 v11 (harg2.unread x0) (harg3.unread x1) (harg4.unread x2) (harg5.unread x3) G7 G8 n).1 = pieces x0 x1 x2 x3 v11 n
      ∧ arg8.view.read (Elt F) (arg8.view.writes (Elt F) G8 (pb_k0_t1 (F := F) Variants.none c none i arg2 harg2 arg3 harg3 arg4 harg4 arg5 harg5 arg6 harg6 arg7 harg7 arg8 harg8 v11 (harg2.unread x0) (harg3.unread x1) (harg4.unread x2) (harg5.unread x3) G7 G8 n).2) = state x1 x2 x3 n := by
  intro n
  induction n with
  | zero => intro _; exact ⟨rfl, h8⟩
  | succ n ih =>
    intro hn
    obtain ⟨e1, e2⟩ := ih (by omega)
    have hs := pb_k0_t1_succ (F := F) Variants.none c none i arg2 harg2 arg3 harg3 arg4 harg4 arg5 harg5 arg6 harg6 arg7 harg7 arg8 harg8 v11 (harg2.unread x0) (harg3.unread x1) (harg4.unread x2) (harg5.unread x3) G7 G8 ⟨n, hn⟩
    rw [trip_pieces, e2, e1] at hs
    dsimp only at hs
    rw [hs]
    refine ⟨?_, ?_⟩
    · show _ :: pieces x0 x1 x2 x3 v11 n = pieces x0 x1 x2 x3 v11 (n + 1)
      rw [pieces, dif_pos (show n < k0_t1_loop.trips from hn)]; rfl
    · rw [state, dif_pos (show n < k0_t1_loop.trips from hn)]
      exact View.read_writes_full (s := S256x128) _ _ inb_S256x128_S256x128_0_0 _ _
end

-- The run's term is large.
set_option maxHeartbeats 1000000 in
/-- The body on whole staging memrefs: the inputs stay, and the output memref ends with the chunks' pieces written. -/
theorem kernelRun (c : Dev nD) (i : grid0.Coords) (arg2 : Memref sig .tc .vmem S1x2048x128 .bf16) (harg2 : arg2.IsWhole) (arg3 : Memref sig .tc .vmem S1x2048x128 .bf16) (harg3 : arg3.IsWhole)
  (arg4 : Memref sig .tc .vmem S1x2048x256 .bf16) (harg4 : arg4.IsWhole) (arg5 : Memref sig .tc .vmem S1x2048x128 .f32) (harg5 : arg5.IsWhole)
  (arg6 : Memref sig .tc .vmem S1x256 .f32) (harg6 : arg6.IsWhole) (arg7 : Memref sig .tc .vmem S1x2048x256 .bf16) (harg7 : arg7.IsWhole) (arg8 : Memref sig .tc .vmem S256x128 .f32) (harg8 : arg8.IsWhole)
    (x0 x1 : Vec F S1x2048x128 .bf16) (x2 : Vec F S1x2048x256 .bf16) (x3 : Vec F S1x2048x128 .f32) (x4 : Vec F S1x256 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (pieces x0 x1 x2 x3 x4 k0_t1_loop.trips)) ∗ (∃ d, owns (c : Thread nD τ) arg8 fullShare d)) -∗ K ⟨⟩))
          ⊢ wp frame (wpE (defs₀ (F := F)) Variants.none c none) E (cc0_gla i arg2 harg2 arg3 harg3 arg4 harg4 arg5 harg5 arg6 harg6 arg7 harg7 arg8 harg8) K := by
  simp only [cc0_gla_eq_skeleton]; unfold cc0_gla_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  have e4 : View.readAt (Elt F) arg6.view (Rect.unit (s := S1x256) ![0, 0] S1x256.size inb_S1x256_S1x256_0_0) (harg6.unread x4) = x4 := by
    rw [View.readAt_eq_ld, harg6.read_unread]
    exact View.ld_unit_zero (by funext a; fin_cases a <;> rfl) _ _
  have hp : ∀ L : List (View.Piece (Elt F) S256x128 .f32), L = [⟨Rect.unit (s := S256x128) ![0, 0] S256x128.size inb_S256x128_S256x128_0_0, k0_pay1⟩] →
      (pb_k0_t1 (F := F) Variants.none c none i arg2 harg2 arg3 harg3 arg4 harg4 arg5 harg5 arg6 harg6 arg7 harg7 arg8 harg8 x4 (harg2.unread x0) (harg3.unread x1) (harg4.unread x2) (harg5.unread x3) f5 (arg8.view.writes (Elt F) arg8.view.junk L) (Scf.trips k0_t1_loop.lb k0_t1_loop.ub k0_t1_loop.st)).1
        = pieces x0 x1 x2 x3 x4 k0_t1_loop.trips := by
    rintro L rfl
    exact (pieces_eq c i arg2 harg2 arg3 harg3 arg4 harg4 arg5 harg5 arg6 harg6 arg7 harg7 arg8 harg8 x0 x1 x2 x3 x4 f5 _ (View.read_writes_full (s := S256x128) _ _ inb_S256x128_S256x128_0_0 _ _) k0_t1_loop.trips le_rfl).1
  sl_exec
  rw [hp]
  swap
  · rfl
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]; · iexists _; iexact H5
  iexists _, _; isplitr; swap; · iexact HS0
  ipureintro; rfl

end Cert.GlaIdeal.Chunks

end
-- ==== Proof.GlaIdealFrame.lean ====
/-
  The run of the gated linear attention idealized program: every grid point leaves its block of the result at the chunks' pieces, the
  arguments stay, and the program ends.
-/
module

public import proofs.«01_k».proof.Proof.GlaIdealRun
public import Idealize.ShloMosaic.Lib.Claim

@[expose] public section

set_option maxRecDepth 16384

noncomputable section

namespace Cert.GlaIdeal.Chunks

open Cert.GlaIdeal Cert.GlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (x0 x1 : Vec F S1x2048x128 .bf16) (x2 : Vec F S1x2048x256 .bf16) (x3 : Vec F S1x2048x128 .f32) (x4 : Vec F S1x256 .f32)

/-- Every index of a block lies in the piece of its chunk. -/
theorem pieces_cover (y : S1x2048x256.Idx) : ∃ pc ∈ pieces x0 x1 x2 x3 x4 k0_t1_loop.trips, y ∈ pc.1.set :=
  View.cover_of_tiledL (pieces x0 x1 x2 x3 x4 k0_t1_loop.trips) S1x64x256.size (by sl_kernel_rfl) y

/-- The block the chunks' pieces make. -/
def outBlock : Vec F S1x2048x256 .bf16 :=
  VO0_5.read (Elt F) (VO0_5.writes (Elt F) VO0_5.junk (pieces x0 x1 x2 x3 x4 k0_t1_loop.trips))
end

variable (m : (ℓ : Loc nD τ sig) → Buf (Elt F) ℓ) (ρ : Dev nD → PrngReg)

/-- What the output's staging buffer holds after point `t`: the chunks' pieces over the point's blocks. -/
def outsAt0 (c : Dev nD) (t : Fin cfg0.N) : Vec F S1x2048x256 .bf16 :=
  outBlock (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold outBlock
  iintro ⟨⟨HS0, Hg⟩, Ho, ⟨%d0, H0⟩, ⟨%d1, H1⟩, ⟨%d2, H2⟩, ⟨%d3, H3⟩, ⟨%d4, H4⟩, ⟨%d5, H5⟩⟩
  iapply (kernelRun c (grid0.coords t) _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (pieces_cover _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The program ends, its argument arrays as they were and no counter left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.GlaIdeal.Chunks

end
-- ==== Proof.GlaIdealValue.lean ====
/-
  The idealized gated linear attention program's run with the result array named, the arguments as they were.
-/
module

public import proofs.«01_k».proof.Proof.GlaIdealFrame
public import Idealize.ShloMosaic.Lib.Pipeline.Value

@[expose] public section

set_option maxRecDepth 16384

noncomputable section

namespace Cert.GlaIdeal.Chunks

open Cert.GlaIdeal Cert.GlaIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.GlaIdeal.Chunks

end
-- ==== Proof.GlaChunk.lean ====
/-
  Gated linear attention over the real numbers, for one head and one value lane: the sum over the positions at or before a query
  of its decayed scores against the values, taken a chunk of 64 positions at a time with a state carried from chunk to chunk.
-/
module

public import Mathlib.Data.EReal.Operations
public import Mathlib.Analysis.SpecialFunctions.Exp
public import Mathlib.Tactic.LinearCombination

@[expose] public section

noncomputable section

namespace Cert.GlaChunk

open scoped BigOperators

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable (q k g : ℕ → Fin 128 → ℝ) (v : ℕ → ℝ)

/-- The log decay of the positions before `n`. -/
def decay (n : ℕ) (d : Fin 128) : ℝ := ∑ j ∈ Finset.range n, g j d

/-- The decayed score of query `i` against key `j`. -/
def score (i j : ℕ) : ℝ :=
  ∑ d, (q i d * Real.exp (decay g (i + 1) d)) * (k j d * Real.exp (-decay g (j + 1) d))

/-- The scores of query `i` against the values at or before it. -/
def out (i : ℕ) : ℝ := ∑ j ∈ Finset.range (i + 1), score q k g i j * v j

/-- The state before position `n`: the values against the keys, each decayed from its position to `n`. -/
def carried (n : ℕ) (d : Fin 128) : ℝ :=
  ∑ j ∈ Finset.range n, v j * (k j d * Real.exp (decay g n d - decay g (j + 1) d))

/-- The log decay from the start `s` of a chunk through its row `r`. -/
def loc (s r : ℕ) (d : Fin 128) : ℝ := decay g (s + r + 1) d - decay g s d

/-- A sum over a chunk's rows at or before `r`. -/
theorem sum_masked (f : ℕ → ℝ) (r : Fin 64) :
    (∑ c : Fin 64, if c.val ≤ r.val then f c.val else 0) = ∑ c ∈ Finset.range (r.val + 1), f c := by
  rw [← Finset.sum_range (fun c => if c ≤ r.val then f c else 0), ← Finset.sum_filter]
  refine Finset.sum_congr (Finset.ext fun c => ?_) fun _ _ => rfl
  have := r.isLt
  simp only [Finset.mem_filter, Finset.mem_range]
  omega

theorem loc_eq (s : ℕ) (r : Fin 64) (d : Fin 128) :
    (∑ c : Fin 64, (if c.val ≤ r.val then (1 : ℝ) else 0) * g (s + c.val) d) = loc g s r.val d := by
  have h : ∀ c : Fin 64, (if c.val ≤ r.val then (1 : ℝ) else 0) * g (s + c.val) d = if c.val ≤ r.val then g (s + c.val) d else 0 := fun c => by
    split <;> simp
  rw [Finset.sum_congr rfl fun c _ => h c, sum_masked (fun c => g (s + c) d) r]
  unfold loc decay
  rw [show s + r.val + 1 = s + (r.val + 1) by omega, Finset.sum_range_add _ s (r.val + 1), add_sub_cancel_left]

/-- The state after a chunk from the state before it. -/
theorem carried_step (s : ℕ) (d : Fin 128) :
    carried k g v (s + 64) d = carried k g v s d * Real.exp (loc g s 63 d)
      + ∑ c : Fin 64, v (s + c.val) * (k (s + c.val) d * Real.exp (loc g s 63 d - loc g s c.val d)) := by
  unfold carried
  rw [Finset.sum_range_add, Finset.sum_range (fun c => v (s + c) * _), Finset.sum_mul]
  refine congrArg₂ (· + ·) (Finset.sum_congr rfl fun j _ => ?_) (Finset.sum_congr rfl fun c _ => ?_)
  · unfold loc
    rw [mul_assoc, mul_assoc, ← Real.exp_add]
    congr 3
    ring
  · unfold loc
    congr 3
    ring

/-- A chunk's row of the result from the state before the chunk. -/
theorem out_step (s : ℕ) (r : Fin 64) :
    out q k g v (s + r.val) = (∑ c : Fin 64, (if c.val ≤ r.val then
        ∑ d, (q (s + r.val) d * Real.exp (loc g s r.val d)) * (k (s + c.val) d * Real.exp (0 - loc g s c.val d)) else 0) * v (s + c.val))
      + ∑ d, (q (s + r.val) d * Real.exp (loc g s r.val d)) * carried k g v s d := by
  have h : ∀ c : Fin 64, (if c.val ≤ r.val then
        ∑ d, (q (s + r.val) d * Real.exp (loc g s r.val d)) * (k (s + c.val) d * Real.exp (0 - loc g s c.val d)) else 0) * v (s + c.val)
      = if c.val ≤ r.val then score q k g (s + r.val) (s + c.val) * v (s + c.val) else 0 := fun c => by
    split
    · refine congrArg (· * _) (Finset.sum_congr rfl fun d _ => ?_)
      unfold loc
      have e : Real.exp (decay g (s + r.val + 1) d - decay g s d) * Real.exp (0 - (decay g (s + c.val + 1) d - decay g s d))
          = Real.exp (decay g (s + r.val + 1) d) * Real.exp (-decay g (s + c.val + 1) d) := by
        rw [← Real.exp_add, ← Real.exp_add]
        congr 1
        ring
      linear_combination (q (s + r.val) d * k (s + c.val) d) * e
    · rw [zero_mul]
  rw [Finset.sum_congr rfl fun c _ => h c, sum_masked (fun c => score q k g (s + r.val) (s + c) * v (s + c)) r]
  unfold out
  rw [show s + r.val + 1 = s + (r.val + 1) by omega, Finset.sum_range_add _ s (r.val + 1), add_comm]
  refine congrArg (_ + ·) ?_
  unfold score carried
  simp only [Finset.sum_mul, Finset.mul_sum]
  rw [Finset.sum_comm]
  refine Finset.sum_congr rfl fun d _ => Finset.sum_congr rfl fun j _ => ?_
  unfold loc
  rw [show q (s + r.val) d * Real.exp (decay g (s + r.val + 1) d) * (k j d * Real.exp (-decay g (j + 1) d)) * v j
      = q (s + r.val) d * k j d * v j * (Real.exp (decay g (s + r.val + 1) d) * Real.exp (-decay g (j + 1) d)) by ring,
    show q (s + r.val) d * Real.exp (decay g (s + r.val + 1) d - decay g s d) * (v j * (k j d * Real.exp (decay g s d - decay g (j + 1) d)))
      = q (s + r.val) d * k j d * v j * (Real.exp (decay g (s + r.val + 1) d - decay g s d) * Real.exp (decay g s d - decay g (j + 1) d)) by ring,
    ← Real.exp_add, ← Real.exp_add]
  congr 2
  ring

end Cert.GlaChunk

end
-- ==== Proof.GlaPay.lean ====
/-
  One chunk of the gated linear attention kernel, at the exact values: over real queries, keys, values and log decays its
  operations are the chunk's sums over the reals, and its rows go through the norm.
-/
module

public import proofs.«01_k».proof.Proof.GlaIdealRun
public import proofs.«01_k».proof.Proof.GlaChunk
public import proofs.«01_k».proof.Proof.InRow
public import proofs.«01_k».proof.Proof.OnlineSoftmax
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.WordCmp
public import Idealize.ShloMosaic.Lib.IdealHost

@[expose] public section

set_option maxRecDepth 16384

noncomputable section

namespace Cert.GlaIdeal.Chunks

open Cert.GlaIdeal Cert.GlaIdeal.Gen Cert.GlaChunk Cert.OnlineSoftmax
open Idealize.ShloMosaic Idealize.ShloMosaic.TcCoe Idealize.ShloMosaic.ValueIdx Idealize.ShloMosaic.WordCmp
open scoped BigOperators

/-! ## The masks -/

theorem mask_apply (r c : Fin 64) : k0_pay2 (ix2 r c) = BitVec.ofBool (decide (c.val ≤ r.val)) := by
  have hb : (IntOp.cmpi .sle (BitVec.ofNat 32 c.val) (BitVec.ofNat 32 r.val) : BitVec 1) = BitVec.ofBool (decide (c.val ≤ r.val)) :=
    cmpi_sle_ofNat (by have := c.isLt; omega) (by have := r.isLt; omega)
  rw [← hb]
  unfold k0_pay2
  show IntOp.cmpi .sle (iota .tc S64x64 32 [1] iota_S64x64_d1_w32 (ix2 r c)) (iota .tc S64x64 32 [0] iota_S64x64_d0_w32 (ix2 r c)) = _
  rw [iota_single_apply, iota_single_apply]

theorem select_mask (r c : Fin 64) (a b : EReal) :
    Scalar.select (k0_pay2 (ix2 r c)) a b = if c.val ≤ r.val then a else b := by
  rw [mask_apply]
  by_cases h : c.val ≤ r.val
  · rw [if_pos h, decide_eq_true h]; rfl
  · rw [if_neg h, decide_eq_false h]; rfl

theorem ones_apply (r c : Fin 64) : k0_pay3 (F := Ideal) (ix2 r c) = ((if c.val ≤ r.val then (1 : ℝ) else 0 : ℝ) : EReal) := by
  have h : k0_pay3 (F := Ideal) (ix2 r c) = Scalar.select (k0_pay2 (ix2 r c)) (Ideal.ofBits .f32 0x3F800000#32) (Ideal.ofBits .f32 0x00000000#32) := rfl
  rw [h, select_mask, Ideal.ofBits_one_f32, Ideal.ofBits_zero_f32]
  split <;> rfl

/-! ## The products -/

theorem dot_decay (a : FVec Ideal S64x64 .bf16) (b : FVec Ideal S64x128 .bf16) (r : Fin 64) (d : Fin 128) :
    matmul dot_S64x64_S64x128_S64x128_1_0_0_1_n_n none a b (constant S64x128 .f32 0x00000000#32) (ix2 r d)
      = ∑ c : Fin 64, a (ix2 r c) * b (ix2 c d) := by
  refine (Ideal.matmul_plain_apply none a b _ r d).trans ?_
  rw [constant_apply, Ideal.ofBits_zero_f32, zero_add]

theorem dot_values (a : FVec Ideal S64x64 .bf16) (b : FVec Ideal S64x256 .bf16) (r : Fin 64) (w : Fin 256) :
    matmul dot_S64x64_S64x256_S64x256_1_0_0_1_n_n none a b (constant S64x256 .f32 0x00000000#32) (ix2 r w)
      = ∑ c : Fin 64, a (ix2 r c) * b (ix2 c w) := by
  refine (Ideal.matmul_plain_apply none a b _ r w).trans ?_
  rw [constant_apply, Ideal.ofBits_zero_f32, zero_add]

theorem dot_scores (a b : FVec Ideal S64x128 .bf16) (r c : Fin 64) :
    matmul dot_S64x128_S64x128_S64x64_1_1_0_0_n_n none a b (constant S64x64 .f32 0x00000000#32) (ix2 r c)
      = ∑ d : Fin 128, a (ix2 r d) * b (ix2 c d) := by
  refine (Ideal.matmul_transposedRhs_apply none a b _ r c).trans ?_
  rw [constant_apply, Ideal.ofBits_zero_f32, zero_add]

theorem dot_state (a : FVec Ideal S64x128 .bf16) (b : FVec Ideal S256x128 .bf16) (r : Fin 64) (w : Fin 256) :
    matmul dot_S64x128_S256x128_S64x256_1_1_0_0_n_n none a b (constant S64x256 .f32 0x00000000#32) (ix2 r w)
      = ∑ d : Fin 128, a (ix2 r d) * b (ix2 w d) := by
  refine (Ideal.matmul_transposedRhs_apply none a b _ r w).trans ?_
  rw [constant_apply, Ideal.ofBits_zero_f32, zero_add]

theorem update_lhs (i : S256x128.Idx) (e : dot_S64x256_S64x128_S256x128_0_0_1_1_n_n.contr.Idx) :
    (dot_S64x256_S64x128_S256x128_0_0_1_1_n_n.lhsIdx i e 1).val = (i 0).val := by
  unfold DotDims.lhsIdx
  rw [dif_neg (show ¬(1 : Fin S64x256.rank) ∈ dot_S64x256_S64x128_S256x128_0_0_1_1_n_n.lhsBatch by decide),
    dif_pos (show (1 : Fin S64x256.rank) ∈ dot_S64x256_S64x128_S256x128_0_0_1_1_n_n.lhsNonContracting by decide)]
  rfl

theorem update_rhs (i : S256x128.Idx) (e : dot_S64x256_S64x128_S256x128_0_0_1_1_n_n.contr.Idx) :
    (dot_S64x256_S64x128_S256x128_0_0_1_1_n_n.rhsIdx i e 1).val = (i 1).val := by
  unfold DotDims.rhsIdx
  rw [dif_neg (show ¬(1 : Fin S64x128.rank) ∈ dot_S64x256_S64x128_S256x128_0_0_1_1_n_n.rhsBatch by decide),
    dif_pos (show (1 : Fin S64x128.rank) ∈ dot_S64x256_S64x128_S256x128_0_0_1_1_n_n.rhsNonContracting by decide)]
  rfl

/-- The product over the rows of both operands. -/
theorem dot_update (a : FVec Ideal S64x256 .bf16) (b : FVec Ideal S64x128 .bf16) (w : Fin 256) (d : Fin 128) :
    matmul dot_S64x256_S64x128_S256x128_0_0_1_1_n_n none a b (constant S256x128 .f32 0x00000000#32) (ix2 w d)
      = ∑ c : Fin 64, a (ix2 c w) * b (ix2 c d) := by
  refine (Ideal.matmul_apply dot_S64x256_S64x128_S256x128_0_0_1_1_n_n none a b _ (ix2 w d)).trans ?_
  rw [constant_apply, Ideal.ofBits_zero_f32, zero_add,
    ← Equiv.sum_comp (contrEquiv1 dot_S64x256_S64x128_S256x128_0_0_1_1_n_n 64 rfl rfl).symm]
  refine Finset.sum_congr rfl fun c _ => ?_
  have hk := contrEquiv1_symm_val dot_S64x256_S64x128_S256x128_0_0_1_1_n_n 64 rfl rfl c
  refine congrArg₂ (· * ·) (congrArg a (funext fun x => Fin.ext ?_)) (congrArg b (funext fun x => Fin.ext ?_))
  · match x with
    | ⟨0, _⟩ => exact (dot_S64x256_S64x128_S256x128_0_0_1_1_n_n.lhsIdx_val_of_single rfl _ _).trans hk
    | ⟨1, _⟩ => exact update_lhs _ _
  · match x with
    | ⟨0, _⟩ => exact (dot_S64x256_S64x128_S256x128_0_0_1_1_n_n.rhsIdx_val_of_single rfl _ _).trans hk
    | ⟨1, _⟩ => exact update_rhs _ _

/-! ## The chunk's vectors over real operands -/

/-- A row vector over the rows of a block. -/
theorem over_rows {n m : ℕ} (g : FVec Ideal ⟨2, ![1, n]⟩ .f32) (hb : (⟨2, ![1, n]⟩ : Shape).Broadcasts ⟨2, ![m, n]⟩) (hn : n ≠ 1)
    (r : Fin m) (d : Fin n) : broadcastTo ⟨2, ![m, n]⟩ g hb (ix2 r d) = g (ix2 0 d) := by
  refine broadcastTo_apply g _ _ _ fun a => ?_
  match a with
  | ⟨0, _⟩ => rfl
  | ⟨1, _⟩ => exact (if_neg hn).symm

variable {q k g : ℕ → Fin 128 → ℝ} {v : Fin 256 → ℕ → ℝ} {s : ℕ}
variable {Q K : Vec Ideal S1x64x128 .bf16} {X : Vec Ideal S1x64x256 .bf16} {G : Vec Ideal S1x64x128 .f32}

theorem pay6_apply (hG : ∀ (c : Fin 64) (d : Fin 128), G (ix3 0 c d) = ((g (s + c.val) d : ℝ) : EReal)) (r : Fin 64) (d : Fin 128) :
    k0_pay6 (k0_pay3 (F := Ideal)) G (ix2 r d) = ((loc g s r.val d : ℝ) : EReal) := by
  have hs : ∀ c : Fin 64, shapeCast S64x128 G shapeCasts_S1x64x128_S64x128 (ix2 c d) = ((g (s + c.val) d : ℝ) : EReal) := fun c => by
    rw [← hG c d]; exact shapeCast_1ab_ab_apply G _ c d
  unfold k0_pay6
  rw [addf_apply, dot_decay, dot_decay]
  have h1 : (∑ c : Fin 64, k0_pay3 (F := Ideal) (ix2 r c) * truncf .bf16 (shapeCast S64x128 G shapeCasts_S1x64x128_S64x128) bitsLt_bf16_f32 (ix2 c d))
      = ((loc g s r.val d : ℝ) : EReal) := by
    rw [← loc_eq, coe_sum]
    refine Finset.sum_congr rfl fun c _ => ?_
    rw [ones_apply, truncf_apply, hs, EReal.coe_mul]
  have h2 : ∀ Y : FVec Ideal S64x128 .bf16, (∀ c : Fin 64, Y (ix2 c d) = 0) → (∑ c : Fin 64, k0_pay3 (F := Ideal) (ix2 r c) * Y (ix2 c d)) = 0 := fun Y hY =>
    Finset.sum_eq_zero fun c _ => by rw [hY c, mul_zero]
  rw [h1, h2 _ fun c => ?_, add_zero]
  show shapeCast S64x128 G shapeCasts_S1x64x128_S64x128 (ix2 c d) - shapeCast S64x128 G shapeCasts_S1x64x128_S64x128 (ix2 c d) = 0
  rw [hs, ← EReal.coe_sub, sub_self, EReal.coe_zero]

theorem pay7_apply (hG : ∀ (c : Fin 64) (d : Fin 128), G (ix3 0 c d) = ((g (s + c.val) d : ℝ) : EReal)) (d : Fin 128) :
    k0_pay7 (k0_pay3 (F := Ideal)) G (ix2 0 d) = ((loc g s 63 d : ℝ) : EReal) := by
  unfold k0_pay7
  rw [extractStridedSlice_apply _ _ _ _ (ix2 (63 : Fin 64) d) fun a => by
    match a with
    | ⟨0, _⟩ => rfl
    | ⟨1, _⟩ => show d.val = 0 + d.val; omega]
  exact pay6_apply hG 63 d

theorem pay8_apply (hK : ∀ (c : Fin 64) (d : Fin 128), K (ix3 0 c d) = ((k (s + c.val) d : ℝ) : EReal)) (c : Fin 64) (d : Fin 128) :
    k0_pay8 (F := Ideal) K (ix2 c d) = ((k (s + c.val) d : ℝ) : EReal) :=
  (shapeCast_1ab_ab_apply K shapeCasts_S1x64x128_S64x128 c d).trans (hK c d)

theorem pay9_apply (hX : ∀ (c : Fin 64) (w : Fin 256), X (ix3 0 c w) = ((v w (s + c.val) : ℝ) : EReal)) (c : Fin 64) (w : Fin 256) :
    k0_pay9 (F := Ideal) X (ix2 c w) = ((v w (s + c.val) : ℝ) : EReal) :=
  (shapeCast_1ab_ab_apply X shapeCasts_S1x64x256_S64x256 c w).trans (hX c w)

theorem pay10_apply (hG : ∀ (c : Fin 64) (d : Fin 128), G (ix3 0 c d) = ((g (s + c.val) d : ℝ) : EReal))
    (hQ : ∀ (c : Fin 64) (d : Fin 128), Q (ix3 0 c d) = ((q (s + c.val) d : ℝ) : EReal)) (r : Fin 64) (d : Fin 128) :
    k0_pay10 (k0_pay3 (F := Ideal)) G Q (ix2 r d) = ((q (s + r.val) d * Real.exp (loc g s r.val d) : ℝ) : EReal) := by
  have h : k0_pay10 (k0_pay3 (F := Ideal)) G Q (ix2 r d)
      = k0_pay8 (F := Ideal) Q (ix2 r d) * Ideal.exp (k0_pay6 (k0_pay3 (F := Ideal)) G (ix2 r d)) := rfl
  rw [h, pay8_apply hQ, pay6_apply hG, exp_coe, ← EReal.coe_mul]

theorem pay11_apply (hG : ∀ (c : Fin 64) (d : Fin 128), G (ix3 0 c d) = ((g (s + c.val) d : ℝ) : EReal))
    (hK : ∀ (c : Fin 64) (d : Fin 128), K (ix3 0 c d) = ((k (s + c.val) d : ℝ) : EReal)) (c : Fin 64) (d : Fin 128) :
    k0_pay11 (k0_pay3 (F := Ideal)) G K (ix2 c d)
      = ((k (s + c.val) d * Real.exp (loc g s 63 d - loc g s c.val d) : ℝ) : EReal) := by
  have h : k0_pay11 (k0_pay3 (F := Ideal)) G K (ix2 c d)
      = k0_pay8 (F := Ideal) K (ix2 c d) * Ideal.exp (broadcastTo S64x128 (k0_pay7 (k0_pay3 (F := Ideal)) G) broadcasts_S1x128_S64x128 (ix2 c d)
        - k0_pay6 (k0_pay3 (F := Ideal)) G (ix2 c d)) := rfl
  have hb : broadcastTo S64x128 (k0_pay7 (k0_pay3 (F := Ideal)) G) broadcasts_S1x128_S64x128 (ix2 c d) = ((loc g s 63 d : ℝ) : EReal) :=
    (over_rows _ _ (by decide) c d).trans (pay7_apply hG d)
  rw [h, hb, pay8_apply hK, pay6_apply hG, ← EReal.coe_sub, exp_coe, ← EReal.coe_mul]

theorem pay12_apply (hG : ∀ (c : Fin 64) (d : Fin 128), G (ix3 0 c d) = ((g (s + c.val) d : ℝ) : EReal))
    (hQ : ∀ (c : Fin 64) (d : Fin 128), Q (ix3 0 c d) = ((q (s + c.val) d : ℝ) : EReal))
    (hK : ∀ (c : Fin 64) (d : Fin 128), K (ix3 0 c d) = ((k (s + c.val) d : ℝ) : EReal)) (r c : Fin 64) :
    k0_pay12 k0_pay2 (k0_pay3 (F := Ideal)) G Q K (ix2 r c)
      = ((if c.val ≤ r.val then
        ∑ d, (q (s + r.val) d * Real.exp (loc g s r.val d)) * (k (s + c.val) d * Real.exp (0 - loc g s c.val d)) else 0 : ℝ) : EReal) := by
  have h : k0_pay12 k0_pay2 (k0_pay3 (F := Ideal)) G Q K (ix2 r c)
      = Scalar.select (k0_pay2 (ix2 r c)) (matmul dot_S64x128_S64x128_S64x64_1_1_0_0_n_n none (k0_pay10 (k0_pay3 (F := Ideal)) G Q)
        (truncf .bf16 (mulf (k0_pay8 (F := Ideal) K) (exp (subf (broadcast S64x128 (Scalar.ofBits .f32 0x00000000#32)) (k0_pay6 (k0_pay3 (F := Ideal)) G))))
          bitsLt_bf16_f32) (constant S64x64 .f32 0x00000000#32) (ix2 r c)) (Ideal.ofBits .f32 0x00000000#32) := rfl
  rw [h, select_mask, dot_scores, Ideal.ofBits_zero_f32]
  split
  · rw [coe_sum]
    refine Finset.sum_congr rfl fun d _ => ?_
    have e : (truncf .bf16 (mulf (k0_pay8 (F := Ideal) K) (exp (subf (broadcast S64x128 (Scalar.ofBits .f32 0x00000000#32)) (k0_pay6 (k0_pay3 (F := Ideal)) G))))
          bitsLt_bf16_f32) (ix2 c d) = k0_pay8 (F := Ideal) K (ix2 c d) * Ideal.exp (Ideal.ofBits .f32 0x00000000#32 - k0_pay6 (k0_pay3 (F := Ideal)) G (ix2 c d)) := rfl
    rw [e, pay10_apply hG hQ, pay8_apply hK, pay6_apply hG, Ideal.ofBits_zero_f32, ← EReal.coe_zero, ← EReal.coe_sub, exp_coe, ← EReal.coe_mul, ← EReal.coe_mul]
  · rfl

/-- The state after the chunk. -/
theorem pay4_apply (hG : ∀ (c : Fin 64) (d : Fin 128), G (ix3 0 c d) = ((g (s + c.val) d : ℝ) : EReal))
    (hK : ∀ (c : Fin 64) (d : Fin 128), K (ix3 0 c d) = ((k (s + c.val) d : ℝ) : EReal))
    (hX : ∀ (c : Fin 64) (w : Fin 256), X (ix3 0 c w) = ((v w (s + c.val) : ℝ) : EReal))
    {S : Vec Ideal S256x128 .f32} (hS : ∀ (w : Fin 256) (d : Fin 128), S (ix2 w d) = ((carried k g (v w) s d : ℝ) : EReal)) (w : Fin 256) (d : Fin 128) :
    k0_pay4 (k0_pay7 (k0_pay3 (F := Ideal)) G) (k0_pay9 X) (k0_pay11 k0_pay3 G K) S (ix2 w d)
      = ((carried k g (v w) (s + 64) d : ℝ) : EReal) := by
  unfold k0_pay4
  rw [shapeCast_self, addf_apply, mulf_apply, dot_update]
  have hb : broadcastTo S256x128 (exp (k0_pay7 (k0_pay3 (F := Ideal)) G)) broadcasts_S1x128_S256x128 (ix2 w d) = ((Real.exp (loc g s 63 d) : ℝ) : EReal) :=
    (over_rows _ _ (by decide) w d).trans (congrArg Ideal.exp (pay7_apply hG d))
  rw [hb, hS, carried_step, EReal.coe_add, EReal.coe_mul, coe_sum]
  refine congrArg (_ + ·) (Finset.sum_congr rfl fun c _ => ?_)
  rw [pay9_apply hX, pay11_apply hG hK, ← EReal.coe_mul]

/-- A block over the root of its rows' mean squares. -/
theorem norm_row (N : BitVec 32) (y : FVec Ideal S64x256 .f32) (r : Fin 64) (w : Fin 256) :
    mulf y (broadcastTo S64x256 (rsqrt (addf (divf (shapeCast S64x1
      (multiReduction .add [1] S64 (mulf y y) 0x00000000#32 reduces_S64x256_S64 (.inl rfl) rfl) shapeCasts_S64_S64x1)
        (broadcast S64x1 (Scalar.ofBits .f32 N))) (broadcast S64x1 (Scalar.ofBits .f32 0x358637BD#32)))) broadcasts_S64x1_S64x256) (ix2 r w)
      = y (ix2 r w) * Ideal.rsqrt (Ideal.div (∑ e : Fin 256, y (ix2 r e) * y (ix2 r e)) (Ideal.ofBits .f32 N) + Ideal.ofBits .f32 0x358637BD#32) := by
  have hl : ∀ e : Fin 256, reduces_S64x256_S64.lift (ix1 r) e = ix2 r e := fun e => by
    funext a; match a with | ⟨0, _⟩ => rfl | ⟨1, _⟩ => rfl
  have hcol : ∀ Y : FVec Ideal S64x1 .f32, broadcastTo S64x256 Y broadcasts_S64x1_S64x256 (ix2 r w) = Y (ix2 r 0) := fun Y => by
    refine broadcastTo_apply Y _ _ _ fun a => ?_
    match a with
    | ⟨0, _⟩ => rfl
    | ⟨1, _⟩ => rfl
  rw [mulf_apply, hcol]
  refine congrArg (fun z => y (ix2 r w) * Ideal.rsqrt (Ideal.div z _ + _)) ?_
  refine (shapeCast_a_a1_apply _ _ r 0).trans ?_
  refine (Ideal.multiReduction_add_single (mulf y y) _ reduces_S64x256_S64 (.inl rfl) rfl (ix1 r)).trans (Finset.sum_congr rfl fun e _ => ?_)
  exact (congrArg (mulf y y) (hl e)).trans rfl

/-- The rows stored for the chunk. -/
theorem pay5_apply (hG : ∀ (c : Fin 64) (d : Fin 128), G (ix3 0 c d) = ((g (s + c.val) d : ℝ) : EReal))
    (hQ : ∀ (c : Fin 64) (d : Fin 128), Q (ix3 0 c d) = ((q (s + c.val) d : ℝ) : EReal))
    (hK : ∀ (c : Fin 64) (d : Fin 128), K (ix3 0 c d) = ((k (s + c.val) d : ℝ) : EReal))
    (hX : ∀ (c : Fin 64) (w : Fin 256), X (ix3 0 c w) = ((v w (s + c.val) : ℝ) : EReal))
    {S : Vec Ideal S256x128 .f32} (hS : ∀ (w : Fin 256) (d : Fin 128), S (ix2 w d) = ((carried k g (v w) s d : ℝ) : EReal))
    (x4 : Vec Ideal S1x256 .f32) (r : Fin 64) (w : Fin 256) :
    k0_pay5 x4 (k0_pay9 X) (k0_pay10 k0_pay3 G Q) (k0_pay12 k0_pay2 k0_pay3 G Q K) S (constant S64x256 .f32 0x00000000#32) (ix3 0 r w)
      = InRow.rms (Ideal.ofBits .f32 0x43800000#32) (fun w => ((out q k g (v w) (s + r.val) : ℝ) : EReal)) (fun w => x4 (ix2 0 w)) w := by
  have hy : ∀ e : Fin 256, addf (matmul dot_S64x64_S64x256_S64x256_1_0_0_1_n_n none (k0_pay12 k0_pay2 (k0_pay3 (F := Ideal)) G Q K) (k0_pay9 X)
      (constant S64x256 .f32 0x00000000#32)) (matmul dot_S64x128_S256x128_S64x256_1_1_0_0_n_n none (k0_pay10 k0_pay3 G Q)
        (truncf .bf16 S bitsLt_bf16_f32) (constant S64x256 .f32 0x00000000#32)) (ix2 r e)
      = ((out q k g (v e) (s + r.val) : ℝ) : EReal) := fun e => by
    rw [addf_apply, dot_values, dot_state, out_step, EReal.coe_add, coe_sum, coe_sum]
    refine congrArg₂ (· + ·) (Finset.sum_congr rfl fun c _ => ?_) (Finset.sum_congr rfl fun d _ => ?_)
    · rw [pay12_apply hG hQ hK, pay9_apply hX, ← EReal.coe_mul]
    · rw [pay10_apply hG hQ, truncf_apply, hS, ← EReal.coe_mul]
  unfold k0_pay5
  refine (shapeCast_ab_1ab_apply _ _ 0 r w).trans ?_
  rw [truncf_apply, mulf_apply, norm_row, shapeCast_self]
  unfold InRow.rms
  refine congrArg₂ (· * ·) (congrArg₂ (· * ·) (hy w) (congrArg (fun z => Ideal.rsqrt (Ideal.div z _ + _)) (Finset.sum_congr rfl fun e _ => ?_))) ?_
  · rw [hy e]
  · exact over_rows _ _ (by decide) r w

end Cert.GlaIdeal.Chunks

end
-- ==== Proof.GlaRows.lean ====
/-
  The block the gated linear attention kernel makes at a point, at the exact values: over blocks of real entries each row is the
  decayed causal sums of its position through the norm.
-/
module

public import proofs.«01_k».proof.Proof.GlaPay
public import proofs.«01_k».proof.Proof.GlaIdealFrame
public import Idealize.ShloMosaic.Lib.Pipeline.ValueKit.Tiles

@[expose] public section

set_option maxRecDepth 16384

noncomputable section

namespace Cert.GlaIdeal.Chunks

open Cert.GlaIdeal Cert.GlaIdeal.Gen Cert.GlaChunk
open Idealize.ShloMosaic Idealize.ShloMosaic.TcCoe Idealize.ShloMosaic.ValueIdx
open scoped BigOperators

theorem trips_eq : k0_t1_loop.trips = 32 := by decide +kernel

theorem off1_eq (k : Fin k0_t1_loop.trips) : k0_off1 k = ![0, 64 * k.val, 0] := by
  have hk : k.val < 32 := lt_of_lt_of_eq k.isLt trips_eq
  have h : ∀ q : Fin 32, (Scalar.indexCast (Scalar.muli (Scf.iv 0#32 1#32 q.val) 64#32) : Index).toNat = 64 * q.val := by decide +kernel
  have := h ⟨k.val, hk⟩
  unfold k0_off1
  exact congrArg (fun t => ![0, t, 0]) this

theorem off2_eq (k : Fin k0_t1_loop.trips) : k0_off2 k = ![0, 64 * k.val, 0] := off1_eq k

variable {q k g : ℕ → Fin 128 → ℝ} {v : Fin 256 → ℕ → ℝ}
variable {x0 x1 : Vec Ideal S1x2048x128 .bf16} {x2 : Vec Ideal S1x2048x256 .bf16} {x3 : Vec Ideal S1x2048x128 .f32}

/-- Row `c` of chunk `n` is a position. -/
abbrev pos (n : Fin k0_t1_loop.trips) (c : Fin 64) : Fin 2048 :=
  ⟨64 * n.val + c.val, by have := lt_of_lt_of_eq n.isLt trips_eq; have := c.isLt; omega⟩

theorem chunk_apply (h : ∀ (j : Fin 2048) (d : Fin 128), x0 (ix3 0 j d) = ((q j.val d : ℝ) : EReal)) (n : Fin k0_t1_loop.trips)
    (c : Fin 64) (d : Fin 128) : chunk x0 n (ix3 0 c d) = ((q (64 * n.val + c.val) d : ℝ) : EReal) := by
  refine (View.ld_unit_apply_of x0 _ _ _ (ix3 0 c d) (ix3 0 (pos n c) d) fun a => ?_).trans (h (pos n c) d)
  refine Eq.trans ?_ (congrArg (fun z => z + (ix3 (0 : Fin 1) c d a).val) (congrFun (off1_eq n) a).symm)
  match a with
  | ⟨0, _⟩ => rfl
  | ⟨1, _⟩ => rfl
  | ⟨2, _⟩ => show d.val = 0 + d.val; omega

theorem chunkG_apply (h : ∀ (j : Fin 2048) (d : Fin 128), x3 (ix3 0 j d) = ((g j.val d : ℝ) : EReal)) (n : Fin k0_t1_loop.trips)
    (c : Fin 64) (d : Fin 128) : chunkG x3 n (ix3 0 c d) = ((g (64 * n.val + c.val) d : ℝ) : EReal) := by
  refine (View.ld_unit_apply_of x3 _ _ _ (ix3 0 c d) (ix3 0 (pos n c) d) fun a => ?_).trans (h (pos n c) d)
  refine Eq.trans ?_ (congrArg (fun z => z + (ix3 (0 : Fin 1) c d a).val) (congrFun (off1_eq n) a).symm)
  match a with
  | ⟨0, _⟩ => rfl
  | ⟨1, _⟩ => rfl
  | ⟨2, _⟩ => show d.val = 0 + d.val; omega

theorem chunkV_apply (h : ∀ (j : Fin 2048) (w : Fin 256), x2 (ix3 0 j w) = ((v w j.val : ℝ) : EReal)) (n : Fin k0_t1_loop.trips)
    (c : Fin 64) (w : Fin 256) : chunkV x2 n (ix3 0 c w) = ((v w (64 * n.val + c.val) : ℝ) : EReal) := by
  refine (View.ld_unit_apply_of x2 _ _ _ (ix3 0 c w) (ix3 0 (pos n c) w) fun a => ?_).trans (h (pos n c) w)
  refine Eq.trans ?_ (congrArg (fun z => z + (ix3 (0 : Fin 1) c w a).val) (congrFun (off2_eq n) a).symm)
  match a with
  | ⟨0, _⟩ => rfl
  | ⟨1, _⟩ => rfl
  | ⟨2, _⟩ => show w.val = 0 + w.val; omega

variable (h0 : ∀ (j : Fin 2048) (d : Fin 128), x0 (ix3 0 j d) = ((q j.val d : ℝ) : EReal))
  (h1 : ∀ (j : Fin 2048) (d : Fin 128), x1 (ix3 0 j d) = ((k j.val d : ℝ) : EReal))
  (h2 : ∀ (j : Fin 2048) (w : Fin 256), x2 (ix3 0 j w) = ((v w j.val : ℝ) : EReal))
  (h3 : ∀ (j : Fin 2048) (d : Fin 128), x3 (ix3 0 j d) = ((g j.val d : ℝ) : EReal))
include h1 h2 h3

/-- The state before chunk `n`. -/
theorem state_apply : ∀ n, n ≤ k0_t1_loop.trips → ∀ (w : Fin 256) (d : Fin 128),
    state x1 x2 x3 n (ix2 w d) = ((carried k g (v w) (64 * n) d : ℝ) : EReal)
  | 0, _, w, d => by
    have h : state x1 x2 x3 0 (ix2 w d) = Ideal.ofBits .f32 0x00000000#32 := rfl
    rw [h, Ideal.ofBits_zero_f32]
    unfold carried
    rw [Nat.mul_zero, Finset.range_zero, Finset.sum_empty, EReal.coe_zero]
  | n + 1, hn, w, d => by
    have e : state x1 x2 x3 (n + 1) = step x1 x2 x3 ⟨n, hn⟩ (state x1 x2 x3 n) := dif_pos (show n < k0_t1_loop.trips from hn)
    rw [e]
    exact pay4_apply (chunkG_apply h3 ⟨n, hn⟩) (chunk_apply h1 ⟨n, hn⟩) (chunkV_apply h2 ⟨n, hn⟩) (state_apply n (Nat.le_of_succ_le hn)) w d

include h0

theorem outRows_apply (x4 : Vec Ideal S1x256 .f32) (n : Fin k0_t1_loop.trips) (r : Fin 64) (w : Fin 256) :
    outRows x0 x1 x2 x3 x4 n (state x1 x2 x3 n.val) (ix3 0 r w)
      = InRow.rms (Ideal.ofBits .f32 0x43800000#32) (fun w => ((out q k g (v w) (64 * n.val + r.val) : ℝ) : EReal)) (fun w => x4 (ix2 0 w)) w :=
  pay5_apply (chunkG_apply h3 n) (chunk_apply h0 n) (chunk_apply h1 n) (chunkV_apply h2 n) (state_apply h1 h2 h3 n.val n.isLt.le) x4 r w

/-- The rows of the chunks before `n`. -/
theorem read_pieces (x4 : Vec Ideal S1x256 .f32) : ∀ n, n ≤ k0_t1_loop.trips → ∀ (t : Fin 2048) (w : Fin 256), t.val < 64 * n →
    VO0_5.read (Elt Ideal) (VO0_5.writes (Elt Ideal) VO0_5.junk (pieces x0 x1 x2 x3 x4 n)) (ix3 0 t w)
      = InRow.rms (Ideal.ofBits .f32 0x43800000#32) (fun w => ((out q k g (v w) t.val : ℝ) : EReal)) (fun w => x4 (ix2 0 w)) w
  | 0, _, t, w, ht => by omega
  | n + 1, hn, t, w, ht => by
    have e : pieces x0 x1 x2 x3 x4 (n + 1) = piece x0 x1 x2 x3 x4 ⟨n, hn⟩ :: pieces x0 x1 x2 x3 x4 n := dif_pos (show n < k0_t1_loop.trips from hn)
    rw [e]
    by_cases hlt : t.val < 64 * n
    · refine (View.read_writes_cons_miss_of_axis _ _ (piece x0 x1 x2 x3 x4 ⟨n, hn⟩) _ (ix3 0 t w) (1 : Fin 3) (64 * n) 64 ?_ rfl rfl (Or.inl hlt)).trans
        (read_pieces x4 n (Nat.le_of_succ_le hn) t w hlt)
      show k0_off2 ⟨n, hn⟩ 1 = 64 * n
      rw [off2_eq]; rfl
    · have hr : t.val = 64 * n + (⟨t.val - 64 * n, by omega⟩ : Fin 64).val := by show t.val = 64 * n + (t.val - 64 * n); omega
      refine (View.read_writes_cons_hit_of_coords _ _ _ _ _ (ix3 0 (⟨t.val - 64 * n, by omega⟩ : Fin 64) w) (ix3 0 t w) fun a => ?_).trans ?_
      · show _ = k0_off2 ⟨n, hn⟩ a + 1 * _
        refine Eq.trans ?_ (congrArg (fun z => z + 1 * (ix3 (0 : Fin 1) (⟨t.val - 64 * n, by omega⟩ : Fin 64) w a).val) (congrFun (off2_eq ⟨n, hn⟩) a).symm)
        match a with
        | ⟨0, _⟩ => rfl
        | ⟨1, _⟩ => show t.val = 64 * n + 1 * (t.val - 64 * n); omega
        | ⟨2, _⟩ => show w.val = 0 + 1 * w.val; omega
      · refine (outRows_apply h0 h1 h2 h3 x4 ⟨n, hn⟩ ⟨t.val - 64 * n, by omega⟩ w).trans ?_
        rw [← hr]

/-- What the body leaves at row `t` and lane `w` of its output block. -/
theorem outBlock_apply (x4 : Vec Ideal S1x256 .f32) (t : Fin 2048) (w : Fin 256) : outBlock x0 x1 x2 x3 x4 (ix3 0 t w)
    = InRow.rms (Ideal.ofBits .f32 0x43800000#32) (fun w => ((out q k g (v w) t.val : ℝ) : EReal)) (fun w => x4 (ix2 0 w)) w :=
  read_pieces h0 h1 h2 h3 x4 _ le_rfl t w (by have := t.isLt; have := trips_eq; omega)

end Cert.GlaIdeal.Chunks

end
-- ==== Proof.GlaTarget.lean ====
/-
  Gated linear attention of every batch, query and column over arrays of real entries: the decayed causal sums of the column's head,
  through the norm of the head's columns.
-/
module

public import proofs.«01_k».proof.Proof.GlaChunk
public import proofs.«01_k».proof.Proof.InRow
public import Idealize.ShloMosaic.Lib.ValueIdx

@[expose] public section

noncomputable section

namespace Cert.GlaTarget

open Idealize.ShloMosaic Idealize.ShloMosaic.ValueIdx Cert.GlaChunk
open scoped BigOperators

/-- Lane `d` of head `h` among the 512 of four heads. -/
abbrev lane (h : Fin 4) (d : Fin 128) : Fin 512 := ⟨128 * h.val + d.val, by have := h.isLt; have := d.isLt; omega⟩

/-- Value lane `w` of head `h` among the 1024 of four heads. -/
abbrev col (h : Fin 4) (w : Fin 256) : Fin 1024 := ⟨256 * h.val + w.val, by have := h.isLt; have := w.isLt; omega⟩

/-- The rows of batch `b` at head `h`, by position. -/
def rows (x : (⟨3, ![8, 2048, 512]⟩ : Shape).Idx → EReal) (b : Fin 8) (h : Fin 4) (j : ℕ) (d : Fin 128) : ℝ :=
  if hj : j < 2048 then (x (ix3 b ⟨j, hj⟩ (lane h d))).toReal else 0

/-- The values of batch `b` at head `h` and value lane `w`, by position. -/
def vals (x : (⟨3, ![8, 2048, 1024]⟩ : Shape).Idx → EReal) (b : Fin 8) (h : Fin 4) (w : Fin 256) (j : ℕ) : ℝ :=
  if hj : j < 2048 then (x (ix3 b ⟨j, hj⟩ (col h w))).toReal else 0

/-- The row of batch `b`, head `h` and query `t` at value lane `w`. -/
def row (q k g : (⟨3, ![8, 2048, 512]⟩ : Shape).Idx → EReal) (v : (⟨3, ![8, 2048, 1024]⟩ : Shape).Idx → EReal)
    (gain : (⟨2, ![1, 256]⟩ : Shape).Idx → EReal) (b : Fin 8) (h : Fin 4) (t : ℕ) (w : Fin 256) : EReal :=
  InRow.rms (Ideal.ofBits .f32 0x43800000#32)
    (fun w => ((out (rows q b h) (rows k b h) (rows g b h) (vals v b h w) t : ℝ) : EReal)) (fun w => gain (ix2 0 w)) w

/-- The head and the value lane of a column. -/
abbrev headOf (w : Fin 1024) : Fin 4 := ⟨w.val / 256, by have := w.isLt; omega⟩
abbrev laneOf (w : Fin 1024) : Fin 256 := ⟨w.val % 256, by omega⟩

def gla (q k g : (⟨3, ![8, 2048, 512]⟩ : Shape).Idx → EReal) (v : (⟨3, ![8, 2048, 1024]⟩ : Shape).Idx → EReal)
    (gain : (⟨2, ![1, 256]⟩ : Shape).Idx → EReal) : (⟨3, ![8, 2048, 1024]⟩ : Shape).Idx → EReal := fun x =>
  row q k g v gain (x 0) (headOf (x 2)) (x 1).val (laneOf (x 2))

/-- A real entry is what its real number is. -/
theorem rows_coe (x : (⟨3, ![8, 2048, 512]⟩ : Shape).Idx → EReal) (hx : ∀ i, ∃ r : ℝ, x i = r) (b : Fin 8) (h : Fin 4) (j : Fin 2048) (d : Fin 128) :
    x (ix3 b j (lane h d)) = ((rows x b h j.val d : ℝ) : EReal) := by
  unfold rows
  rw [dif_pos j.isLt]
  obtain ⟨r, hr⟩ := hx (ix3 b j (lane h d))
  rw [hr, EReal.toReal_coe]

theorem vals_coe (x : (⟨3, ![8, 2048, 1024]⟩ : Shape).Idx → EReal) (hx : ∀ i, ∃ r : ℝ, x i = r) (b : Fin 8) (h : Fin 4) (w : Fin 256) (j : Fin 2048) :
    x (ix3 b j (col h w)) = ((vals x b h w j.val : ℝ) : EReal) := by
  unfold vals
  rw [dif_pos j.isLt]
  obtain ⟨r, hr⟩ := hx (ix3 b j (col h w))
  rw [hr, EReal.toReal_coe]

end Cert.GlaTarget

end
-- ==== Proof.GlaArray.lean ====
/-
  The gated linear attention kernel's result array: over real queries, keys, values and log decays every entry is the row of its
  batch, head and query. The blocks of the grid's points cover the array.
-/
module

public import proofs.«01_k».proof.Proof.GlaRows
public import proofs.«01_k».proof.Proof.GlaTarget
public import Idealize.ShloMosaic.Lib.Pipeline.ValueKit.Geometry
public import Idealize.ShloMosaic.Lib.StableHlo.ReadAt

@[expose] public section

set_option maxRecDepth 16384

noncomputable section

namespace Cert.GlaIdeal.Chunks

open Cert.GlaIdeal Cert.GlaIdeal.Gen Cert.GlaTarget
open Idealize.ShloMosaic hiding ix1 ix2 ix3 ix4 eq_ix2 eq_ix3
open Idealize.ShloMosaic.TcCoe Idealize.ShloMosaic.ValueIdx Idealize.ShloMosaic.Tactic Idealize.SL.Sem
open Idealize.ShloMosaic.Pipeline (Dat)
open scoped BigOperators

theorem idx0 : ∀ t : Fin cfg0.N, win0_0.index t = ![(grid0.coords t 0).val, 0, (grid0.coords t 1).val] :=
  (by decide +kernel : ∀ t : Fin grid0.N, _)
theorem idx1 : ∀ t : Fin cfg0.N, win0_1.index t = ![(grid0.coords t 0).val, 0, (grid0.coords t 1).val] :=
  (by decide +kernel : ∀ t : Fin grid0.N, _)
theorem idx2 : ∀ t : Fin cfg0.N, win0_2.index t = ![(grid0.coords t 0).val, 0, (grid0.coords t 1).val] :=
  (by decide +kernel : ∀ t : Fin grid0.N, _)
theorem idx3 : ∀ t : Fin cfg0.N, win0_3.index t = ![(grid0.coords t 0).val, 0, (grid0.coords t 1).val] :=
  (by decide +kernel : ∀ t : Fin grid0.N, _)
theorem idx4 : ∀ t : Fin cfg0.N, win0_4.index t = ![0, 0] :=
  (by decide +kernel : ∀ t : Fin grid0.N, _)
theorem idx5 : ∀ t : Fin cfg0.N, win0_5.index t = ![(grid0.coords t 0).val, 0, (grid0.coords t 1).val] :=
  (by decide +kernel : ∀ t : Fin grid0.N, _)

variable (m : (ℓ : Loc nD τ sig) → Buf (Elt Ideal) ℓ)

/-- The batch and the head of a point. -/
abbrev batchOf (t : Fin cfg0.N) : Fin 8 := ⟨(grid0.coords t 0).val, (grid0.coords t 0).isLt⟩
abbrev headAt (t : Fin cfg0.N) : Fin 4 := ⟨(grid0.coords t 1).val, (grid0.coords t 1).isLt⟩

theorem qBlock_apply (c : Dev nD) (t : Fin cfg0.N) (j : Fin 2048) (d : Fin 128) :
    iblk m c 0 t (ix3 0 j d) = m ((c : Thread nD τ).loc main_arg0) (ix3 (batchOf t) j (lane (headAt t) d)) := by
  blk_simp [iblk]
  rw [V_main_arg0]
  refine congrArg _ (funext fun a => Fin.ext ?_)
  match a with
  | ⟨0, _⟩ => blk_simp [idx0]; skip
  | ⟨1, _⟩ => blk_simp [idx0]; skip
  | ⟨2, _⟩ => blk_simp [idx0]; show (grid0.coords t 1).val * 128 + d.val = 128 * (grid0.coords t 1).val + d.val; omega

theorem kBlock_apply (c : Dev nD) (t : Fin cfg0.N) (j : Fin 2048) (d : Fin 128) :
    iblk m c 1 t (ix3 0 j d) = m ((c : Thread nD τ).loc main_arg1) (ix3 (batchOf t) j (lane (headAt t) d)) := by
  blk_simp [iblk]
  rw [V_main_arg1]
  refine congrArg _ (funext fun a => Fin.ext ?_)
  match a with
  | ⟨0, _⟩ => blk_simp [idx1]; skip
  | ⟨1, _⟩ => blk_simp [idx1]; skip
  | ⟨2, _⟩ => blk_simp [idx1]; show (grid0.coords t 1).val * 128 + d.val = 128 * (grid0.coords t 1).val + d.val; omega

theorem vBlock_apply (c : Dev nD) (t : Fin cfg0.N) (j : Fin 2048) (w : Fin 256) :
    iblk m c 2 t (ix3 0 j w) = m ((c : Thread nD τ).loc main_arg2) (ix3 (batchOf t) j (col (headAt t) w)) := by
  blk_simp [iblk]
  rw [V_main_arg2]
  refine congrArg _ (funext fun a => Fin.ext ?_)
  match a with
  | ⟨0, _⟩ => blk_simp [idx2]; skip
  | ⟨1, _⟩ => blk_simp [idx2]; skip
  | ⟨2, _⟩ => blk_simp [idx2]; show (grid0.coords t 1).val * 256 + w.val = 256 * (grid0.coords t 1).val + w.val; omega

theorem gBlock_apply (c : Dev nD) (t : Fin cfg0.N) (j : Fin 2048) (d : Fin 128) :
    iblk m c 3 t (ix3 0 j d) = m ((c : Thread nD τ).loc main_arg3) (ix3 (batchOf t) j (lane (headAt t) d)) := by
  blk_simp [iblk]
  rw [V_main_arg3]
  refine congrArg _ (funext fun a => Fin.ext ?_)
  match a with
  | ⟨0, _⟩ => blk_simp [idx3]; skip
  | ⟨1, _⟩ => blk_simp [idx3]; skip
  | ⟨2, _⟩ => blk_simp [idx3]; show (grid0.coords t 1).val * 128 + d.val = 128 * (grid0.coords t 1).val + d.val; omega

/-- The gain as the region finds it. -/
theorem gain_row (c : Dev nD) (w : Fin 256) : V m c main_v1 (ix2 0 w) = m ((c : Thread nD τ).loc main_arg4) (ix2 0 w) := by
  unfold V hostOps0
  after_reads_simp
  refine (shapeCast_a_1a_apply _ _ 0 w).trans ?_
  refine shapeCast_apply (t := S256) _ _ (ix1 w) (ix2 0 w) ?_
  rw [Shape.rowMajor_val_one, Shape.rowMajor_val_two]
  show 0 * 256 + w.val = w.val
  omega

theorem gainBlock_apply (c : Dev nD) (t : Fin cfg0.N) (w : Fin 256) :
    iblk m c 4 t (ix2 0 w) = m ((c : Thread nD τ).loc main_arg4) (ix2 0 w) := by
  refine Eq.trans ?_ (gain_row m c w)
  blk_simp [iblk]
  refine congrArg _ (funext fun a => Fin.ext ?_)
  match a with
  | ⟨0, _⟩ => blk_simp [idx4]; skip
  | ⟨1, _⟩ => blk_simp [idx4]; skip

/-- The result array of the run. -/
theorem final (c : Dev nD)
    (h0 : ∀ j, ∃ r : ℝ, m ((c : Thread nD τ).loc main_arg0) j = (r : EReal)) (h1 : ∀ j, ∃ r : ℝ, m ((c : Thread nD τ).loc main_arg1) j = (r : EReal))
    (h2 : ∀ j, ∃ r : ℝ, m ((c : Thread nD τ).loc main_arg2) j = (r : EReal)) (h3 : ∀ j, ∃ r : ℝ, m ((c : Thread nD τ).loc main_arg3) j = (r : EReal)) :
    (dats m 0 c).arrAt 5 cfg0.N
      = gla (m ((c : Thread nD τ).loc main_arg0)) (m ((c : Thread nD τ).loc main_arg1)) (m ((c : Thread nD τ).loc main_arg3))
        (m ((c : Thread nD τ).loc main_arg2)) (m ((c : Thread nD τ).loc main_arg4)) := by
  refine (dats m 0 c).arrAt_eq_of_covers 5 _ (by decide +kernel) fun t hf y => ?_
  obtain ⟨y0, r, w, rfl⟩ : ∃ (y0 : Fin 1) (r : Fin 2048) (w : Fin 256), y = ix3 y0 r w := ⟨y 0, y 1, y 2, eq_ix3 y⟩
  obtain rfl : y0 = 0 := Subsingleton.elim _ _
  blk_simp
  rw [after0_5]
  unfold outsAt0
  rw [outBlock_apply (fun j d => (qBlock_apply m c t j d).trans (rows_coe _ h0 _ _ _ _)) (fun j d => (kBlock_apply m c t j d).trans (rows_coe _ h1 _ _ _ _))
    (fun j w => (vBlock_apply m c t j w).trans (vals_coe _ h2 _ _ _ _)) (fun j d => (gBlock_apply m c t j d).trans (rows_coe _ h3 _ _ _ _))]
  have e : (win0_5.blk t).view.emb (ix3 0 r w) = ix3 (batchOf t) r (col (headAt t) w) := by
    funext a
    apply Fin.ext
    match a with
    | ⟨0, _⟩ => blk_simp [idx5]; skip
    | ⟨1, _⟩ => blk_simp [idx5]; skip
    | ⟨2, _⟩ => blk_simp [idx5]; show (grid0.coords t 1).val * 256 + w.val = 256 * (grid0.coords t 1).val + w.val; omega
  have hh : headOf (col (headAt t) w) = headAt t := Fin.ext (by
    show (256 * (grid0.coords t 1).val + w.val) / 256 = (grid0.coords t 1).val
    have := w.isLt
    omega)
  have hl : laneOf (col (headAt t) w) = w := Fin.ext (by
    show (256 * (grid0.coords t 1).val + w.val) % 256 = w.val
    have := w.isLt
    omega)
  have e2 : ∀ (q k g : S8x2048x512.Idx → EReal) (v : S8x2048x1024.Idx → EReal) (n : S1x256.Idx → EReal),
      gla q k g v n (ix3 (batchOf t) r (col (headAt t) w)) = row q k g v n (batchOf t) (headAt t) r.val w := fun q k g v n => by
    show row q k g v n (batchOf t) (headOf (col (headAt t) w)) r.val (laneOf (col (headAt t) w)) = _
    rw [hh, hl]
  refine Eq.trans ?_ (congrArg _ e.symm)
  rw [e2]
  unfold row
  refine congrArg (fun z => InRow.rms _ _ z w) (funext fun w => gainBlock_apply m c t w)

end Cert.GlaIdeal.Chunks

end
-- ==== Proof.GlaScan.lean ====
/-
  The running sum along the positions of an array of heads' rows: a window of the whole length, padded low by one less, sums the
  positions at or before its own.
-/
module

public import proofs.«01_k».proof.Proof.GlaChunk
public import Idealize.ShloMosaic.Lib.ValueIdx
public import Idealize.ShloMosaic.PureOps.Ideal

@[expose] public section

set_option maxRecDepth 16384

noncomputable section

namespace Cert.GlaScan

open Idealize.ShloMosaic Idealize.ShloMosaic.ValueIdx
open scoped BigOperators

/-- A left fold of addition over real numbers. -/
theorem foldl_coe {ι : Type} (l : List ι) (g : ι → EReal) (f : ι → ℝ) (hg : ∀ a ∈ l, g a = (f a : EReal)) (v : EReal) (z : ℝ) (hv : v = (z : EReal)) :
    l.foldl (fun r a => r + g a) v = ((z + (l.map f).sum : ℝ) : EReal) := by
  induction l generalizing v z with
  | nil => simpa using hv
  | cons a l ih =>
    rw [List.foldl_cons, ih (fun b hb => hg b (List.mem_cons_of_mem _ hb)) _ (z + f a) (by
      rw [hv, hg a List.mem_cons_self, EReal.coe_add]), List.map_cons, List.sum_cons, add_assoc]

theorem sum_map_range (n : ℕ) (f : ℕ → ℝ) : ((List.range n).map f).sum = ∑ j ∈ Finset.range n, f j := by
  induction n with
  | zero => simp
  | succ n ih => rw [List.range_succ, List.map_append, List.sum_append, ih, Finset.sum_range_succ]; simp

theorem sum_map_finRange (n : ℕ) (f : ℕ → ℝ) : ((List.finRange n).map fun a => f a.val).sum = ∑ j ∈ Finset.range n, f j := by
  rw [← sum_map_range, ← List.map_coe_finRange_eq_range, List.map_map]
  rfl

/-- Of a window's positions over the padded operand those at or past the padding hold the positions at or before its own. -/
theorem sum_window (f : ℕ → ℝ) (t : ℕ) (ht : t < 2048) :
    (∑ w ∈ Finset.range 2048, if 2047 ≤ t + w then f (t + w - 2047) else 0) = ∑ j ∈ Finset.range (t + 1), f j := by
  rw [show 2048 = (2047 - t) + (t + 1) by omega, Finset.sum_range_add,
    Finset.sum_eq_zero fun w hw => if_neg (by have := Finset.mem_range.1 hw; omega), zero_add]
  refine Finset.sum_congr rfl fun j _ => ?_
  rw [if_pos (by omega)]
  exact congrArg f (by omega)

abbrev W : Shape := ⟨4, ![1, 2048, 1, 1]⟩

theorem numel_W : W.numel = 2048 := by decide

/-- The window's position `n` is `n` along the positions and zero elsewhere. -/
theorem symm_W (n : Fin W.numel) : (W.rowMajor.symm n 0).val = 0 ∧ (W.rowMajor.symm n 1).val = n.val
    ∧ (W.rowMajor.symm n 2).val = 0 ∧ (W.rowMajor.symm n 3).val = 0 := by
  have h0 : (W.rowMajor.symm n 0).val < 1 := (W.rowMajor.symm n 0).isLt
  have h2 : (W.rowMajor.symm n 2).val < 1 := (W.rowMajor.symm n 2).isLt
  have h3 : (W.rowMajor.symm n 3).val < 1 := (W.rowMajor.symm n 3).isLt
  have h := congrArg Fin.val (W.rowMajor.apply_symm_apply n)
  rw [Shape.rowMajor_val_four] at h
  change (((W.rowMajor.symm n 0).val * 2048 + (W.rowMajor.symm n 1).val) * 1 + (W.rowMajor.symm n 2).val) * 1 + (W.rowMajor.symm n 3).val = n.val at h
  omega

theorem running_sum (x : (⟨4, ![8, 2048, 4, 128]⟩ : Shape).Idx → EReal) (f : ℕ → ℝ) (b : Fin 8) (t : Fin 2048) (h : Fin 4) (d : Fin 128)
    (hx : ∀ j : Fin 2048, x (ix4 b j h d) = (f j.val : EReal))
    (hw : (⟨4, ![8, 2048, 4, 128]⟩ : Shape).ReduceWindows (![1, 2048, 1, 1] : Fin 4 → Nat) ![1, 1, 1, 1] ![0, 2047, 0, 0] ![0, 0, 0, 0] ⟨4, ![8, 2048, 4, 128]⟩)
    (init : EReal) (hi : init = 0) :
    Ideal.hostReduceWindowAdd ![1, 2048, 1, 1] ![1, 1, 1, 1] ![0, 2047, 0, 0] ![0, 0, 0, 0] hw x init (ix4 b t h d)
      = ((∑ j ∈ Finset.range (t.val + 1), f j : ℝ) : EReal) := by
  have ht := t.isLt
  have hb := b.isLt
  have hh := h.isLt
  have hd := d.isLt
  unfold Ideal.hostReduceWindowAdd Host.reduceWindow
  refine (foldl_coe _ _ (fun n : Fin W.numel => if 2047 ≤ t.val + n.val then f (t.val + n.val - 2047) else 0) (fun n _ => ?_) _ 0
    (by rw [EReal.coe_zero]; exact hi)).trans ?_
  · obtain ⟨w0, w1, w2, w3⟩ := symm_W n
    have hn : n.val < 2048 := lt_of_lt_of_eq n.isLt numel_W
    dsimp only
    split
    · next hin =>
      have h1 := hin 1
      change 2047 ≤ t.val * 1 + (W.rowMajor.symm n 1).val ∧ t.val * 1 + (W.rowMajor.symm n 1).val - 2047 < 2048 at h1
      rw [w1] at h1
      rw [if_pos (by omega)]
      refine (congrArg x (funext fun a => Fin.ext ?_)).trans (hx ⟨t.val + n.val - 2047, by omega⟩)
      match a with
      | ⟨0, _⟩ => show b.val * 1 + (W.rowMajor.symm n 0).val - 0 = b.val; omega
      | ⟨1, _⟩ => show t.val * 1 + (W.rowMajor.symm n 1).val - 2047 = t.val + n.val - 2047; omega
      | ⟨2, _⟩ => show h.val * 1 + (W.rowMajor.symm n 2).val - 0 = h.val; omega
      | ⟨3, _⟩ => show d.val * 1 + (W.rowMajor.symm n 3).val - 0 = d.val; omega
    · next hin =>
      rw [if_neg fun hle => hin fun a => by
        match a with
        | ⟨0, _⟩ => show 0 ≤ b.val * 1 + (W.rowMajor.symm n 0).val ∧ b.val * 1 + (W.rowMajor.symm n 0).val - 0 < 8; omega
        | ⟨1, _⟩ => show 2047 ≤ t.val * 1 + (W.rowMajor.symm n 1).val ∧ t.val * 1 + (W.rowMajor.symm n 1).val - 2047 < 2048; omega
        | ⟨2, _⟩ => show 0 ≤ h.val * 1 + (W.rowMajor.symm n 2).val ∧ h.val * 1 + (W.rowMajor.symm n 2).val - 0 < 4; omega
        | ⟨3, _⟩ => show 0 ≤ d.val * 1 + (W.rowMajor.symm n 3).val ∧ d.val * 1 + (W.rowMajor.symm n 3).val - 0 < 128; omega]
      rw [EReal.coe_zero]
      exact hi
  · rw [zero_add, sum_map_finRange _ (fun w => if 2047 ≤ t.val + w then f (t.val + w - 2047) else 0), numel_W, sum_window f t.val ht]

end Cert.GlaScan

end
-- ==== Proof.GlaRefRead.lean ====
/-
  The reference's result at an index: the row of its batch, head and query of gated linear attention.
-/
module

public import proofs.«01_k».proof.Proof.GlaTarget
public import proofs.«01_k».proof.Proof.GlaScan
public import proofs.«01_k».proof.Proof.OnlineSoftmax
public import proofs.«01_k».proof.Proof.Gen.GlaRefIdeal.Read
public import Idealize.ShloMosaic.Lib.WordCmp

@[expose] public section

set_option maxRecDepth 16384

noncomputable section

namespace Cert.GlaRefIdeal.Attention

open Cert.GlaRefIdeal Cert.GlaRefIdeal.Gen Cert.GlaRefIdeal.Read Cert.GlaTarget Cert.GlaChunk Cert.OnlineSoftmax
open Idealize.ShloMosaic Idealize.ShloMosaic.ValueIdx Idealize.ShloMosaic.WordCmp
open scoped BigOperators

variable (q k : Vec Ideal S8x2048x512 .bf16) (v : Vec Ideal S8x2048x1024 .bf16) (g : Vec Ideal S8x2048x512 .f32) (n : Vec Ideal S1x256 .f32)

/-- Heads split off. -/
theorem heads_q (b : Fin 8) (t : Fin 2048) (h : Fin 4) (e : Fin 128) :
    val_main_v1 (F := Ideal) q (ix4 b t h e) = q (ix3 b t (lane h e)) := by
  rw [val_main_v1_apply]
  show q _ = _
  refine congrArg q (funext fun a => Fin.ext ?_)
  have := b.isLt; have := t.isLt; have := h.isLt; have := e.isLt
  match a with
  | ⟨0, _⟩ => show (((b.val * 2048 + t.val) * 4 + h.val) * 128 + e.val) / 1048576 = b.val; omega
  | ⟨1, _⟩ => show (((b.val * 2048 + t.val) * 4 + h.val) * 128 + e.val) / 512 % 2048 = t.val; omega
  | ⟨2, _⟩ => show (((b.val * 2048 + t.val) * 4 + h.val) * 128 + e.val) % 512 = 128 * h.val + e.val; omega

theorem heads_k (b : Fin 8) (t : Fin 2048) (h : Fin 4) (e : Fin 128) :
    val_main_v3 (F := Ideal) k (ix4 b t h e) = k (ix3 b t (lane h e)) := heads_q k b t h e

theorem heads_g (b : Fin 8) (t : Fin 2048) (h : Fin 4) (e : Fin 128) :
    val_main_v6 (F := Ideal) g (ix4 b t h e) = g (ix3 b t (lane h e)) := by
  rw [val_main_v6_apply]
  refine congrArg g (funext fun a => Fin.ext ?_)
  have := b.isLt; have := t.isLt; have := h.isLt; have := e.isLt
  match a with
  | ⟨0, _⟩ => show (((b.val * 2048 + t.val) * 4 + h.val) * 128 + e.val) / 1048576 = b.val; omega
  | ⟨1, _⟩ => show (((b.val * 2048 + t.val) * 4 + h.val) * 128 + e.val) / 512 % 2048 = t.val; omega
  | ⟨2, _⟩ => show (((b.val * 2048 + t.val) * 4 + h.val) * 128 + e.val) % 512 = 128 * h.val + e.val; omega

theorem heads_v (b : Fin 8) (t : Fin 2048) (h : Fin 4) (w : Fin 256) :
    val_main_v5 (F := Ideal) v (ix4 b t h w) = v (ix3 b t (col h w)) := by
  rw [val_main_v5_apply]
  show v _ = _
  refine congrArg v (funext fun a => Fin.ext ?_)
  have := b.isLt; have := t.isLt; have := h.isLt; have := w.isLt
  match a with
  | ⟨0, _⟩ => show (((b.val * 2048 + t.val) * 4 + h.val) * 256 + w.val) / 2097152 = b.val; omega
  | ⟨1, _⟩ => show (((b.val * 2048 + t.val) * 4 + h.val) * 256 + w.val) / 1024 % 2048 = t.val; omega
  | ⟨2, _⟩ => show (((b.val * 2048 + t.val) * 4 + h.val) * 256 + w.val) % 1024 = 256 * h.val + w.val; omega

theorem lidx13 (b : Fin 8) (h : Fin 4) (t j : Fin 2048) (e : Fin 128) : lidx_main_v13 (ix4 b h t j) e = ix4 b t h e := by
  funext a; match a with | ⟨0, _⟩ => rfl | ⟨1, _⟩ => rfl | ⟨2, _⟩ => rfl | ⟨3, _⟩ => rfl
theorem ridx13 (b : Fin 8) (h : Fin 4) (t j : Fin 2048) (e : Fin 128) : ridx_main_v13 (ix4 b h t j) e = ix4 b j h e := by
  funext a; match a with | ⟨0, _⟩ => rfl | ⟨1, _⟩ => rfl | ⟨2, _⟩ => rfl | ⟨3, _⟩ => rfl
theorem lidx21 (b : Fin 8) (t : Fin 2048) (h : Fin 4) (w : Fin 256) (j : Fin 2048) :
    lidx_main_v21 (idx_main_v22 (ix4 b t h w)) j = ix4 b j h w := by
  funext a; match a with | ⟨0, _⟩ => rfl | ⟨1, _⟩ => rfl | ⟨2, _⟩ => rfl | ⟨3, _⟩ => rfl
theorem ridx21 (b : Fin 8) (t : Fin 2048) (h : Fin 4) (w : Fin 256) (j : Fin 2048) :
    ridx_main_v21 (idx_main_v22 (ix4 b t h w)) j = ix4 b h t j := by
  funext a; match a with | ⟨0, _⟩ => rfl | ⟨1, _⟩ => rfl | ⟨2, _⟩ => rfl | ⟨3, _⟩ => rfl
theorem row31 (b : Fin 8) (t : Fin 2048) (h : Fin 4) (w e : Fin 256) :
    idx_main_v24 (idx_main_v25 (idx_main_v31 (ix4 b t h w))) e = ix4 b t h e := by
  funext a; match a with | ⟨0, _⟩ => rfl | ⟨1, _⟩ => rfl | ⟨2, _⟩ => rfl | ⟨3, _⟩ => rfl

/-- The gain over the heads. -/
theorem gain_eq (b : Fin 8) (t : Fin 2048) (h : Fin 4) (w : Fin 256) : val_main_v35 (F := Ideal) n (ix4 b t h w) = n (ix2 0 w) := by
  rw [val_main_v35_apply, val_main_v34_apply, val_main_v33_apply]
  refine congrArg n (funext fun a => Fin.ext ?_)
  have := w.isLt
  match a with
  | ⟨0, _⟩ => rfl
  | ⟨1, _⟩ => show w.val % 256 = w.val; omega

variable (h0 : ∀ i, ∃ r : ℝ, q i = (r : EReal)) (h1 : ∀ i, ∃ r : ℝ, k i = (r : EReal)) (h2 : ∀ i, ∃ r : ℝ, v i = (r : EReal))
  (h3 : ∀ i, ∃ r : ℝ, g i = (r : EReal))

include h3

/-- The log decay through a position. -/
theorem decay_eq (b : Fin 8) (t : Fin 2048) (h : Fin 4) (d : Fin 128) :
    val_main_v7 (F := Ideal) g (ix4 b t h d) = ((decay (rows g b h) (t.val + 1) d : ℝ) : EReal) := by
  have hx : ∀ j : Fin 2048, val_main_v6 (F := Ideal) g (ix4 b j h d) = (rows g b h j.val d : EReal) :=
    fun j => (heads_g g b j h d).trans (rows_coe g h3 b h j d)
  have e : val_main_v7 (F := Ideal) g = Ideal.hostReduceWindowAdd ![1, 2048, 1, 1] ![1, 1, 1, 1] ![0, 2047, 0, 0] ![0, 0, 0, 0]
      reduceWindows_S8x2048x4x128_S8x2048x4x128_w1s1p0_0_w2048s1p2047_0_w1s1p0_0_w1s1p0_0 (val_main_v6 (F := Ideal) g)
      (val_main_call0_call0_v0 (F := Ideal) (Shape.Idx.first h_S_)) := by
    unfold val_main_v7 Host.reduceWindowAdd
    rw [Ideal.hostReduceWindowAdd_def]
  have hi : val_main_call0_call0_v0 (F := Ideal) (Shape.Idx.first h_S_) = (0 : EReal) := by
    rw [val_main_call0_call0_v0_apply, val_main_call0_call0_cst_apply]
    exact Ideal.ofBits_zero_f32
  rw [e, hi]
  generalize val_main_v6 (F := Ideal) g = x at hx ⊢
  exact GlaScan.running_sum x (fun j => rows g b h j d) b t h d hx _ 0 rfl

include h0 in
theorem query_eq (b : Fin 8) (t : Fin 2048) (h : Fin 4) (d : Fin 128) :
    val_main_v9 (F := Ideal) q g (ix4 b t h d) = ((rows q b h t.val d * Real.exp (decay (rows g b h) (t.val + 1) d) : ℝ) : EReal) := by
  rw [val_main_v9_apply, val_main_v8_apply, heads_q, rows_coe q h0, decay_eq g h3]
  refine (congrArg (fun z : EReal => (rows q b h t.val d : EReal) * z) (exp_coe _)).trans ?_
  rw [← EReal.coe_mul]

include h1 in
theorem key_eq (b : Fin 8) (j : Fin 2048) (h : Fin 4) (d : Fin 128) :
    val_main_v12 (F := Ideal) k g (ix4 b j h d) = ((rows k b h j.val d * Real.exp (-decay (rows g b h) (j.val + 1) d) : ℝ) : EReal) := by
  rw [val_main_v12_apply, val_main_v11_apply, val_main_v10_apply, heads_k, rows_coe k h1, decay_eq g h3]
  refine (congrArg (fun z : EReal => (rows k b h j.val d : EReal) * z) (exp_coe (-decay (rows g b h) (j.val + 1) d))).trans ?_
  rw [← EReal.coe_mul]

include h0 h1

/-- The masked scores. -/
theorem scores_eq (b : Fin 8) (h : Fin 4) (t j : Fin 2048) :
    val_main_v20 (F := Ideal) q k g (ix4 b h t j)
      = ((if j.val ≤ t.val then score (rows q b h) (rows k b h) (rows g b h) t.val j.val else 0 : ℝ) : EReal) := by
  have hb : (IntOp.cmpi .sle (BitVec.ofNat 32 j.val) (BitVec.ofNat 32 t.val) : BitVec 1) = BitVec.ofBool (decide (j.val ≤ t.val)) :=
    cmpi_sle_ofNat (by have := j.isLt; omega) (by have := t.isLt; omega)
  rw [val_main_v20_apply, val_main_call1_v1_apply, val_main_v19_apply, val_main_v17_apply, val_main_v15_apply, val_main_v14_apply,
    val_main_v18_apply, val_main_v16_apply, val_main_v14_apply, val_main_call1_v2_apply, val_main_call1_v0_apply, val_main_cst_apply]
  show Scalar.select (IntOp.cmpi .sle (BitVec.ofNat 32 j.val) (BitVec.ofNat 32 t.val)) _ (Ideal.ofBits .f32 0x00000000#32) = _
  rw [hb, Ideal.ofBits_zero_f32]
  by_cases hj : j.val ≤ t.val
  · rw [decide_eq_true hj, if_pos hj, val_main_v13_apply]
    refine (show Scalar.select (BitVec.ofBool true) _ _ = ∑ e : Fin 128, val_main_v9 (F := Ideal) q g (lidx_main_v13 (ix4 b h t j) e)
      * val_main_v12 (F := Ideal) k g (ridx_main_v13 (ix4 b h t j) e) from rfl).trans ?_
    unfold score
    rw [coe_sum]
    refine Finset.sum_congr rfl fun e _ => ?_
    rw [lidx13, ridx13, query_eq q g h0 h3, key_eq k g h1 h3, ← EReal.coe_mul]
  · rw [decide_eq_false hj, if_neg hj]; rfl

include h2

/-- The scores against the values. -/
theorem out_eq (b : Fin 8) (t : Fin 2048) (h : Fin 4) (w : Fin 256) :
    val_main_v22 (F := Ideal) q k v g (ix4 b t h w)
      = ((out (rows q b h) (rows k b h) (rows g b h) (vals v b h w) t.val : ℝ) : EReal) := by
  rw [val_main_v22_apply, val_main_v21_apply]
  have e : out (rows q b h) (rows k b h) (rows g b h) (vals v b h w) t.val
      = ∑ j : Fin 2048, vals v b h w j.val * (if j.val ≤ t.val then score (rows q b h) (rows k b h) (rows g b h) t.val j.val else 0) := by
    unfold out
    rw [← Finset.sum_range (fun j => vals v b h w j * (if j ≤ t.val then score (rows q b h) (rows k b h) (rows g b h) t.val j else 0))]
    rw [show (∑ j ∈ Finset.range 2048, vals v b h w j * (if j ≤ t.val then score (rows q b h) (rows k b h) (rows g b h) t.val j else 0))
      = ∑ j ∈ Finset.range 2048, if j ≤ t.val then score (rows q b h) (rows k b h) (rows g b h) t.val j * vals v b h w j else 0 from
        Finset.sum_congr rfl fun j _ => by split <;> ring, ← Finset.sum_filter]
    refine Finset.sum_congr (Finset.ext fun j => ?_) fun _ _ => rfl
    have := t.isLt
    simp only [Finset.mem_filter, Finset.mem_range]
    omega
  rw [e, coe_sum]
  refine Finset.sum_congr rfl fun j _ => ?_
  rw [lidx21, ridx21, heads_v, vals_coe v h2, scores_eq q k g h0 h1 h3, ← EReal.coe_mul]

/-- The norm of a head's row. -/
theorem row_eq (b : Fin 8) (t : Fin 2048) (h : Fin 4) (w : Fin 256) :
    val_main_v36 (F := Ideal) q k v g n (ix4 b t h w) = row q k g v n b h t.val w := by
  rw [val_main_v36_apply, val_main_v32_apply, val_main_v31_apply, val_main_v30_apply, val_main_v29_apply, val_main_v27_apply,
    val_main_v25_apply, val_main_v26_apply, val_main_v28_apply, val_main_cst_1_apply, val_main_cst_2_apply, val_main_v24_apply,
    val_main_cst_0_apply, gain_eq, out_eq q k v g h0 h1 h2 h3]
  unfold row InRow.rms
  have hs : (FloatOps.ofBits (F := Ideal) .f32 0x00000000#32 + ∑ e : Fin 256, val_main_v23 (F := Ideal) q k v g (idx_main_v24 (idx_main_v25 (idx_main_v31 (ix4 b t h w))) e) : EReal)
      = ∑ e : Fin 256, ((out (rows q b h) (rows k b h) (rows g b h) (vals v b h e) t.val : ℝ) : EReal)
        * ((out (rows q b h) (rows k b h) (rows g b h) (vals v b h e) t.val : ℝ) : EReal) := by
    refine (congrArg (fun z : EReal => z + _) Ideal.ofBits_zero_f32).trans ?_
    rw [zero_add]
    refine Finset.sum_congr rfl fun e _ => ?_
    rw [row31, val_main_v23_apply, out_eq q k v g h0 h1 h2 h3]
    rfl
  exact congrArg (fun z : EReal => ((out (rows q b h) (rows k b h) (rows g b h) (vals v b h w) t.val : ℝ) : EReal)
    * Ideal.rsqrt (Ideal.div z (Ideal.ofBits .f32 0x43800000#32) + Ideal.ofBits .f32 0x358637BD#32) * n (ix2 0 w)) hs

/-- The reference's result. -/
theorem result_eq : val_main_v38 (F := Ideal) q k v g n = gla q k g v n := by
  funext x
  obtain ⟨b, t, w, rfl⟩ : ∃ (b : Fin 8) (t : Fin 2048) (w : Fin 1024), x = ix3 b t w := ⟨x 0, x 1, x 2, eq_ix3 x⟩
  rw [val_main_v38_apply]
  show val_main_v37 (F := Ideal) q k v g n (ix3 b t w) = row q k g v n b (headOf w) t.val (laneOf w)
  have hb := b.isLt; have ht := t.isLt; have hw := w.isLt
  have e : idx_main_v37 (ix3 b t w) = ix4 b t (headOf w) (laneOf w) := by
    funext a
    apply Fin.ext
    match a with
    | ⟨0, _⟩ => show ((b.val * 2048 + t.val) * 1024 + w.val) / 2097152 = b.val; omega
    | ⟨1, _⟩ => show ((b.val * 2048 + t.val) * 1024 + w.val) / 1024 % 2048 = t.val; omega
    | ⟨2, _⟩ => show ((b.val * 2048 + t.val) * 1024 + w.val) / 256 % 4 = w.val / 256; omega
    | ⟨3, _⟩ => show ((b.val * 2048 + t.val) * 1024 + w.val) % 256 = w.val % 256; omega
  rw [val_main_v37_apply, e]
  exact row_eq q k v g n h0 h1 h2 h3 b t (headOf w) (laneOf w)

end Cert.GlaRefIdeal.Attention

end
-- ==== Proof.FiniteGla.lean ====
/-
  What the precondition of the linear attention says: every entry of the queries, keys, values and log decays is a real number.
-/
module

public import proofs.«01_k».proof.Pre_finite_gla
public import proofs.«01_k».proof.Proof.FiniteArgs

@[expose] public section

noncomputable section

namespace Cert.Pre_finite_gla

open Idealize.ShloMosaic Cert.MlaIdeal.Attention Cert.Pre_finite_qk

theorem real_of_test_f32 {s : Shape} (x : FVec Ideal s .f32) (i : s.Idx)
    (h : FloatOps.cmpf .olt (FloatOps.hostAbsf (F := Ideal) (x i)) (FloatOps.ofBits (F := Ideal) .f32 0x7F800000#32) = 1#1) : IsReal (x i) := by
  apply real_of_abs_lt
  have h' : BitVec.ofBool (decide ((x i : EReal) ⊔ -(x i) < Ideal.ofBits .f32 0x7F800000#32)) = 1#1 := h
  rw [ofBits_inf] at h'
  by_contra hn
  rw [decide_eq_false hn] at h'
  exact absurd h' (by decide)

variable [Facts]

theorem real_args (q k : FVec Ideal S8x2048x512 .bf16) (v : FVec Ideal S8x2048x1024 .bf16) (g : FVec Ideal S8x2048x512 .f32)
    (n : FVec Ideal S1x256 .f32) (h : fn (F := Ideal) q k v g n = fun _ => 1#1) :
    (∀ i, IsReal (q i)) ∧ (∀ i, IsReal (k i)) ∧ (∀ i, IsReal (v i)) ∧ ∀ i, IsReal (g i) := by
  have h0 := congrFun h (Shape.Idx.first Facts.h_S_)
  unfold fn fn_part1 at h0
  obtain ⟨hqkv, hg⟩ := IntOp.andi_eq_one.1 h0
  obtain ⟨hqk, hv⟩ := IntOp.andi_eq_one.1 hqkv
  obtain ⟨hq, hk⟩ := IntOp.andi_eq_one.1 hqk
  haveI : Subsingleton S_.Idx := ⟨fun a b => funext fun i => i.elim0⟩
  exact ⟨fun i => real_of_test q _ i (Host.reduce_andi_all _ _ _ _ _ hq i), fun i => real_of_test k _ i (Host.reduce_andi_all _ _ _ _ _ hk i),
    fun i => real_of_test v _ i (Host.reduce_andi_all _ _ _ _ _ hv i), fun i => real_of_test_f32 g i (Host.reduce_andi_all _ _ _ _ _ hg i)⟩

end Cert.Pre_finite_gla

end
-- ==== Proof.lean ====
module

public import proofs.«01_k».proof.Defs
public import proofs.«01_k».proof.Proof.Gen.Mla
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Pre_finite_qk
public import proofs.«01_k».proof.Proof.Gen.MlaIdeal.Value
public import proofs.«01_k».proof.Proof.Gen.MlaRefIdeal.Run
public import proofs.«01_k».proof.Proof.Gen.MlaRefIdeal.Read
public import proofs.«01_k».proof.Proof.MlaArray
public import proofs.«01_k».proof.Proof.MlaRefRead
public import proofs.«01_k».proof.Proof.FiniteArgs
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.OutIdeal.Value
public import proofs.«01_k».proof.Proof.Gen.OutRefIdeal.Run
public import proofs.«01_k».proof.Proof.Gen.OutRefIdeal.Read
public import proofs.«01_k».proof.Proof.OutArray
public import proofs.«01_k».proof.Proof.OutRefRead
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InRefIdeal
public import proofs.«01_k».proof.Proof.Gen.InRefIdeal.Run
public import proofs.«01_k».proof.Proof.Gen.InRefIdeal.Read
public import proofs.«01_k».proof.Proof.InLaunch
public import proofs.«01_k».proof.Proof.InRun
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.RopeIdeal.Value
public import proofs.«01_k».proof.Proof.Gen.RopeRefIdeal.Run
public import proofs.«01_k».proof.Proof.Gen.RopeRefIdeal.Read
public import proofs.«01_k».proof.Proof.RopeArray
public import proofs.«01_k».proof.Proof.Gen.Gla
public import proofs.«01_k».proof.Proof.Gen.Gla.Skeleton
public import proofs.«01_k».proof.Proof.Gen.Gla.Loops
public import proofs.«01_k».proof.Proof.Gen.Gla.Launch
public import proofs.«01_k».proof.Proof.Gen.Gla.Points
public import proofs.«01_k».proof.Proof.Gen.GlaIdeal
public import proofs.«01_k».proof.Proof.Gen.GlaIdeal.Skeleton
public import proofs.«01_k».proof.Proof.Gen.GlaIdeal.Loops
public import proofs.«01_k».proof.Proof.Gen.GlaIdeal.Launch
public import proofs.«01_k».proof.Proof.Gen.GlaIdeal.Points
public import proofs.«01_k».proof.Proof.Gen.GlaRefIdeal
public import proofs.«01_k».proof.Proof.Gen.GlaRefIdeal.Run
public import proofs.«01_k».proof.Proof.Gen.GlaRefIdeal.Read
public import proofs.«01_k».proof.Proof.Gen.Pre_finite_gla
public import proofs.«01_k».proof.Proof.GlaFrame
public import proofs.«01_k».proof.Proof.GlaIdealValue
public import proofs.«01_k».proof.Proof.GlaArray
public import proofs.«01_k».proof.Proof.GlaRefRead
public import proofs.«01_k».proof.Proof.FiniteGla
public import Idealize.ShloMosaic.Adequacy
public import Idealize.ShloMosaic.Init

@[expose] public section

noncomputable section

namespace Cert.Proof

open Idealize.ShloMosaic Idealize.SL.Sem Cert.Mla

instance : Cert.Mla.Facts := Cert.Mla.Gen.facts
instance : Cert.MlaIdeal.Facts := Cert.MlaIdeal.Gen.facts
instance : Cert.MlaRefIdeal.Facts := Cert.MlaRefIdeal.Gen.facts
instance : Cert.Out.Facts := Cert.Out.Gen.facts
instance : Cert.OutIdeal.Facts := Cert.OutIdeal.Gen.facts
instance : Cert.OutRefIdeal.Facts := Cert.OutRefIdeal.Gen.facts
instance : Cert.In.Facts := Cert.In.Gen.facts
instance : Cert.InIdeal.Facts := Cert.InIdeal.Gen.facts
instance : Cert.InRefIdeal.Facts := Cert.InRefIdeal.Gen.facts
instance : Cert.Gla.Facts := Cert.Gla.Gen.facts
instance : Cert.GlaIdeal.Facts := Cert.GlaIdeal.Gen.facts
instance : Cert.GlaRefIdeal.Facts := Cert.GlaRefIdeal.Gen.facts
instance : Cert.Rope.Facts := Cert.Rope.Gen.facts
instance : Cert.RopeIdeal.Facts := Cert.RopeIdeal.Gen.facts
instance : Cert.RopeRefIdeal.Facts := Cert.RopeRefIdeal.Gen.facts
instance : Cert.Pre_finite_qk.Facts := Cert.Pre_finite_qk.Gen.facts
instance : Cert.Pre_finite_gla.Facts := Cert.Pre_finite_gla.Gen.facts

/-- The reference runs and keeps its arguments; it declares no semaphore. -/
theorem frame_ref : Cert.quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)

/-- The kernel and the reference end at the causal attention of the same queries, keys and values. -/
theorem algebraic : Cert.algebraic_MlaIdeal_MlaRefIdeal_pre_finite_qk := by
  intro m ρ m' ρ' hpre hagree
  refine ⟨fun c => Cert.MlaIdeal.Attention.attention (m (c.tc.loc Cert.MlaIdeal.main_arg0))
    (m (c.tc.loc Cert.MlaIdeal.main_arg1)) (m (c.tc.loc Cert.MlaIdeal.main_arg2)), ?_, ?_⟩
  · refine (θ_run Cert.MlaIdeal.defs _ _).mono (fun _ h c => ⟨(h c).1.trans ?_, (h c).2⟩) (Cert.MlaIdeal.Value.run_blocks m ρ)
    obtain ⟨h0, h1⟩ := Cert.Pre_finite_qk.real_args _ _ _ (hpre c)
    exact Cert.MlaIdeal.Attention.final m c h0 h1
  · refine (θ_run Cert.MlaRefIdeal.defs _ _).mono (fun _ h c => ⟨(h c).1.trans ?_, (h c).2⟩)
      (Cert.MlaRefIdeal.Value.run (F := Ideal) m' ρ')
    rw [Cert.MlaRefIdeal.Read.val_main_v28_eq, (hagree c).1, (hagree c).2.1, (hagree c).2.2]
    exact Cert.MlaRefIdeal.Attention.result_eq _ _ _

/-- The reference of the output call runs and keeps its arguments; it declares no semaphore. -/
theorem frame_out_ref : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The output call and its reference end at the output projection of the same arguments. -/
theorem algebraic_out : Cert.algebraic_OutIdeal_OutRefIdeal := by
  intro m ρ m' ρ' _ hagree
  refine ⟨fun c => Cert.OutIdeal.Out.projected (m (c.tc.loc Cert.OutIdeal.main_arg0)) (m (c.tc.loc Cert.OutIdeal.main_arg1)) (m (c.tc.loc Cert.OutIdeal.main_arg2)) (m (c.tc.loc Cert.OutIdeal.main_arg3)) (m (c.tc.loc Cert.OutIdeal.main_arg4)) (m (c.tc.loc Cert.OutIdeal.main_arg5)) (m (c.tc.loc Cert.OutIdeal.main_arg6)) (m (c.tc.loc Cert.OutIdeal.main_arg7)) (m (c.tc.loc Cert.OutIdeal.main_arg8)) (m (c.tc.loc Cert.OutIdeal.main_arg9)) (m (c.tc.loc Cert.OutIdeal.main_arg10)), ?_, ?_⟩
  · exact (θ_run Cert.OutIdeal.defs _ _).mono (fun _ h c => ⟨(h c).1.trans (Cert.OutIdeal.Out.final m c), (h c).2⟩)
      (Cert.OutIdeal.Value.run_blocks m ρ)
  · refine (θ_run Cert.OutRefIdeal.defs _ _).mono (fun _ h c => ⟨(h c).1.trans ?_, (h c).2⟩)
      (Cert.OutRefIdeal.Value.run (F := Ideal) m' ρ')
    obtain ⟨h0, h1, h2, h3, h4, h5, h6, h7, h8, h9, h10⟩ := hagree c
    rw [Cert.OutRefIdeal.Read.val_main_v35_eq, h0, h1, h2, h3, h4, h5, h6, h7, h8, h9, h10]
    exact Cert.OutRefIdeal.Out.result_eq _ _ _ _ _ _ _ _ _ _ _

/-- The reference of the input projection runs and keeps its arguments; it declares no semaphore. -/
theorem frame_in_ref : Cert.quiescent_InRefIdeal := fun m ρ _ =>
  (θ_run Cert.InRefIdeal.defs _ _).mono
    (fun r h => ⟨fun c => (h c).2.2.2.2.2.2.2.2.2.2.2, sem_eq_zero_of_no_sems (by decide) r.2⟩)
    (Cert.InRefIdeal.Value.run (F := Ideal) m ρ)

/-- The input projection and its reference end at the same eleven arrays of the same arguments. -/
theorem algebraic_in : Cert.algebraic_InIdeal_InRefIdeal := by
  intro m ρ m' ρ' _ hagree
  refine ⟨fun c => Cert.InRow.outQ (m (c.tc.loc Cert.InIdeal.main_arg0)) (m (c.tc.loc Cert.InIdeal.main_arg3)) (m (c.tc.loc Cert.InIdeal.main_arg4)) (m (c.tc.loc Cert.InIdeal.main_arg1)) (m (c.tc.loc Cert.InIdeal.main_arg2)) (m (c.tc.loc Cert.InIdeal.main_arg5)) (m (c.tc.loc Cert.InIdeal.main_arg6)),
    fun c => Cert.InRow.outK (m (c.tc.loc Cert.InIdeal.main_arg0)) (m (c.tc.loc Cert.InIdeal.main_arg3)) (m (c.tc.loc Cert.InIdeal.main_arg4)) (m (c.tc.loc Cert.InIdeal.main_arg1)) (m (c.tc.loc Cert.InIdeal.main_arg2)) (m (c.tc.loc Cert.InIdeal.main_arg7)) (m (c.tc.loc Cert.InIdeal.main_arg8)),
    fun c => Cert.InRow.outV (m (c.tc.loc Cert.InIdeal.main_arg0)) (m (c.tc.loc Cert.InIdeal.main_arg3)) (m (c.tc.loc Cert.InIdeal.main_arg4)) (m (c.tc.loc Cert.InIdeal.main_arg7)) (m (c.tc.loc Cert.InIdeal.main_arg8)),
    fun c => Cert.InRow.outCols (m (c.tc.loc Cert.InIdeal.main_arg0)) (m (c.tc.loc Cert.InIdeal.main_arg3)) (m (c.tc.loc Cert.InIdeal.main_arg4)) 672 (n := 512) (by decide) Cert.InRow.silu,
    fun c => Cert.InRow.outCols (m (c.tc.loc Cert.InIdeal.main_arg0)) (m (c.tc.loc Cert.InIdeal.main_arg3)) (m (c.tc.loc Cert.InIdeal.main_arg4)) 1184 (n := 512) (by decide) (· * Cert.InRow.lScale),
    fun c => Cert.InRow.outCols (m (c.tc.loc Cert.InIdeal.main_arg0)) (m (c.tc.loc Cert.InIdeal.main_arg3)) (m (c.tc.loc Cert.InIdeal.main_arg4)) 1696 (n := 512) (by decide) id,
    fun c => Cert.InRow.outCols (m (c.tc.loc Cert.InIdeal.main_arg0)) (m (c.tc.loc Cert.InIdeal.main_arg3)) (m (c.tc.loc Cert.InIdeal.main_arg4)) 2208 (n := 1024) (by decide) id,
    fun c => Cert.InRow.outL (m (c.tc.loc Cert.InIdeal.main_arg0)) (m (c.tc.loc Cert.InIdeal.main_arg3)) (m (c.tc.loc Cert.InIdeal.main_arg4)) (m (c.tc.loc Cert.InIdeal.main_arg9)) (m (c.tc.loc Cert.InIdeal.main_arg10)),
    fun c => Cert.InRow.outCols (m (c.tc.loc Cert.InIdeal.main_arg0)) (m (c.tc.loc Cert.InIdeal.main_arg3)) (m (c.tc.loc Cert.InIdeal.main_arg4)) 3248 (n := 1024) (by decide) Cert.InRow.silu,
    fun c => Cert.InRow.outCols (m (c.tc.loc Cert.InIdeal.main_arg0)) (m (c.tc.loc Cert.InIdeal.main_arg3)) (m (c.tc.loc Cert.InIdeal.main_arg4)) 4272 (n := 1024) (by decide) Cert.InRow.sigmoid,
    fun c => Cert.InRow.outCols (m (c.tc.loc Cert.InIdeal.main_arg0)) (m (c.tc.loc Cert.InIdeal.main_arg3)) (m (c.tc.loc Cert.InIdeal.main_arg4)) 5296 (n := 1024) (by decide) Cert.InRow.sigmoid, Cert.InIdeal.In.run_values m ρ, ?_⟩
  refine (θ_run Cert.InRefIdeal.defs _ _).mono (fun _ h c => ?_) (Cert.InRefIdeal.In.run_values m' ρ')
  obtain ⟨h0, h1, h2, h3, h4, h5, h6, h7, h8, h9, h10⟩ := hagree c
  beta_reduce
  rw [← h0, ← h1, ← h2, ← h3, ← h4, ← h5, ← h6, ← h7, ← h8, ← h9, ← h10]
  exact h c

/-- The reference of the linear attention runs and keeps its arguments; it declares no semaphore. -/
theorem frame_gla_ref : Cert.quiescent_GlaRefIdeal := fun m ρ _ =>
  (θ_run Cert.GlaRefIdeal.defs _ _).mono (fun r h => ⟨fun c => (h c).2, sem_eq_zero_of_no_sems (by decide) r.2⟩)
    (Cert.GlaRefIdeal.Value.run (F := Ideal) m ρ)

/-- The kernel, chunk by chunk, and the reference, over the whole sequence, end at the same gated linear attention. -/
theorem algebraic_gla : Cert.algebraic_GlaIdeal_GlaRefIdeal_pre_finite_gla := by
  intro m ρ m' ρ' hpre hagree
  refine ⟨fun c => Cert.GlaTarget.gla (m (c.tc.loc Cert.GlaIdeal.main_arg0)) (m (c.tc.loc Cert.GlaIdeal.main_arg1))
    (m (c.tc.loc Cert.GlaIdeal.main_arg3)) (m (c.tc.loc Cert.GlaIdeal.main_arg2)) (m (c.tc.loc Cert.GlaIdeal.main_arg4)), ?_, ?_⟩
  · refine (θ_run Cert.GlaIdeal.defs _ _).mono (fun _ h c => ⟨(h c).1.trans ?_, (h c).2⟩) (Cert.GlaIdeal.Chunks.run_blocks m ρ)
    obtain ⟨h0, h1, h2, h3⟩ := Cert.Pre_finite_gla.real_args _ _ _ _ _ (hpre c)
    exact Cert.GlaIdeal.Chunks.final m c h0 h1 h2 h3
  · refine (θ_run Cert.GlaRefIdeal.defs _ _).mono (fun _ h c => ⟨(h c).1.trans ?_, (h c).2⟩)
      (Cert.GlaRefIdeal.Value.run (F := Ideal) m' ρ')
    obtain ⟨h0, h1, h2, h3⟩ := Cert.Pre_finite_gla.real_args _ _ _ _ _ (hpre c)
    obtain ⟨e0, e1, e2, e3, e4⟩ := hagree c
    rw [Cert.GlaRefIdeal.Read.val_main_v38_eq, e0, e1, e2, e3, e4]
    exact Cert.GlaRefIdeal.Attention.result_eq _ _ _ _ _ h0 h1 h2 h3

/-- The reference of the rotary tables runs and keeps its argument; it declares no semaphore. -/
theorem frame_rope_ref : Cert.quiescent_RopeRefIdeal := fun m ρ _ =>
  (θ_run Cert.RopeRefIdeal.defs _ _).mono (fun r h => ⟨fun c => (h c).2.2, sem_eq_zero_of_no_sems (by decide) r.2⟩)
    (Cert.RopeRefIdeal.Value.run (F := Ideal) m ρ)

/-- The tables' call and its reference end at the cosines and sines of the same phases. -/
theorem algebraic_rope : Cert.algebraic_RopeIdeal_RopeRefIdeal := by
  intro m ρ m' ρ' _ hagree
  refine ⟨fun c => Cert.RopeRefIdeal.Rope.cosTable (m (c.tc.loc Cert.RopeIdeal.main_arg0)),
    fun c => Cert.RopeRefIdeal.Rope.sinTable (m (c.tc.loc Cert.RopeIdeal.main_arg0)), Cert.RopeIdeal.Rope.run_values m ρ, ?_⟩
  refine (θ_run Cert.RopeRefIdeal.defs _ _).mono (fun _ h c => ?_) (Cert.RopeRefIdeal.Rope.run_values m' ρ')
  beta_reduce
  rw [← hagree c]
  exact h c

theorem claim : Cert.Claim := ⟨Cert.Mla.Gen.facts, Cert.MlaIdeal.Gen.facts, Cert.MlaRefIdeal.Gen.facts,
  Cert.Out.Gen.facts, Cert.OutIdeal.Gen.facts, Cert.OutRefIdeal.Gen.facts,
  Cert.In.Gen.facts, Cert.InIdeal.Gen.facts, Cert.InRefIdeal.Gen.facts,
  Cert.Gla.Gen.facts, Cert.GlaIdeal.Gen.facts, Cert.GlaRefIdeal.Gen.facts,
  Cert.Rope.Gen.facts, Cert.RopeIdeal.Gen.facts, Cert.RopeRefIdeal.Gen.facts, Cert.Pre_finite_qk.Gen.facts, Cert.Pre_finite_gla.Gen.facts,
  fun m ρ _ => Cert.Mla.Gen.frame m ρ, fun m ρ _ => Cert.MlaIdeal.Gen.frame m ρ, fun m ρ _ => Cert.MlaIdeal.Gen.frame m ρ,
  frame_ref, fun m ρ _ => frame_ref m ρ trivial,
  fun m ρ _ => Cert.Out.Gen.frame m ρ, fun m ρ _ => Cert.OutIdeal.Gen.frame m ρ, frame_out_ref,
  fun m ρ _ => Cert.In.Launched.frame m ρ, fun m ρ _ => Cert.InIdeal.Launched.frame m ρ, frame_in_ref,
  fun m ρ _ => Cert.Gla.Chunks.frame m ρ, fun m ρ _ => Cert.GlaIdeal.Chunks.frame m ρ, fun m ρ _ => Cert.GlaIdeal.Chunks.frame m ρ,
  frame_gla_ref, fun m ρ _ => frame_gla_ref m ρ trivial,
  fun m ρ _ => Cert.Rope.Gen.frame m ρ, fun m ρ _ => Cert.RopeIdeal.Gen.frame m ρ, frame_rope_ref,
  trivial, algebraic, trivial, algebraic_out, trivial, algebraic_in, trivial, algebraic_gla, trivial, algebraic_rope⟩

end Cert.Proof

end
